-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnReferenceIdeal (m : (ℓ : Loc Cert.OutFfnReferenceIdeal.nD Cert.OutFfnReferenceIdeal.τ Cert.OutFfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8)
      ∧ r.2.mem ((c.tc : Thread Cert.OutFfn.nD Cert.OutFfn.τ).loc Cert.OutFfn.main_arg9) = m ((c.tc : Thread Cert.OutFfn.nD Cert.OutFfn.τ).loc Cert.OutFfn.main_arg9)
      ∧ r.2.mem ((c.tc : Thread Cert.OutFfn.nD Cert.OutFfn.τ).loc Cert.OutFfn.main_arg10) = m ((c.tc : Thread Cert.OutFfn.nD Cert.OutFfn.τ).loc Cert.OutFfn.main_arg10)
      ∧ r.2.mem ((c.tc : Thread Cert.OutFfn.nD Cert.OutFfn.τ).loc Cert.OutFfn.main_arg11) = m ((c.tc : Thread Cert.OutFfn.nD Cert.OutFfn.τ).loc Cert.OutFfn.main_arg11)
      ∧ r.2.mem ((c.tc : Thread Cert.OutFfn.nD Cert.OutFfn.τ).loc Cert.OutFfn.main_arg12) = m ((c.tc : Thread Cert.OutFfn.nD Cert.OutFfn.τ).loc Cert.OutFfn.main_arg12)
      ∧ r.2.mem ((c.tc : Thread Cert.OutFfn.nD Cert.OutFfn.τ).loc Cert.OutFfn.main_arg13) = m ((c.tc : Thread Cert.OutFfn.nD Cert.OutFfn.τ).loc Cert.OutFfn.main_arg13)
      ∧ r.2.mem ((c.tc : Thread Cert.OutFfn.nD Cert.OutFfn.τ).loc Cert.OutFfn.main_arg14) = m ((c.tc : Thread Cert.OutFfn.nD Cert.OutFfn.τ).loc Cert.OutFfn.main_arg14)
      ∧ r.2.mem ((c.tc : Thread Cert.OutFfn.nD Cert.OutFfn.τ).loc Cert.OutFfn.main_arg15) = m ((c.tc : Thread Cert.OutFfn.nD Cert.OutFfn.τ).loc Cert.OutFfn.main_arg15)
      ∧ r.2.mem ((c.tc : Thread Cert.OutFfn.nD Cert.OutFfn.τ).loc Cert.OutFfn.main_arg16) = m ((c.tc : Thread Cert.OutFfn.nD Cert.OutFfn.τ).loc Cert.OutFfn.main_arg16)
      ∧ r.2.mem ((c.tc : Thread Cert.OutFfn.nD Cert.OutFfn.τ).loc Cert.OutFfn.main_arg17) = m ((c.tc : Thread Cert.OutFfn.nD Cert.OutFfn.τ).loc Cert.OutFfn.main_arg17))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
      ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
      ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10)
      ∧ r.2.mem ((c.tc : Thread Cert.OutFfnIdeal.nD Cert.OutFfnIdeal.τ).loc Cert.OutFfnIdeal.main_arg11) = m ((c.tc : Thread Cert.OutFfnIdeal.nD Cert.OutFfnIdeal.τ).loc Cert.OutFfnIdeal.main_arg11)
      ∧ r.2.mem ((c.tc : Thread Cert.OutFfnIdeal.nD Cert.OutFfnIdeal.τ).loc Cert.OutFfnIdeal.main_arg12) = m ((c.tc : Thread Cert.OutFfnIdeal.nD Cert.OutFfnIdeal.τ).loc Cert.OutFfnIdeal.main_arg12)
      ∧ r.2.mem ((c.tc : Thread Cert.OutFfnIdeal.nD Cert.OutFfnIdeal.τ).loc Cert.OutFfnIdeal.main_arg13) = m ((c.tc : Thread Cert.OutFfnIdeal.nD Cert.OutFfnIdeal.τ).loc Cert.OutFfnIdeal.main_arg13)
      ∧ r.2.mem ((c.tc : Thread Cert.OutFfnIdeal.nD Cert.OutFfnIdeal.τ).loc Cert.OutFfnIdeal.main_arg14) = m ((c.tc : Thread Cert.OutFfnIdeal.nD Cert.OutFfnIdeal.τ).loc Cert.OutFfnIdeal.main_arg14)
      ∧ r.2.mem ((c.tc : Thread Cert.OutFfnIdeal.nD Cert.OutFfnIdeal.τ).loc Cert.OutFfnIdeal.main_arg15) = m ((c.tc : Thread Cert.OutFfnIdeal.nD Cert.OutFfnIdeal.τ).loc Cert.OutFfnIdeal.main_arg15)
      ∧ r.2.mem ((c.tc : Thread Cert.OutFfnIdeal.nD Cert.OutFfnIdeal.τ).loc Cert.OutFfnIdeal.main_arg16) = m ((c.tc : Thread Cert.OutFfnIdeal.nD Cert.OutFfnIdeal.τ).loc Cert.OutFfnIdeal.main_arg16)
      ∧ r.2.mem ((c.tc : Thread Cert.OutFfnIdeal.nD Cert.OutFfnIdeal.τ).loc Cert.OutFfnIdeal.main_arg17) = m ((c.tc : Thread Cert.OutFfnIdeal.nD Cert.OutFfnIdeal.τ).loc Cert.OutFfnIdeal.main_arg17))
      ∧ r.2.sem = fun _ => 0)

def quiescent_OutFfnReferenceIdeal [hOutFfnReferenceIdeal : Cert.OutFfnReferenceIdeal.Facts] : Prop :=
  ∀ (m : (ℓ : Loc Cert.OutFfnReferenceIdeal.nD Cert.OutFfnReferenceIdeal.τ Cert.OutFfnReferenceIdeal.sig) → Buf (Elt Ideal) ℓ) (g : Dev Cert.OutFfnReferenceIdeal.nD → PrngReg), Pre_OutFfnReferenceIdeal m →
    θ_run (Cert.OutFfnReferenceIdeal.defs (F := Ideal)) (onTc (τ := Cert.OutFfnReferenceIdeal.τ) (Cert.OutFfnReferenceIdeal.main (F := Ideal))) ⟨m, fun _ => 0, g⟩ (fun r => (∀ c : Dev Cert.OutFfnReferenceIdeal.nD,
      r.2.mem ((c.tc : Thread Cert.OutFfnReferenceIdeal.nD Cert.OutFfnReferenceIdeal.τ).loc Cert.OutFfnReferenceIdeal.main_arg0) = m ((c.tc : Thread Cert.OutFfnReferenceIdeal.nD Cert.OutFfnReferenceIdeal.τ).loc Cert.OutFfnReferenceIdeal.main_arg0)
      ∧ r.2.mem ((c.tc : Thread Cert.OutFfnReferenceIdeal.nD Cert.OutFfnReferenceIdeal.τ).loc Cert.OutFfnReferenceIdeal.main_arg1) = m ((c.tc : Thread Cert.OutFfnReferenceIdeal.nD Cert.OutFfnReferenceIdeal.τ).loc Cert.OutFfnReferenceIdeal.main_arg1)
      ∧ r.2.mem ((c.tc : Thread Cert.OutFfnReferenceIdeal.nD Cert.OutFfnReferenceIdeal.τ).loc Cert.OutFfnReferenceIdeal.main_arg2) = m ((c.tc : Thread Cert.OutFfnReferenceIdeal.nD Cert.OutFfnReferenceIdeal.τ).loc Cert.OutFfnReferenceIdeal.main_arg2)
      ∧ r.2.mem ((c.tc : Thread Cert.OutFfnReferenceIdeal.nD Cert.OutFfnReferenceIdeal.τ).loc Cert.OutFfnReferenceIdeal.main_arg3) = m ((c.tc : Thread Cert.OutFfnReferenceIdeal.nD Cert.OutFfnReferenceIdeal.τ).loc Cert.OutFfnReferenceIdeal.main_arg3)
      ∧ r.2.mem ((c.tc : Thread Cert.OutFfnReferenceIdeal.nD Cert.OutFfnReferenceIdeal.τ).loc Cert.OutFfnReferenceIdeal.main_arg4) = m ((c.tc : Thread Cert.OutFfnReferenceIdeal.nD Cert.OutFfnReferenceIdeal.τ).loc Cert.OutFfnReferenceIdeal.main_arg4)
      ∧ r.2.mem ((c.tc : Thread Cert.OutFfnReferenceIdeal.nD Cert.OutFfnReferenceIdeal.τ).loc Cert.OutFfnReferenceIdeal.main_arg5) = m ((c.tc : Thread Cert.OutFfnReferenceIdeal.nD Cert.OutFfnReferenceIdeal.τ).loc Cert.OutFfnReferenceIdeal.main_arg5)
      ∧ r.2.mem ((c.tc : Thread Cert.OutFfnReferenceIdeal.nD Cert.OutFfnReferenceIdeal.τ).loc Cert.OutFfnReferenceIdeal.main_arg6) = m ((c.tc : Thread Cert.OutFfnReferenceIdeal.nD Cert.OutFfnReferenceIdeal.τ).loc Cert.OutFfnReferenceIdeal.main_arg6)
      ∧ r.2.mem ((c.tc : Thread Cert.OutFfnReferenceIdeal.nD Cert.OutFfnReferenceIdeal.τ).loc Cert.OutFfnReferenceIdeal.main_arg7) = m ((c.tc : Thread Cert.OutFfnReferenceIdeal.nD Cert.OutFfnReferenceIdeal.τ).loc Cert.OutFfnReferenceIdeal.main_arg7)
      ∧ r.2.mem ((c.tc : Thread Cert.OutFfnReferenceIdeal.nD Cert.OutFfnReferenceIdeal.τ).loc Cert.OutFfnReferenceIdeal.main_arg8) = m ((c.tc : Thread Cert.OutFfnReferenceIdeal.nD Cert.OutFfnReferenceIdeal.τ).loc Cert.OutFfnReferenceIdeal.main_arg8)
      ∧ r.2.mem ((c.tc : Thread Cert.OutFfnReferenceIdeal.nD Cert.OutFfnReferenceIdeal.τ).loc Cert.OutFfnReferenceIdeal.main_arg9) = m ((c.tc : Thread Cert.OutFfnReferenceIdeal.nD Cert.OutFfnReferenceIdeal.τ).loc Cert.OutFfnReferenceIdeal.main_arg9)
      ∧ r.2.mem ((c.tc : Thread Cert.OutFfnReferenceIdeal.nD Cert.OutFfnReferenceIdeal.τ).loc Cert.OutFfnReferenceIdeal.main_arg10) = m ((c.tc : Thread Cert.OutFfnReferenceIdeal.nD Cert.OutFfnReferenceIdeal.τ).loc Cert.OutFfnReferenceIdeal.main_arg10)
      ∧ r.2.mem ((c.tc : Thread Cert.OutFfnReferenceIdeal.nD Cert.OutFfnReferenceIdeal.τ).loc Cert.OutFfnReferenceIdeal.main_arg11) = m ((c.tc : Thread Cert.OutFfnReferenceIdeal.nD Cert.OutFfnReferenceIdeal.τ).loc Cert.OutFfnReferenceIdeal.main_arg11)
      ∧ r.2.mem ((c.tc : Thread Cert.OutFfnReferenceIdeal.nD Cert.OutFfnReferenceIdeal.τ).loc Cert.OutFfnReferenceIdeal.main_arg12) = m ((c.tc : Thread Cert.OutFfnReferenceIdeal.nD Cert.OutFfnReferenceIdeal.τ).loc Cert.OutFfnReferenceIdeal.main_arg12)
      ∧ r.2.mem ((c.tc : Thread Cert.OutFfnReferenceIdeal.nD Cert.OutFfnReferenceIdeal.τ).loc Cert.OutFfnReferenceIdeal.main_arg13) = m ((c.tc : Thread Cert.OutFfnReferenceIdeal.nD Cert.OutFfnReferenceIdeal.τ).loc Cert.OutFfnReferenceIdeal.main_arg13)
      ∧ r.2.mem ((c.tc : Thread Cert.OutFfnReferenceIdeal.nD Cert.OutFfnReferenceIdeal.τ).loc Cert.OutFfnReferenceIdeal.main_arg14) = m ((c.tc : Thread Cert.OutFfnReferenceIdeal.nD Cert.OutFfnReferenceIdeal.τ).loc Cert.OutFfnReferenceIdeal.main_arg14)
      ∧ r.2.mem ((c.tc : Thread Cert.OutFfnReferenceIdeal.nD Cert.OutFfnReferenceIdeal.τ).loc Cert.OutFfnReferenceIdeal.main_arg15) = m ((c.tc : Thread Cert.OutFfnReferenceIdeal.nD Cert.OutFfnReferenceIdeal.τ).loc Cert.OutFfnReferenceIdeal.main_arg15)
      ∧ r.2.mem ((c.tc : Thread Cert.OutFfnReferenceIdeal.nD Cert.OutFfnReferenceIdeal.τ).loc Cert.OutFfnReferenceIdeal.main_arg16) = m ((c.tc : Thread Cert.OutFfnReferenceIdeal.nD Cert.OutFfnReferenceIdeal.τ).loc Cert.OutFfnReferenceIdeal.main_arg16)
      ∧ r.2.mem ((c.tc : Thread Cert.OutFfnReferenceIdeal.nD Cert.OutFfnReferenceIdeal.τ).loc Cert.OutFfnReferenceIdeal.main_arg17) = m ((c.tc : Thread Cert.OutFfnReferenceIdeal.nD Cert.OutFfnReferenceIdeal.τ).loc Cert.OutFfnReferenceIdeal.main_arg17))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def preserves_Kernel_KernelIdeal : Prop :=
  IdealRules.named_const.Statement Cert.KernelIdeal.κ "dead_log" .f32 0xC2D20000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_OutFfn_OutFfnIdeal : Prop :=
  True

def algebraic_OutFfnIdeal_OutFfnReferenceIdeal [hOutFfnIdeal : Cert.OutFfnIdeal.Facts] [hOutFfnReferenceIdeal : Cert.OutFfnReferenceIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnReferenceIdeal.nD Cert.OutFfnReferenceIdeal.τ Cert.OutFfnReferenceIdeal.sig) → Buf (Elt Ideal) ℓ) (g' : Dev Cert.OutFfnReferenceIdeal.nD → PrngReg), Pre_OutFfnIdeal m →
    (∀ c : Dev Cert.OutFfnIdeal.nD,
      m' ((c.tc : Thread Cert.OutFfnReferenceIdeal.nD Cert.OutFfnReferenceIdeal.τ).loc Cert.OutFfnReferenceIdeal.main_arg0) = m ((c.tc : Thread Cert.OutFfnIdeal.nD Cert.OutFfnIdeal.τ).loc Cert.OutFfnIdeal.main_arg0)
      ∧ m' ((c.tc : Thread Cert.OutFfnReferenceIdeal.nD Cert.OutFfnReferenceIdeal.τ).loc Cert.OutFfnReferenceIdeal.main_arg1) = m ((c.tc : Thread Cert.OutFfnIdeal.nD Cert.OutFfnIdeal.τ).loc Cert.OutFfnIdeal.main_arg1)
      ∧ m' ((c.tc : Thread Cert.OutFfnReferenceIdeal.nD Cert.OutFfnReferenceIdeal.τ).loc Cert.OutFfnReferenceIdeal.main_arg2) = m ((c.tc : Thread Cert.OutFfnIdeal.nD Cert.OutFfnIdeal.τ).loc Cert.OutFfnIdeal.main_arg2)
      ∧ m' ((c.tc : Thread Cert.OutFfnReferenceIdeal.nD Cert.OutFfnReferenceIdeal.τ).loc Cert.OutFfnReferenceIdeal.main_arg3) = m ((c.tc : Thread Cert.OutFfnIdeal.nD Cert.OutFfnIdeal.τ).loc Cert.OutFfnIdeal.main_arg3)
      ∧ m' ((c.tc : Thread Cert.OutFfnReferenceIdeal.nD Cert.OutFfnReferenceIdeal.τ).loc Cert.OutFfnReferenceIdeal.main_arg4) = m ((c.tc : Thread Cert.OutFfnIdeal.nD Cert.OutFfnIdeal.τ).loc Cert.OutFfnIdeal.main_arg4)
      ∧ m' ((c.tc : Thread Cert.OutFfnReferenceIdeal.nD Cert.OutFfnReferenceIdeal.τ).loc Cert.OutFfnReferenceIdeal.main_arg5) = m ((c.tc : Thread Cert.OutFfnIdeal.nD Cert.OutFfnIdeal.τ).loc Cert.OutFfnIdeal.main_arg5)
      ∧ m' ((c.tc : Thread Cert.OutFfnReferenceIdeal.nD Cert.OutFfnReferenceIdeal.τ).loc Cert.OutFfnReferenceIdeal.main_arg6) = m ((c.tc : Thread Cert.OutFfnIdeal.nD Cert.OutFfnIdeal.τ).loc Cert.OutFfnIdeal.main_arg6)
      ∧ m' ((c.tc : Thread Cert.OutFfnReferenceIdeal.nD Cert.OutFfnReferenceIdeal.τ).loc Cert.OutFfnReferenceIdeal.main_arg7) = m ((c.tc : Thread Cert.OutFfnIdeal.nD Cert.OutFfnIdeal.τ).loc Cert.OutFfnIdeal.main_arg7)
      ∧ m' ((c.tc : Thread Cert.OutFfnReferenceIdeal.nD Cert.OutFfnReferenceIdeal.τ).loc Cert.OutFfnReferenceIdeal.main_arg8) = m ((c.tc : Thread Cert.OutFfnIdeal.nD Cert.OutFfnIdeal.τ).loc Cert.OutFfnIdeal.main_arg8)
      ∧ m' ((c.tc : Thread Cert.OutFfnReferenceIdeal.nD Cert.OutFfnReferenceIdeal.τ).loc Cert.OutFfnReferenceIdeal.main_arg9) = m ((c.tc : Thread Cert.OutFfnIdeal.nD Cert.OutFfnIdeal.τ).loc Cert.OutFfnIdeal.main_arg9)
      ∧ m' ((c.tc : Thread Cert.OutFfnReferenceIdeal.nD Cert.OutFfnReferenceIdeal.τ).loc Cert.OutFfnReferenceIdeal.main_arg10) = m ((c.tc : Thread Cert.OutFfnIdeal.nD Cert.OutFfnIdeal.τ).loc Cert.OutFfnIdeal.main_arg10)
      ∧ m' ((c.tc : Thread Cert.OutFfnReferenceIdeal.nD Cert.OutFfnReferenceIdeal.τ).loc Cert.OutFfnReferenceIdeal.main_arg11) = m ((c.tc : Thread Cert.OutFfnIdeal.nD Cert.OutFfnIdeal.τ).loc Cert.OutFfnIdeal.main_arg11)
      ∧ m' ((c.tc : Thread Cert.OutFfnReferenceIdeal.nD Cert.OutFfnReferenceIdeal.τ).loc Cert.OutFfnReferenceIdeal.main_arg12) = m ((c.tc : Thread Cert.OutFfnIdeal.nD Cert.OutFfnIdeal.τ).loc Cert.OutFfnIdeal.main_arg12)
      ∧ m' ((c.tc : Thread Cert.OutFfnReferenceIdeal.nD Cert.OutFfnReferenceIdeal.τ).loc Cert.OutFfnReferenceIdeal.main_arg13) = m ((c.tc : Thread Cert.OutFfnIdeal.nD Cert.OutFfnIdeal.τ).loc Cert.OutFfnIdeal.main_arg13)
      ∧ m' ((c.tc : Thread Cert.OutFfnReferenceIdeal.nD Cert.OutFfnReferenceIdeal.τ).loc Cert.OutFfnReferenceIdeal.main_arg14) = m ((c.tc : Thread Cert.OutFfnIdeal.nD Cert.OutFfnIdeal.τ).loc Cert.OutFfnIdeal.main_arg14)
      ∧ m' ((c.tc : Thread Cert.OutFfnReferenceIdeal.nD Cert.OutFfnReferenceIdeal.τ).loc Cert.OutFfnReferenceIdeal.main_arg15) = m ((c.tc : Thread Cert.OutFfnIdeal.nD Cert.OutFfnIdeal.τ).loc Cert.OutFfnIdeal.main_arg15)
      ∧ m' ((c.tc : Thread Cert.OutFfnReferenceIdeal.nD Cert.OutFfnReferenceIdeal.τ).loc Cert.OutFfnReferenceIdeal.main_arg16) = m ((c.tc : Thread Cert.OutFfnIdeal.nD Cert.OutFfnIdeal.τ).loc Cert.OutFfnIdeal.main_arg16)
      ∧ m' ((c.tc : Thread Cert.OutFfnReferenceIdeal.nD Cert.OutFfnReferenceIdeal.τ).loc Cert.OutFfnReferenceIdeal.main_arg17) = m ((c.tc : Thread Cert.OutFfnIdeal.nD Cert.OutFfnIdeal.τ).loc Cert.OutFfnIdeal.main_arg17)) →
    ∃ (v0 : (c : Dev Cert.OutFfnIdeal.nD) → Buf (Elt Ideal) ((c.tc : Thread Cert.OutFfnIdeal.nD Cert.OutFfnIdeal.τ).loc Cert.OutFfnIdeal.main_v34)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v34) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
          ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
          ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10)
          ∧ r.2.mem ((c.tc : Thread Cert.OutFfnIdeal.nD Cert.OutFfnIdeal.τ).loc Cert.OutFfnIdeal.main_arg11) = m ((c.tc : Thread Cert.OutFfnIdeal.nD Cert.OutFfnIdeal.τ).loc Cert.OutFfnIdeal.main_arg11)
          ∧ r.2.mem ((c.tc : Thread Cert.OutFfnIdeal.nD Cert.OutFfnIdeal.τ).loc Cert.OutFfnIdeal.main_arg12) = m ((c.tc : Thread Cert.OutFfnIdeal.nD Cert.OutFfnIdeal.τ).loc Cert.OutFfnIdeal.main_arg12)
          ∧ r.2.mem ((c.tc : Thread Cert.OutFfnIdeal.nD Cert.OutFfnIdeal.τ).loc Cert.OutFfnIdeal.main_arg13) = m ((c.tc : Thread Cert.OutFfnIdeal.nD Cert.OutFfnIdeal.τ).loc Cert.OutFfnIdeal.main_arg13)
          ∧ r.2.mem ((c.tc : Thread Cert.OutFfnIdeal.nD Cert.OutFfnIdeal.τ).loc Cert.OutFfnIdeal.main_arg14) = m ((c.tc : Thread Cert.OutFfnIdeal.nD Cert.OutFfnIdeal.τ).loc Cert.OutFfnIdeal.main_arg14)
          ∧ r.2.mem ((c.tc : Thread Cert.OutFfnIdeal.nD Cert.OutFfnIdeal.τ).loc Cert.OutFfnIdeal.main_arg15) = m ((c.tc : Thread Cert.OutFfnIdeal.nD Cert.OutFfnIdeal.τ).loc Cert.OutFfnIdeal.main_arg15)
          ∧ r.2.mem ((c.tc : Thread Cert.OutFfnIdeal.nD Cert.OutFfnIdeal.τ).loc Cert.OutFfnIdeal.main_arg16) = m ((c.tc : Thread Cert.OutFfnIdeal.nD Cert.OutFfnIdeal.τ).loc Cert.OutFfnIdeal.main_arg16)
          ∧ r.2.mem ((c.tc : Thread Cert.OutFfnIdeal.nD Cert.OutFfnIdeal.τ).loc Cert.OutFfnIdeal.main_arg17) = m ((c.tc : Thread Cert.OutFfnIdeal.nD Cert.OutFfnIdeal.τ).loc Cert.OutFfnIdeal.main_arg17))
      ∧ θ_run (Cert.OutFfnReferenceIdeal.defs (F := Ideal)) (onTc (τ := Cert.OutFfnReferenceIdeal.τ) (Cert.OutFfnReferenceIdeal.main (F := Ideal))) ⟨m', fun _ => 0, g'⟩ (fun r => ∀ c : Dev Cert.OutFfnReferenceIdeal.nD,
          r.2.mem ((c.tc : Thread Cert.OutFfnReferenceIdeal.nD Cert.OutFfnReferenceIdeal.τ).loc Cert.OutFfnReferenceIdeal.main_v93) = v0 c
          ∧ r.2.mem ((c.tc : Thread Cert.OutFfnReferenceIdeal.nD Cert.OutFfnReferenceIdeal.τ).loc Cert.OutFfnReferenceIdeal.main_arg0) = m' ((c.tc : Thread Cert.OutFfnReferenceIdeal.nD Cert.OutFfnReferenceIdeal.τ).loc Cert.OutFfnReferenceIdeal.main_arg0)
          ∧ r.2.mem ((c.tc : Thread Cert.OutFfnReferenceIdeal.nD Cert.OutFfnReferenceIdeal.τ).loc Cert.OutFfnReferenceIdeal.main_arg1) = m' ((c.tc : Thread Cert.OutFfnReferenceIdeal.nD Cert.OutFfnReferenceIdeal.τ).loc Cert.OutFfnReferenceIdeal.main_arg1)
          ∧ r.2.mem ((c.tc : Thread Cert.OutFfnReferenceIdeal.nD Cert.OutFfnReferenceIdeal.τ).loc Cert.OutFfnReferenceIdeal.main_arg2) = m' ((c.tc : Thread Cert.OutFfnReferenceIdeal.nD Cert.OutFfnReferenceIdeal.τ).loc Cert.OutFfnReferenceIdeal.main_arg2)
          ∧ r.2.mem ((c.tc : Thread Cert.OutFfnReferenceIdeal.nD Cert.OutFfnReferenceIdeal.τ).loc Cert.OutFfnReferenceIdeal.main_arg3) = m' ((c.tc : Thread Cert.OutFfnReferenceIdeal.nD Cert.OutFfnReferenceIdeal.τ).loc Cert.OutFfnReferenceIdeal.main_arg3)
          ∧ r.2.mem ((c.tc : Thread Cert.OutFfnReferenceIdeal.nD Cert.OutFfnReferenceIdeal.τ).loc Cert.OutFfnReferenceIdeal.main_arg4) = m' ((c.tc : Thread Cert.OutFfnReferenceIdeal.nD Cert.OutFfnReferenceIdeal.τ).loc Cert.OutFfnReferenceIdeal.main_arg4)
          ∧ r.2.mem ((c.tc : Thread Cert.OutFfnReferenceIdeal.nD Cert.OutFfnReferenceIdeal.τ).loc Cert.OutFfnReferenceIdeal.main_arg5) = m' ((c.tc : Thread Cert.OutFfnReferenceIdeal.nD Cert.OutFfnReferenceIdeal.τ).loc Cert.OutFfnReferenceIdeal.main_arg5)
          ∧ r.2.mem ((c.tc : Thread Cert.OutFfnReferenceIdeal.nD Cert.OutFfnReferenceIdeal.τ).loc Cert.OutFfnReferenceIdeal.main_arg6) = m' ((c.tc : Thread Cert.OutFfnReferenceIdeal.nD Cert.OutFfnReferenceIdeal.τ).loc Cert.OutFfnReferenceIdeal.main_arg6)
          ∧ r.2.mem ((c.tc : Thread Cert.OutFfnReferenceIdeal.nD Cert.OutFfnReferenceIdeal.τ).loc Cert.OutFfnReferenceIdeal.main_arg7) = m' ((c.tc : Thread Cert.OutFfnReferenceIdeal.nD Cert.OutFfnReferenceIdeal.τ).loc Cert.OutFfnReferenceIdeal.main_arg7)
          ∧ r.2.mem ((c.tc : Thread Cert.OutFfnReferenceIdeal.nD Cert.OutFfnReferenceIdeal.τ).loc Cert.OutFfnReferenceIdeal.main_arg8) = m' ((c.tc : Thread Cert.OutFfnReferenceIdeal.nD Cert.OutFfnReferenceIdeal.τ).loc Cert.OutFfnReferenceIdeal.main_arg8)
          ∧ r.2.mem ((c.tc : Thread Cert.OutFfnReferenceIdeal.nD Cert.OutFfnReferenceIdeal.τ).loc Cert.OutFfnReferenceIdeal.main_arg9) = m' ((c.tc : Thread Cert.OutFfnReferenceIdeal.nD Cert.OutFfnReferenceIdeal.τ).loc Cert.OutFfnReferenceIdeal.main_arg9)
          ∧ r.2.mem ((c.tc : Thread Cert.OutFfnReferenceIdeal.nD Cert.OutFfnReferenceIdeal.τ).loc Cert.OutFfnReferenceIdeal.main_arg10) = m' ((c.tc : Thread Cert.OutFfnReferenceIdeal.nD Cert.OutFfnReferenceIdeal.τ).loc Cert.OutFfnReferenceIdeal.main_arg10)
          ∧ r.2.mem ((c.tc : Thread Cert.OutFfnReferenceIdeal.nD Cert.OutFfnReferenceIdeal.τ).loc Cert.OutFfnReferenceIdeal.main_arg11) = m' ((c.tc : Thread Cert.OutFfnReferenceIdeal.nD Cert.OutFfnReferenceIdeal.τ).loc Cert.OutFfnReferenceIdeal.main_arg11)
          ∧ r.2.mem ((c.tc : Thread Cert.OutFfnReferenceIdeal.nD Cert.OutFfnReferenceIdeal.τ).loc Cert.OutFfnReferenceIdeal.main_arg12) = m' ((c.tc : Thread Cert.OutFfnReferenceIdeal.nD Cert.OutFfnReferenceIdeal.τ).loc Cert.OutFfnReferenceIdeal.main_arg12)
          ∧ r.2.mem ((c.tc : Thread Cert.OutFfnReferenceIdeal.nD Cert.OutFfnReferenceIdeal.τ).loc Cert.OutFfnReferenceIdeal.main_arg13) = m' ((c.tc : Thread Cert.OutFfnReferenceIdeal.nD Cert.OutFfnReferenceIdeal.τ).loc Cert.OutFfnReferenceIdeal.main_arg13)
          ∧ r.2.mem ((c.tc : Thread Cert.OutFfnReferenceIdeal.nD Cert.OutFfnReferenceIdeal.τ).loc Cert.OutFfnReferenceIdeal.main_arg14) = m' ((c.tc : Thread Cert.OutFfnReferenceIdeal.nD Cert.OutFfnReferenceIdeal.τ).loc Cert.OutFfnReferenceIdeal.main_arg14)
          ∧ r.2.mem ((c.tc : Thread Cert.OutFfnReferenceIdeal.nD Cert.OutFfnReferenceIdeal.τ).loc Cert.OutFfnReferenceIdeal.main_arg15) = m' ((c.tc : Thread Cert.OutFfnReferenceIdeal.nD Cert.OutFfnReferenceIdeal.τ).loc Cert.OutFfnReferenceIdeal.main_arg15)
          ∧ r.2.mem ((c.tc : Thread Cert.OutFfnReferenceIdeal.nD Cert.OutFfnReferenceIdeal.τ).loc Cert.OutFfnReferenceIdeal.main_arg16) = m' ((c.tc : Thread Cert.OutFfnReferenceIdeal.nD Cert.OutFfnReferenceIdeal.τ).loc Cert.OutFfnReferenceIdeal.main_arg16)
          ∧ r.2.mem ((c.tc : Thread Cert.OutFfnReferenceIdeal.nD Cert.OutFfnReferenceIdeal.τ).loc Cert.OutFfnReferenceIdeal.main_arg17) = m' ((c.tc : Thread Cert.OutFfnReferenceIdeal.nD Cert.OutFfnReferenceIdeal.τ).loc Cert.OutFfnReferenceIdeal.main_arg17))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)) (v2 : (c : Dev Cert.ProjIdeal.nD) → Buf (Elt Ideal) ((c.tc : Thread Cert.ProjIdeal.nD Cert.ProjIdeal.τ).loc Cert.ProjIdeal.main_v7_2)) (v3 : (c : Dev Cert.ProjIdeal.nD) → Buf (Elt Ideal) ((c.tc : Thread Cert.ProjIdeal.nD Cert.ProjIdeal.τ).loc Cert.ProjIdeal.main_v7_3)) (v4 : (c : Dev Cert.ProjIdeal.nD) → Buf (Elt Ideal) ((c.tc : Thread Cert.ProjIdeal.nD Cert.ProjIdeal.τ).loc Cert.ProjIdeal.main_v7_4)) (v5 : (c : Dev Cert.ProjIdeal.nD) → Buf (Elt Ideal) ((c.tc : Thread Cert.ProjIdeal.nD Cert.ProjIdeal.τ).loc Cert.ProjIdeal.main_v7_5)) (v6 : (c : Dev Cert.ProjIdeal.nD) → Buf (Elt Ideal) ((c.tc : Thread Cert.ProjIdeal.nD Cert.ProjIdeal.τ).loc Cert.ProjIdeal.main_v7_6)) (v7 : (c : Dev Cert.ProjIdeal.nD) → Buf (Elt Ideal) ((c.tc : Thread Cert.ProjIdeal.nD Cert.ProjIdeal.τ).loc Cert.ProjIdeal.main_v7_7)) (v8 : (c : Dev Cert.ProjIdeal.nD) → Buf (Elt Ideal) ((c.tc : Thread Cert.ProjIdeal.nD Cert.ProjIdeal.τ).loc Cert.ProjIdeal.main_v7_8)) (v9 : (c : Dev Cert.ProjIdeal.nD) → Buf (Elt Ideal) ((c.tc : Thread Cert.ProjIdeal.nD Cert.ProjIdeal.τ).loc Cert.ProjIdeal.main_v7_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_v7_2) = v2 c
          ∧ r.2.mem ((c.tc : Thread Cert.ProjIdeal.nD Cert.ProjIdeal.τ).loc Cert.ProjIdeal.main_v7_3) = v3 c
          ∧ r.2.mem ((c.tc : Thread Cert.ProjIdeal.nD Cert.ProjIdeal.τ).loc Cert.ProjIdeal.main_v7_4) = v4 c
          ∧ r.2.mem ((c.tc : Thread Cert.ProjIdeal.nD Cert.ProjIdeal.τ).loc Cert.ProjIdeal.main_v7_5) = v5 c
          ∧ r.2.mem ((c.tc : Thread Cert.ProjIdeal.nD Cert.ProjIdeal.τ).loc Cert.ProjIdeal.main_v7_6) = v6 c
          ∧ r.2.mem ((c.tc : Thread Cert.ProjIdeal.nD Cert.ProjIdeal.τ).loc Cert.ProjIdeal.main_v7_7) = v7 c
          ∧ r.2.mem ((c.tc : Thread Cert.ProjIdeal.nD Cert.ProjIdeal.τ).loc Cert.ProjIdeal.main_v7_8) = v8 c
          ∧ r.2.mem ((c.tc : Thread Cert.ProjIdeal.nD Cert.ProjIdeal.τ).loc Cert.ProjIdeal.main_v7_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v21) = v0 c
          ∧ r.2.mem ((c.tc : Thread Cert.ProjReferenceIdeal.nD Cert.ProjReferenceIdeal.τ).loc Cert.ProjReferenceIdeal.main_v22) = v1 c
          ∧ r.2.mem ((c.tc : Thread Cert.ProjReferenceIdeal.nD Cert.ProjReferenceIdeal.τ).loc Cert.ProjReferenceIdeal.main_v23) = v2 c
          ∧ r.2.mem ((c.tc : Thread Cert.ProjReferenceIdeal.nD Cert.ProjReferenceIdeal.τ).loc Cert.ProjReferenceIdeal.main_v49) = v3 c
          ∧ r.2.mem ((c.tc : Thread Cert.ProjReferenceIdeal.nD Cert.ProjReferenceIdeal.τ).loc Cert.ProjReferenceIdeal.main_v33) = v4 c
          ∧ r.2.mem ((c.tc : Thread Cert.ProjReferenceIdeal.nD Cert.ProjReferenceIdeal.τ).loc Cert.ProjReferenceIdeal.main_v50) = v5 c
          ∧ r.2.mem ((c.tc : Thread Cert.ProjReferenceIdeal.nD Cert.ProjReferenceIdeal.τ).loc Cert.ProjReferenceIdeal.main_v51) = v6 c
          ∧ r.2.mem ((c.tc : Thread Cert.ProjReferenceIdeal.nD Cert.ProjReferenceIdeal.τ).loc Cert.ProjReferenceIdeal.main_v52) = v7 c
          ∧ r.2.mem ((c.tc : Thread Cert.ProjReferenceIdeal.nD Cert.ProjReferenceIdeal.τ).loc Cert.ProjReferenceIdeal.main_v53) = v8 c
          ∧ r.2.mem ((c.tc : Thread Cert.ProjReferenceIdeal.nD Cert.ProjReferenceIdeal.τ).loc Cert.ProjReferenceIdeal.main_v55) = v9 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def Claim : Prop :=
  ∃ (hKernel : Cert.Kernel.Facts) (hKernelIdeal : Cert.KernelIdeal.Facts) (hReferenceIdeal : Cert.ReferenceIdeal.Facts) (hOutFfn : Cert.OutFfn.Facts) (hOutFfnIdeal : Cert.OutFfnIdeal.Facts) (hOutFfnReferenceIdeal : Cert.OutFfnReferenceIdeal.Facts) (hProj : Cert.Proj.Facts) (hProjIdeal : Cert.ProjIdeal.Facts) (hProjReferenceIdeal : Cert.ProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_OutFfn (hOutFfn := hOutFfn)
    ∧ quiescent_OutFfnIdeal (hOutFfnIdeal := hOutFfnIdeal)
    ∧ quiescent_OutFfnReferenceIdeal (hOutFfnReferenceIdeal := hOutFfnReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal)
    ∧ preserves_OutFfn_OutFfnIdeal
    ∧ algebraic_OutFfnIdeal_OutFfnReferenceIdeal (hOutFfnIdeal := hOutFfnIdeal) (hOutFfnReferenceIdeal := hOutFfnReferenceIdeal)
    ∧ preserves_Proj_ProjIdeal
    ∧ algebraic_ProjIdeal_ProjReferenceIdeal (hProjIdeal := hProjIdeal) (hProjReferenceIdeal := hProjReferenceIdeal)
-- ==== Kernel.lean ====
abbrev S8x8192x8x64 : Shape := ⟨4, ![8, 8192, 8, 64]⟩
abbrev S8x8192x2x8x64 : Shape := ⟨5, ![8, 8192, 2, 8, 64]⟩
abbrev S8x8x8192x64 : Shape := ⟨4, ![8, 8, 8192, 64]⟩
abbrev S_ : Shape := ⟨0, ![]⟩
abbrev S8x8192x16x64 : Shape := ⟨4, ![8, 8192, 16, 64]⟩
abbrev S8x16x8192x64 : Shape := ⟨4, ![8, 16, 8192, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S256x256 : Shape := ⟨2, ![256, 256]⟩
abbrev S1x1x512x64 : Shape := ⟨4, ![1, 1, 512, 64]⟩
abbrev S1x1x8192x64 : Shape := ⟨4, ![1, 1, 8192, 64]⟩
abbrev S512x128 : Shape := ⟨2, ![512, 128]⟩
abbrev S512x64 : Shape := ⟨2, ![512, 64]⟩
abbrev S1x1x256x64 : Shape := ⟨4, ![1, 1, 256, 64]⟩
abbrev S256x64 : Shape := ⟨2, ![256, 64]⟩
abbrev S256x128 : Shape := ⟨2, ![256, 128]⟩
abbrev S256x512 : Shape := ⟨2, ![256, 512]⟩
abbrev S1x512x128 : Shape := ⟨3, ![1, 512, 128]⟩
abbrev S1 : Shape := ⟨1, ![1]⟩
abbrev S1x1x1 : Shape := ⟨3, ![1, 1, 1]⟩
abbrev S512x256 : Shape := ⟨2, ![512, 256]⟩

abbrev nBuf : Space → Nat
  | .hbm => 23
  | .vmem => 11
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x8x64, .f32⟩
  | .hbm, ⟨2, _⟩ => ⟨S8x8x8192x64, .f32⟩
  | .hbm, ⟨3, _⟩ => ⟨S_, .f32⟩
  | .hbm, ⟨4, _⟩ => ⟨S8x8x8192x64, .f32⟩
  | .hbm, ⟨5, _⟩ => ⟨S8x8x8192x64, .f32⟩
  | .hbm, ⟨6, _⟩ => ⟨S8x8x8192x64, .bf16⟩
  | .hbm, ⟨7, _⟩ => ⟨S8x8192x16x64, .f32⟩
  | .hbm, ⟨8, _⟩ => ⟨S8x16x8192x64, .f32⟩
  | .hbm, ⟨9, _⟩ => ⟨S8x16x8192x64, .bf16⟩
  | .hbm, ⟨10, _⟩ => ⟨S128, .i32⟩
  | .hbm, ⟨11, _⟩ => ⟨S128x1, .i32⟩
  | .hbm, ⟨12, _⟩ => ⟨S128, .i32⟩
  | .hbm, ⟨13, _⟩ => ⟨S1x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S128x128, .bf16⟩
  | .hbm, ⟨18, _⟩ => ⟨S_, .bf16⟩
  | .hbm, ⟨19, _⟩ => ⟨S128x128, .bf16⟩
  | .hbm, ⟨20, _⟩ => ⟨S128x256, .bf16⟩
  | .hbm, ⟨21, _⟩ => ⟨S256x256, .bf16⟩
  | .hbm, ⟨22, _⟩ => ⟨S8x8x8192x64, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x8192x64, .bf16⟩
  | .local _ .vmem, ⟨3, _⟩ => ⟨S1x1x8192x64, .bf16⟩
  | .local _ .vmem, ⟨4, _⟩ => ⟨S1x1x8192x64, .bf16⟩
  | .local _ .vmem, ⟨5, _⟩ => ⟨S1x1x8192x64, .bf16⟩
  | .local _ .vmem, ⟨6, _⟩ => ⟨S256x256, .bf16⟩
  | .local _ .vmem, ⟨7, _⟩ => ⟨S1x1x512x64, .f32⟩
  | .local _ .vmem, ⟨8, _⟩ => ⟨S1x1x512x64, .f32⟩
  | .local _ .vmem, ⟨9, _⟩ => ⟨S512x128, .f32⟩
  | .local _ .vmem, ⟨10, _⟩ => ⟨S512x64, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 8, 16], ![false, false, false]⟩

def k0_mult1 (i : grid0.Coords) : BitVec 32 :=
  let arg2 : BitVec 32 := BitVec.ofNat 32 (i 2).val
  let c512_i32 : BitVec 32 := 512#32
  let v10 : BitVec 32 := Scalar.muli arg2 c512_i32
  v10
def k0_off1 (i : grid0.Coords) : Fin 4 → Nat :=
  let c0_10 : Index := 0#32
  let c0_11 : Index := 0#32
  let arg2 : BitVec 32 := BitVec.ofNat 32 (i 2).val
  let c512_i32 : BitVec 32 := 512#32
  let v10 : BitVec 32 := Scalar.muli arg2 c512_i32
  let v11 : BitVec 32 := v10
  let v14 : Index := Scalar.indexCast v11
  let c0_12 : Index := 0#32
  ![0, 0, v14.toNat, 0]
def k0_off2 (i : grid0.Coords) : Fin 4 → Nat :=
  let c0_37 : Index := 0#32
  let c0_38 : Index := 0#32
  let arg2 : BitVec 32 := BitVec.ofNat 32 (i 2).val
  let c512_i32 : BitVec 32 := 512#32
  let v10 : BitVec 32 := Scalar.muli arg2 c512_i32
  let v11 : BitVec 32 := v10
  let v81 : Index := Scalar.indexCast v11
  let c0_39 : Index := 0#32
  ![0, 0, v81.toNat, 0]
def k0_mult2 (i : grid0.Coords) (arg10 : BitVec 32) : BitVec 32 :=
  let arg2 : BitVec 32 := BitVec.ofNat 32 (i 2).val
  let c2_i32 : BitVec 32 := 2#32
  let v166 : BitVec 32 := Scalar.muli arg2 c2_i32
  let c1_i32 : BitVec 32 := 1#32
  let v177 : BitVec 32 := Scalar.subi v166 c1_i32
  let v178 : BitVec 32 := Scalar.subi v177 arg10
  let c256_i32_73 : BitVec 32 := 256#32
  let v179 : BitVec 32 := Scalar.muli v178 c256_i32_73
  v179

def k0_off3 (i : grid0.Coords) (arg10 : BitVec 32) : Fin 4 → Nat :=
  let c0_78 : Index := 0#32
  let c0_79 : Index := 0#32
  let arg2 : BitVec 32 := BitVec.ofNat 32 (i 2).val
  let c2_i32 : BitVec 32 := 2#32
  let v166 : BitVec 32 := Scalar.muli arg2 c2_i32
  let c1_i32 : BitVec 32 := 1#32
  let v177 : BitVec 32 := Scalar.subi v166 c1_i32
  let v178 : BitVec 32 := Scalar.subi v177 arg10
  let c256_i32_73 : BitVec 32 := 256#32
  let v179 : BitVec 32 := Scalar.muli v178 c256_i32_73
  let v180 : BitVec 32 := v179
  let v183 : Index := Scalar.indexCast v180
  let c0_80 : Index := 0#32
  ![0, 0, v183.toNat, 0]

def k0_chk1 (i : grid0.Coords) (arg10 : BitVec 32) : Prop :=
  (256 ∣ (k0_mult2 i arg10).toNat) ∧
  (∀ a, (k0_off3 i arg10) a + S1x1x256x64.size a ≤ S1x1x8192x64.size a)
theorem k0_mult2_dvd : ∀ (i : grid0.Coords) (arg10 : BitVec 32) (k0_hw1 : k0_chk1 i arg10), 256 ∣ (k0_mult2 i arg10).toNat := fun i arg10 k0_hw1 => k0_hw1.1
theorem k0_off3_inb : ∀ (i : grid0.Coords) (arg10 : BitVec 32) (k0_hw1 : k0_chk1 i arg10), ∀ a, (k0_off3 i arg10) a + S1x1x256x64.size a ≤ S1x1x8192x64.size a := fun i arg10 k0_hw1 => k0_hw1.2

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "dead_log" => some ⊥
  | _ => none
-- ==== ReferenceIdeal.lean ====
abbrev S8x8192x8x64 : Shape := ⟨4, ![8, 8192, 8, 64]⟩
abbrev S8x8192x2x8x64 : Shape := ⟨5, ![8, 8192, 2, 8, 64]⟩
abbrev S8x8192x1x8x64 : Shape := ⟨5, ![8, 8192, 1, 8, 64]⟩
abbrev S8192 : Shape := ⟨1, ![8192]⟩
abbrev S8x8x8192x8192 : Shape := ⟨4, ![8, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x8x8192x64 : Shape := ⟨4, ![8, 8, 8192, 64]⟩

abbrev nBuf : Space → Nat
  | .hbm => 66
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x8x64, .f32⟩
  | .hbm, ⟨2, _⟩ => ⟨S8x8192x1x8x64, .f32⟩
  | .hbm, ⟨3, _⟩ => ⟨S8x8192x8x64, .f32⟩
  | .hbm, ⟨4, _⟩ => ⟨S8x8192x1x8x64, .f32⟩
  | .hbm, ⟨5, _⟩ => ⟨S8x8192x8x64, .f32⟩
  | .hbm, ⟨6, _⟩ => ⟨S8192, .i32⟩
  | .hbm, ⟨7, _⟩ => ⟨S8x8x8192x8192, .f32⟩
  | .hbm, ⟨8, _⟩ => ⟨S_, .f32⟩
  | .hbm, ⟨9, _⟩ => ⟨S8x8x8192x8192, .f32⟩
  | .hbm, ⟨10, _⟩ => ⟨S8x8x8192x8192, .f32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S8x8x8192x8192, .f32⟩
  | .hbm, ⟨17, _⟩ => ⟨S8x8x8192x8192, .f32⟩
  | .hbm, ⟨18, _⟩ => ⟨S_, .f32⟩
  | .hbm, ⟨19, _⟩ => ⟨S8x8x8192x8192, .f32⟩
  | .hbm, ⟨20, _⟩ => ⟨S8x8x8192x8192, .f32⟩
  | .hbm, ⟨21, _⟩ => ⟨S8x8x8192x8192, .f32⟩
  | .hbm, ⟨22, _⟩ => ⟨S8x8x8192x8192, .f32⟩
  | .hbm, ⟨23, _⟩ => ⟨S8x8x8192x8192, .i1⟩
  | .hbm, ⟨24, _⟩ => ⟨S8x8x8192x8192, .f32⟩
  | .hbm, ⟨25, _⟩ => ⟨S8x8x8192x8192, .f32⟩
  | .hbm, ⟨26, _⟩ => ⟨S8x8x8192x8192, .f32⟩
  | .hbm, ⟨27, _⟩ => ⟨S8x8x8192x8192, .f32⟩
  | .hbm, ⟨28, _⟩ => ⟨S8x8x8192x8192, .f32⟩
  | .hbm, ⟨29, _⟩ => ⟨S8x8x8192x8192, .f32⟩
  | .hbm, ⟨30, _⟩ => ⟨S8x8x8192x8192, .f32⟩
  | .hbm, ⟨31, _⟩ => ⟨S8x8x8192x8192, .f32⟩
  | .hbm, ⟨32, _⟩ => ⟨S8x8x8192x8192, .f32⟩
  | .hbm, ⟨33, _⟩ => ⟨S_, .f32⟩
  | .hbm, ⟨34, _⟩ => ⟨S_, .f32⟩
  | .hbm, ⟨35, _⟩ => ⟨S8x8x8192x8192, .i1⟩
  | .hbm, ⟨36, _⟩ => ⟨S8x8x8192x8192, .f32⟩
  | .hbm, ⟨37, _⟩ => ⟨S8x8x8192x8192, .f32⟩
  | .hbm, ⟨38, _⟩ => ⟨S_, .f32⟩
  | .hbm, ⟨39, _⟩ => ⟨S_, .f32⟩
  | .hbm, ⟨40, _⟩ => ⟨S8x8x8192x8192, .f32⟩
  | .hbm, ⟨41, _⟩ => ⟨S8x8x8192x8192, .f32⟩
  | .hbm, ⟨42, _⟩ => ⟨S8x8x8192x8192, .f32⟩
  | .hbm, ⟨43, _⟩ => ⟨S_, .f32⟩
  | .hbm, ⟨44, _⟩ => ⟨S8x8x8192x8192, .f32⟩
  | .hbm, ⟨45, _⟩ => ⟨S8x8x8192x8192, .f32⟩
  | .hbm, ⟨46, _⟩ => ⟨S8x8x8192x8192, .f32⟩
  | .hbm, ⟨47, _⟩ => ⟨S8x8x8192x8192, .f32⟩
  | .hbm, ⟨48, _⟩ => ⟨S8x8x8192x8192, .i1⟩
  | .hbm, ⟨49, _⟩ => ⟨S8x8x8192x8192, .f32⟩
  | .hbm, ⟨50, _⟩ => ⟨S8x8x8192x8192, .f32⟩
  | .hbm, ⟨51, _⟩ => ⟨S8x8x8192x8192, .f32⟩
  | .hbm, ⟨52, _⟩ => ⟨S8x8x8192x8192, .f32⟩
  | .hbm, ⟨53, _⟩ => ⟨S8x8x8192x8192, .f32⟩
  | .hbm, ⟨54, _⟩ => ⟨S8x8x8192x8192, .f32⟩
  | .hbm, ⟨55, _⟩ => ⟨S8x8x8192x8192, .f32⟩
  | .hbm, ⟨56, _⟩ => ⟨S8x8x8192x8192, .f32⟩
  | .hbm, ⟨57, _⟩ => ⟨S8x8x8192x8192, .f32⟩
  | .hbm, ⟨58, _⟩ => ⟨S8x8x8192x8192, .f32⟩
  | .hbm, ⟨59, _⟩ => ⟨S8x8x8192x8192, .f32⟩
  | .hbm, ⟨60, _⟩ => ⟨S_, .f32⟩
  | .hbm, ⟨61, _⟩ => ⟨S_, .f32⟩
  | .hbm, ⟨62, _⟩ => ⟨S8x8x8192x8192, .i1⟩
  | .hbm, ⟨63, _⟩ => ⟨S8x8x8192x8192, .f32⟩
  | .hbm, ⟨64, _⟩ => ⟨S8x8x8192x8192, .f32⟩
  | .hbm, ⟨65, _⟩ => ⟨S8x8x8192x64, .f32⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v14 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_call2_cst : Ref sig .tc := ⟨.hbm, 38, rfl⟩
abbrev main_call2_v0 : Ref sig .tc := ⟨.hbm, 39, rfl⟩
abbrev main_v16 : Ref sig .tc := ⟨.hbm, 40, rfl⟩
abbrev main_v17 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v21 : Ref sig .tc := ⟨.hbm, 64, rfl⟩
abbrev main_v22 : Ref sig .tc := ⟨.hbm, 65, rfl⟩

abbrev nD : Nat := 1
abbrev τ : Topo := Topo.v7x

variable {F : FTy → Type} [FloatOps F]
-- ==== OutFfn.lean ====
abbrev S8x8192x1024 : Shape := ⟨3, ![8, 8192, 1024]⟩
abbrev S8x8192x8x64 : Shape := ⟨4, ![8, 8192, 8, 64]⟩
abbrev S8x8192x3x8 : Shape := ⟨4, ![8, 8192, 3, 8]⟩
abbrev S8x1x1024 : Shape := ⟨3, ![8, 1, 1024]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x8192x24 : Shape := ⟨3, ![8, 8192, 24]⟩
abbrev S_ : Shape := ⟨0, ![]⟩
abbrev S8x8192x128 : Shape := ⟨3, ![8, 8192, 128]⟩
abbrev S8x8192x512 : Shape := ⟨3, ![8, 8192, 512]⟩
abbrev S8x8x8192x64 : Shape := ⟨4, ![8, 8, 8192, 64]⟩
abbrev S128 : Shape := ⟨1, ![128]⟩
abbrev S128x1 : Shape := ⟨2, ![128, 1]⟩
abbrev S1536 : Shape := ⟨1, ![1536]⟩
abbrev S1x1536 : Shape := ⟨2, ![1, 1536]⟩
abbrev S128x1536 : Shape := ⟨2, ![128, 1536]⟩
abbrev S1x512 : Shape := ⟨2, ![1, 512]⟩
abbrev S1x1024 : Shape := ⟨2, ![1, 1024]⟩
abbrev S1x512x1024 : Shape := ⟨3, ![1, 512, 1024]⟩
abbrev S1x512x512 : Shape := ⟨3, ![1, 512, 512]⟩
abbrev S1x512x128 : Shape := ⟨3, ![1, 512, 128]⟩
abbrev S1x8x512x64 : Shape := ⟨4, ![1, 8, 512, 64]⟩
abbrev S1x1x1024 : Shape := ⟨3, ![1, 1, 1024]⟩
abbrev S1024x1408 : Shape := ⟨2, ![1024, 1408]⟩
abbrev S1408x1024 : Shape := ⟨2, ![1408, 1024]⟩
abbrev S512x1024 : Shape := ⟨2, ![512, 1024]⟩
abbrev S512x128 : Shape := ⟨2, ![512, 128]⟩
abbrev S512x1536 : Shape := ⟨2, ![512, 1536]⟩
abbrev S512x512 : Shape := ⟨2, ![512, 512]⟩
abbrev S1x1x512x64 : Shape := ⟨4, ![1, 1, 512, 64]⟩
abbrev S512x64 : Shape := ⟨2, ![512, 64]⟩
abbrev S512x1 : Shape := ⟨2, ![512, 1]⟩
abbrev S512x1408 : Shape := ⟨2, ![512, 1408]⟩

abbrev nBuf : Space → Nat
  | .hbm => 113
  | .vmem => 37
  | .smem => 0
  | _ => 0

abbrev bufTy : (tb : Table) → Fin (tcTables nBuf tb) → BufTy
  | .hbm, ⟨0, _⟩ => ⟨S8x8192x1024, .f32⟩
  | .hbm, ⟨1, _⟩ => ⟨S8x8192x8x64, .f32⟩
  | .hbm, ⟨2, _⟩ => ⟨S8x8192x8x64, .f32⟩
  | .hbm, ⟨3, _⟩ => ⟨S8x8192x8x64, .f32⟩
  | .hbm, ⟨4, _⟩ => ⟨S8x8192x3x8, .f32⟩
  | .hbm, ⟨5, _⟩ => ⟨S8x8192x8x64, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S512, .f32⟩
  | .hbm, ⟨11, _⟩ => ⟨S512, .f32⟩
  | .hbm, ⟨12, _⟩ => ⟨S1024x1024, .f32⟩
  | .hbm, ⟨13, _⟩ => ⟨S1024, .f32⟩
  | .hbm, ⟨14, _⟩ => ⟨S1024x2816, .f32⟩
  | .hbm, ⟨15, _⟩ => ⟨S1024x2816, .f32⟩
  | .hbm, ⟨16, _⟩ => ⟨S2816x1024, .f32⟩
  | .hbm, ⟨17, _⟩ => ⟨S1024, .f32⟩
  | .hbm, ⟨18, _⟩ => ⟨S8x8192x24, .f32⟩
  | .hbm, ⟨19, _⟩ => ⟨S8x8192x24, .f32⟩
  | .hbm, ⟨20, _⟩ => ⟨S8x8192x24, .f32⟩
  | .hbm, ⟨21, _⟩ => ⟨S_, .f32⟩
  | .hbm, ⟨22, _⟩ => ⟨S8x8192x24, .f32⟩
  | .hbm, ⟨23, _⟩ => ⟨S8x8192x24, .f32⟩
  | .hbm, ⟨24, _⟩ => ⟨S_, .f32⟩
  | .hbm, ⟨25, _⟩ => ⟨S8x8192x24, .f32⟩
  | .hbm, ⟨26, _⟩ => ⟨S8x8192x24, .f32⟩
  | .hbm, ⟨27, _⟩ => ⟨S_, .i32⟩
  | .hbm, ⟨28, _⟩ => ⟨S_, .f32⟩
  | .hbm, ⟨29, _⟩ => ⟨S8x8192x128, .f32⟩
  | .hbm, ⟨30, _⟩ => ⟨S8x8192x512, .f32⟩
  | .hbm, ⟨31, _⟩ => ⟨S8x8192x512, .f32⟩
  | .hbm, ⟨32, _⟩ => ⟨S8x8192x512, .f32⟩
  | .hbm, ⟨33, _⟩ => ⟨S8x8x8192x64, .f32⟩
  | .hbm, ⟨34, _⟩ => ⟨S128, .i32⟩
  | .hbm, ⟨35, _⟩ => ⟨S128x1, .i32⟩
  | .hbm, ⟨36, _⟩ => ⟨S1536, .i32⟩
  | .hbm, ⟨37, _⟩ => ⟨S1x1536, .i32⟩
  | .hbm, ⟨38, _⟩ => ⟨S_, .i32⟩
  | .hbm, ⟨39, _⟩ => ⟨S_, .i32⟩
  | .hbm, ⟨40, _⟩ => ⟨S1x1536, .i32⟩
  | .hbm, ⟨41, _⟩ => ⟨S1x1536, .i32⟩
  | .hbm, ⟨42, _⟩ => ⟨S1x1536, .i32⟩
  | .hbm, ⟨43, _⟩ => ⟨S_, .i32⟩
  | .hbm, ⟨44, _⟩ => ⟨S1x1536, .i32⟩
  | .hbm, ⟨45, _⟩ => ⟨S1x1536, .i1⟩
  | .hbm, ⟨46, _⟩ => ⟨S1x1536, .i32⟩
  | .hbm, ⟨47, _⟩ => ⟨S1x1536, .i32⟩
  | .hbm, ⟨48, _⟩ => ⟨S_, .i32⟩
  | .hbm, ⟨49, _⟩ => ⟨S1x1536, .i32⟩
  | .hbm, ⟨50, _⟩ => ⟨S1x1536, .i1⟩
  | .hbm, ⟨51, _⟩ => ⟨S1x1536, .i1⟩
  | .hbm, ⟨52, _⟩ => ⟨S_, .i32⟩
  | .hbm, ⟨53, _⟩ => ⟨S1x1536, .i32⟩
  | .hbm, ⟨54, _⟩ => ⟨S1x1536, .i32⟩
  | .hbm, ⟨55, _⟩ => ⟨S1x1536, .i32⟩
  | .hbm, ⟨56, _⟩ => ⟨S_, .i32⟩
  | .hbm, ⟨57, _⟩ => ⟨S1x1536, .i32⟩
  | .hbm, ⟨58, _⟩ => ⟨S1x1536, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S1x1536, .i32⟩
  | .hbm, ⟨66, _⟩ => ⟨S1x1536, .i32⟩
  | .hbm, ⟨67, _⟩ => ⟨S_, .i32⟩
  | .hbm, ⟨68, _⟩ => ⟨S1x1536, .i32⟩
  | .hbm, ⟨69, _⟩ => ⟨S1x1536, .i1⟩
  | .hbm, ⟨70, _⟩ => ⟨S_, .i32⟩
  | .hbm, ⟨71, _⟩ => ⟨S1x1536, .i32⟩
  | .hbm, ⟨72, _⟩ => ⟨S1x1536, .i1⟩
  | .hbm, ⟨73, _⟩ => ⟨S_, .i32⟩
  | .hbm, ⟨74, _⟩ => ⟨S_, .i1⟩
  | .hbm, ⟨75, _⟩ => ⟨S1x1536, .i1⟩
  | .hbm, ⟨76, _⟩ => ⟨S1x1536, .i1⟩
  | .hbm, ⟨77, _⟩ => ⟨S1x1536, .i1⟩
  | .hbm, ⟨78, _⟩ => ⟨S1x1536, .i32⟩
  | .hbm, ⟨79, _⟩ => ⟨S1x1536, .i32⟩
  | .hbm, ⟨80, _⟩ => ⟨S1x1536, .i32⟩
  | .hbm, ⟨81, _⟩ => ⟨S_, .i32⟩
  | .hbm, ⟨82, _⟩ => ⟨S_, .i32⟩
  | .hbm, ⟨83, _⟩ => ⟨S1x1536, .i32⟩
  | .hbm, ⟨84, _⟩ => ⟨S1x1536, .i32⟩
  | .hbm, ⟨85, _⟩ => ⟨S1x1536, .i32⟩
  | .hbm, ⟨86, _⟩ => ⟨S_, .i32⟩
  | .hbm, ⟨87, _⟩ => ⟨S1x1536, .i32⟩
  | .hbm, ⟨88, _⟩ => ⟨S1x1536, .i1⟩
  | .hbm, ⟨89, _⟩ => ⟨S1x1536, .i32⟩
  | .hbm, ⟨90, _⟩ => ⟨S1x1536, .i32⟩
  | .hbm, ⟨91, _⟩ => ⟨S_, .i32⟩
  | .hbm, ⟨92, _⟩ => ⟨S1x1536, .i32⟩
  | .hbm, ⟨93, _⟩ => ⟨S1x1536, .i1⟩
  | .hbm, ⟨94, _⟩ => ⟨S1x1536, .i1⟩
  | .hbm, ⟨95, _⟩ => ⟨S_, .i32⟩
  | .hbm, ⟨96, _⟩ => ⟨S1x1536, .i32⟩
  | .hbm, ⟨97, _⟩ => ⟨S1x1536, .i32⟩
  | .hbm, ⟨98, _⟩ => ⟨S1x1536, .i32⟩
  | .hbm, ⟨99, _⟩ => ⟨S1x1536, .i32⟩
  | .hbm, ⟨100, _⟩ => ⟨S128x1536, .i32⟩
  | .hbm, ⟨101, _⟩ => ⟨S128x1536, .i32⟩
  | .hbm, ⟨102, _⟩ => ⟨S128x1536, .i1⟩
  | .hbm, ⟨103, _⟩ => ⟨S128x1536, .bf16⟩
  | .hbm, ⟨104, _⟩ => ⟨S1024x1024, .bf16⟩
  | .hbm, ⟨105, _⟩ => ⟨S1024x2816, .bf16⟩
  | .hbm, ⟨106, _⟩ => ⟨S1024x2816, .bf16⟩
  | .hbm, ⟨107, _⟩ => ⟨S2816x1024, .bf16⟩
  | .hbm, ⟨108, _⟩ => ⟨S1x512, .f32⟩
  | .hbm, ⟨109, _⟩ => ⟨S1x512, .f32⟩
  | .hbm, ⟨110, _⟩ => ⟨S1x1024, .f32⟩
  | .hbm, ⟨111, _⟩ => ⟨S1x1024, .f32⟩
  | .hbm, ⟨112, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x128, .f32⟩
  | .local _ .vmem, ⟨9, _⟩ => ⟨S1x512x128, .f32⟩
  | .local _ .vmem, ⟨10, _⟩ => ⟨S1x8x512x64, .f32⟩
  | .local _ .vmem, ⟨11, _⟩ => ⟨S1x8x512x64, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S128x1536, .bf16⟩
  | .local _ .vmem, ⟨21, _⟩ => ⟨S1x512, .f32⟩
  | .local _ .vmem, ⟨22, _⟩ => ⟨S1x512, .f32⟩
  | .local _ .vmem, ⟨23, _⟩ => ⟨S1024x1024, .bf16⟩
  | .local _ .vmem, ⟨24, _⟩ => ⟨S1x1024, .f32⟩
  | .local _ .vmem, ⟨25, _⟩ => ⟨S1024x1408, .bf16⟩
  | .local _ .vmem, ⟨26, _⟩ => ⟨S1024x1408, .bf16⟩
  | .local _ .vmem, ⟨27, _⟩ => ⟨S1024x1408, .bf16⟩
  | .local _ .vmem, ⟨28, _⟩ => ⟨S1024x1408, .bf16⟩
  | .local _ .vmem, ⟨29, _⟩ => ⟨S1408x1024, .bf16⟩
  | .local _ .vmem, ⟨30, _⟩ => ⟨S1408x1024, .bf16⟩
  | .local _ .vmem, ⟨31, _⟩ => ⟨S1x1024, .f32⟩
  | .local _ .vmem, ⟨32, _⟩ => ⟨S1x512x1024, .f32⟩
  | .local _ .vmem, ⟨33, _⟩ => ⟨S1x512x1024, .f32⟩
  | .local _ .vmem, ⟨34, _⟩ => ⟨S512x1024, .f32⟩
  | .local _ .vmem, ⟨35, _⟩ => ⟨S512x1024, .bf16⟩
  | .local _ .vmem, ⟨36, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_call0_v0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v16 : Ref sig .tc := ⟨.hbm, 55, rfl⟩
abbrev main_c_2 : Ref sig .tc := ⟨.hbm, 56, rfl⟩
abbrev main_v17 : Ref sig .tc := ⟨.hbm, 57, rfl⟩
abbrev main_v18 : Ref sig .tc := ⟨.hbm, 58, rfl⟩
abbrev main_c_3 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_4 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_c : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_0 : Ref sig .tc := ⟨.hbm, 95, rfl⟩
abbrev main_call3_v12 : Ref sig .tc := ⟨.hbm, 96, rfl⟩
abbrev main_call3_v13 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨3, ![8, 16, 2], ![false, false, false]⟩

def k0_cond2 (i : grid0.Coords) : BitVec 1 :=
  let arg2 : BitVec 32 := BitVec.ofNat 32 (i 2).val
  let c1_i32 : BitVec 32 := 1#32
  let v28 : BitVec 1 := Scalar.cmpi .eq arg2 c1_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S128x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 2 → Memref sig .tc .vmem S1024x1408 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, false, true]

abbrev stage0_16 : Fin 2 → Memref sig .tc .vmem S1024x1408 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, false, true]

abbrev stage0_17 : Fin 2 → Memref sig .tc .vmem S1408x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, false, true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false, false]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, false]
-- ==== OutFfnReferenceIdeal.lean ====
abbrev S8x8192x1024 : Shape := ⟨3, ![8, 8192, 1024]⟩
abbrev S8x8192x8x64 : Shape := ⟨4, ![8, 8192, 8, 64]⟩
abbrev S8x8192x3x8 : Shape := ⟨4, ![8, 8192, 3, 8]⟩
abbrev S8x1x1024 : Shape := ⟨3, ![8, 1, 1024]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192x3x8x1 : Shape := ⟨5, ![8, 8192, 3, 8, 1]⟩
abbrev S8x8192x1x8x1 : Shape := ⟨5, ![8, 8192, 1, 8, 1]⟩
abbrev S8x8192x8x1 : Shape := ⟨4, ![8, 8192, 8, 1]⟩
abbrev S8x8192x512 : Shape := ⟨3, ![8, 8192, 512]⟩
abbrev S8x8192 : Shape := ⟨2, ![8, 8192]⟩
abbrev S8x8192x1 : Shape := ⟨3, ![8, 8192, 1]⟩
abbrev S1x1x512 : Shape := ⟨3, ![1, 1, 512]⟩
abbrev S1x1x1024 : Shape := ⟨3, ![1, 1, 1024]⟩
abbrev S8x8192x2816 : Shape := ⟨3, ![8, 8192, 2816]⟩

abbrev nBuf : Space → Nat
  | .hbm => 135
  | .vmem => 0
  | .smem => 0
  | _ => 0

abbrev hbmTy0_0 (i : Nat) : BufTy := match i % 128 with
  | 0 => ⟨S8x8192x1024, .f32⟩
  | 1 => ⟨S8x8192x8x64, .f32⟩
  | 2 => ⟨S8x8192x8x64, .f32⟩
  | 3 => ⟨S8x8192x8x64, .f32⟩
  | 4 => ⟨S8x8192x3x8, .f32⟩
  | 5 => ⟨S8x8192x8x64, .f32⟩
  | 6 => ⟨S8x1x1024, .f32⟩
  | 7 => ⟨S8x1x1024, .f32⟩
  | 8 => ⟨S8x1x1024, .f32⟩
  | 9 => ⟨S8x1x1024, .f32⟩
  | 10 => ⟨S512, .f32⟩
  | 11 => ⟨S512, .f32⟩
  | 12 => ⟨S1024x1024, .f32⟩
  | 13 => ⟨S1024, .f32⟩
  | 14 => ⟨S1024x2816, .f32⟩
  | 15 => ⟨S1024x2816, .f32⟩
  | 16 => ⟨S2816x1024, .f32⟩
  | 17 => ⟨S1024, .f32⟩
  | 18 => ⟨S8x8192x3x8, .f32⟩
  | 19 => ⟨S8x8192x3x8, .f32⟩
  | 20 => ⟨S_, .f32⟩
  | 21 => ⟨S8x8192x3x8, .f32⟩
  | 22 => ⟨S8x8192x3x8, .f32⟩
  | 23 => ⟨S_, .f32⟩
  | 24 => ⟨S8x8192x3x8, .f32⟩
  | 25 => ⟨S8x8192x3x8, .f32⟩
  | 26 => ⟨S8x8192x3x8x1, .f32⟩
  | 27 => ⟨S8x8192x1x8x1, .f32⟩
  | 28 => ⟨S8x8192x8x1, .f32⟩
  | 29 => ⟨S8x8192x8x64, .f32⟩
  | 30 => ⟨S8x8192x8x64, .f32⟩
  | 31 => ⟨S8x8192x1x8x1, .f32⟩
  | 32 => ⟨S8x8192x8x1, .f32⟩
  | 33 => ⟨S8x8192x8x64, .f32⟩
  | 34 => ⟨S8x8192x8x64, .f32⟩
  | 35 => ⟨S8x8192x8x64, .f32⟩
  | 36 => ⟨S8x8192x1x8x1, .f32⟩
  | 37 => ⟨S8x8192x8x1, .f32⟩
  | 38 => ⟨S8x8192x8x64, .f32⟩
  | 39 => ⟨S8x8192x8x64, .f32⟩
  | 40 => ⟨S8x8192x8x64, .f32⟩
  | 41 => ⟨S8x8192x512, .f32⟩
  | 42 => ⟨S8x8192x512, .f32⟩
  | 43 => ⟨S_, .f32⟩
  | 44 => ⟨S8x8192, .f32⟩
  | 45 => ⟨S8x8192x1, .f32⟩
  | 46 => ⟨S_, .f32⟩
  | 47 => ⟨S8x8192x1, .f32⟩
  | 48 => ⟨S8x8192x1, .f32⟩
  | 49 => ⟨S_, .f32⟩
  | 50 => ⟨S8x8192x1, .f32⟩
  | 51 => ⟨S8x8192x1, .f32⟩
  | 52 => ⟨S8x8192x1, .f32⟩
  | 53 => ⟨S8x8192x512, .f32⟩
  | 54 => ⟨S8x8192x512, .f32⟩
  | 55 => ⟨S1x1x512, .f32⟩
  | 56 => ⟨S8x8192x512, .f32⟩
  | 57 => ⟨S8x8192x512, .f32⟩
  | 58 => ⟨S8x8192x512, .f32⟩
  | 59 => ⟨S8x8192x512, .f32⟩
  | 60 => ⟨S_, .f32⟩
  | 61 => ⟨S8x8192, .f32⟩
  | 62 => ⟨S8x8192x1, .f32⟩
  | 63 => ⟨S_, .f32⟩
  | 64 => ⟨S8x8192x1, .f32⟩
  | 65 => ⟨S8x8192x1, .f32⟩
  | 66 => ⟨S_, .f32⟩
  | 67 => ⟨S8x8192x1, .f32⟩
  | 68 => ⟨S8x8192x1, .f32⟩
  | 69 => ⟨S8x8192x1, .f32⟩
  | 70 => ⟨S8x8192x512, .f32⟩
  | 71 => ⟨S8x8192x512, .f32⟩
  | 72 => ⟨S1x1x512, .f32⟩
  | 73 => ⟨S8x8192x512, .f32⟩
  | 74 => ⟨S8x8192x512, .f32⟩
  | 75 => ⟨S8x8192x1024, .f32⟩
  | 76 => ⟨S8x8192x1024, .f32⟩
  | 77 => ⟨S8x8192x1024, .f32⟩
  | 78 => ⟨S8x8192x1024, .f32⟩
  | 79 => ⟨S8x8192x1024, .f32⟩
  | 80 => ⟨S8x8192x1024, .f32⟩
  | 81 => ⟨S_, .f32⟩
  | 82 => ⟨S8x8192, .f32⟩
  | 83 => ⟨S8x8192x1, .f32⟩
  | 84 => ⟨S_, .f32⟩
  | 85 => ⟨S8x8192x1, .f32⟩
  | 86 => ⟨S8x8192x1, .f32⟩
  | 87 => ⟨S_, .f32⟩
  | 88 => ⟨S8x8192x1, .f32⟩
  | 89 => ⟨S8x8192x1, .f32⟩
  | 90 => ⟨S8x8192x1, .f32⟩
  | 91 => ⟨S8x8192x1024, .f32⟩
  | 92 => ⟨S8x8192x1024, .f32⟩
  | 93 => ⟨S1x1x1024, .f32⟩
  | 94 => ⟨S8x8192x1024, .f32⟩
  | 95 => ⟨S8x8192x1024, .f32⟩
  | 96 => ⟨S_, .f32⟩
  | 97 => ⟨S8x1x1024, .f32⟩
  | 98 => ⟨S8x1x1024, .f32⟩
  | 99 => ⟨S8x8192x1024, .f32⟩
  | 100 => ⟨S8x8192x1024, .f32⟩
  | 101 => ⟨S8x8192x1024, .f32⟩
  | 102 => ⟨S8x8192x1024, .f32⟩
  | 103 => ⟨S8x8192x2816, .f32⟩
  | 104 => ⟨S8x8192x2816, .f32⟩
  | 105 => ⟨S8x8192x2816, .f32⟩
  | 106 => ⟨S_, .f32⟩
  | 107 => ⟨S8x8192x2816, .f32⟩
  | 108 => ⟨S8x8192x2816, .f32⟩
  | 109 => ⟨S_, .f32⟩
  | 110 => ⟨S8x8192x2816, .f32⟩
  | 111 => ⟨S8x8192x2816, .f32⟩
  | 112 => ⟨S8x8192x2816, .f32⟩
  | 113 => ⟨S8x8192x2816, .f32⟩
  | 114 => ⟨S8x8192x2816, .f32⟩
  | 115 => ⟨S8x8192x1024, .f32⟩
  | 116 => ⟨S8x8192x1024, .f32⟩
  | 117 => ⟨S8x8192x1024, .f32⟩
  | 118 => ⟨S8x8192x1024, .f32⟩
  | 119 => ⟨S8x8192x1024, .f32⟩
  | 120 => ⟨S_, .f32⟩
  | 121 => ⟨S8x8192, .f32⟩
  | 122 => ⟨S8x8192x1, .f32⟩
  | 123 => ⟨S_, .f32⟩
  | 124 => ⟨S8x8192x1, .f32⟩
  | 125 => ⟨S8x8192x1, .f32⟩
  | 126 => ⟨S_, .f32⟩
  | 127 => ⟨S8x8192x1, .f32⟩
  | _ => ⟨S8x8192x1024, .f32⟩

abbrev hbmTy0_1 (i : Nat) : BufTy := match i % 128 with
  | 0 => ⟨S8x8192x1, .f32⟩
  | 1 => ⟨S8x8192x1, .f32⟩
  | 2 => ⟨S8x8192x1024, .f32⟩
  | 3 => ⟨S8x8192x1024, .f32⟩
  | 4 => ⟨S1x1x1024, .f32⟩
  | 5 => ⟨S8x8192x1024, .f32⟩
  | 6 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_11 : Ref sig .tc := ⟨.hbm, 120, rfl⟩
abbrev main_v82 : Ref sig .tc := ⟨.hbm, 121, rfl⟩
abbrev main_v83 : Ref sig .tc := ⟨.hbm, 122, rfl⟩
abbrev main_cst_12 : Ref sig .tc := ⟨.hbm, 123, rfl⟩
abbrev main_v84 : Ref sig .tc := ⟨.hbm, 124, rfl⟩
abbrev main_v85 : Ref sig .tc := ⟨.hbm, 125, rfl⟩
abbrev main_cst_13 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩

abbrev nD : Nat := 1
abbrev τ : Topo := Topo.v7x

variable {F : FTy → Type} [FloatOps F]
-- ==== Proj.lean ====
abbrev S8x8192x1024 : Shape := ⟨3, ![8, 8192, 1024]⟩
abbrev S8x1x1024 : Shape := ⟨3, ![8, 1, 1024]⟩
abbrev S1024 : Shape := ⟨1, ![1024]⟩
abbrev S1024x2840 : Shape := ⟨2, ![1024, 2840]⟩
abbrev S1024x1280 : Shape := ⟨2, ![1024, 1280]⟩
abbrev S1024x1536 : Shape := ⟨2, ![1024, 1536]⟩
abbrev S1024x24 : Shape := ⟨2, ![1024, 24]⟩
abbrev S_ : Shape := ⟨0, ![]⟩
abbrev S1024x104 : Shape := ⟨2, ![1024, 104]⟩
abbrev S1024x2944 : Shape := ⟨2, ![1024, 2944]⟩
abbrev S1x1024 : Shape := ⟨2, ![1, 1024]⟩
abbrev S8x8192x256 : Shape := ⟨3, ![8, 8192, 256]⟩
abbrev S8x8192x128 : Shape := ⟨3, ![8, 8192, 128]⟩
abbrev S8x8x8192x64 : Shape := ⟨4, ![8, 8, 8192, 64]⟩
abbrev S8x4x8192x64 : Shape := ⟨4, ![8, 4, 8192, 64]⟩
abbrev S8x16x8192x64 : Shape := ⟨4, ![8, 16, 8192, 64]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x128 : Shape := ⟨3, ![1, 512, 128]⟩
abbrev S1x8x512x64 : Shape := ⟨4, ![1, 8, 512, 64]⟩
abbrev S1x4x512x64 : Shape := ⟨4, ![1, 4, 512, 64]⟩
abbrev S1x16x512x64 : Shape := ⟨4, ![1, 16, 512, 64]⟩
abbrev S512x1024 : Shape := ⟨2, ![512, 1024]⟩
abbrev S512 : Shape := ⟨1, ![512]⟩
abbrev S512x1 : Shape := ⟨2, ![512, 1]⟩
abbrev S512x2944 : Shape := ⟨2, ![512, 2944]⟩
abbrev S512x256 : Shape := ⟨2, ![512, 256]⟩
abbrev S512x128 : Shape := ⟨2, ![512, 128]⟩
abbrev S512x64 : Shape := ⟨2, ![512, 64]⟩
abbrev S1x1x512x64 : Shape := ⟨4, ![1, 1, 512, 64]⟩

abbrev nBuf : Space → Nat
  | .hbm => 23
  | .vmem => 28
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2840, .f32⟩
  | .hbm, ⟨5, _⟩ => ⟨S1024x1280, .f32⟩
  | .hbm, ⟨6, _⟩ => ⟨S1024x1536, .f32⟩
  | .hbm, ⟨7, _⟩ => ⟨S1024x24, .f32⟩
  | .hbm, ⟨8, _⟩ => ⟨S_, .f32⟩
  | .hbm, ⟨9, _⟩ => ⟨S1024x104, .f32⟩
  | .hbm, ⟨10, _⟩ => ⟨S1024x2944, .f32⟩
  | .hbm, ⟨11, _⟩ => ⟨S1024x2944, .bf16⟩
  | .hbm, ⟨12, _⟩ => ⟨S1x1024, .f32⟩
  | .hbm, ⟨13, _⟩ => ⟨S8x8192x256, .f32⟩
  | .hbm, ⟨14, _⟩ => ⟨S8x8192x256, .f32⟩
  | .hbm, ⟨15, _⟩ => ⟨S8x8192x256, .f32⟩
  | .hbm, ⟨16, _⟩ => ⟨S8x8192x1024, .f32⟩
  | .hbm, ⟨17, _⟩ => ⟨S8x8192x128, .f32⟩
  | .hbm, ⟨18, _⟩ => ⟨S8x8x8192x64, .bf16⟩
  | .hbm, ⟨19, _⟩ => ⟨S8x8x8192x64, .bf16⟩
  | .hbm, ⟨20, _⟩ => ⟨S8x4x8192x64, .bf16⟩
  | .hbm, ⟨21, _⟩ => ⟨S8x4x8192x64, .bf16⟩
  | .hbm, ⟨22, _⟩ => ⟨S8x16x8192x64, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2944, .bf16⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x1024, .f32⟩
  | .local _ .vmem, ⟨15, _⟩ => ⟨S1x512x1024, .f32⟩
  | .local _ .vmem, ⟨16, _⟩ => ⟨S1x512x128, .f32⟩
  | .local _ .vmem, ⟨17, _⟩ => ⟨S1x512x128, .f32⟩
  | .local _ .vmem, ⟨18, _⟩ => ⟨S1x8x512x64, .bf16⟩
  | .local _ .vmem, ⟨19, _⟩ => ⟨S1x8x512x64, .bf16⟩
  | .local _ .vmem, ⟨20, _⟩ => ⟨S1x8x512x64, .bf16⟩
  | .local _ .vmem, ⟨21, _⟩ => ⟨S1x8x512x64, .bf16⟩
  | .local _ .vmem, ⟨22, _⟩ => ⟨S1x4x512x64, .bf16⟩
  | .local _ .vmem, ⟨23, _⟩ => ⟨S1x4x512x64, .bf16⟩
  | .local _ .vmem, ⟨24, _⟩ => ⟨S1x4x512x64, .bf16⟩
  | .local _ .vmem, ⟨25, _⟩ => ⟨S1x4x512x64, .bf16⟩
  | .local _ .vmem, ⟨26, _⟩ => ⟨S1x16x512x64, .bf16⟩
  | .local _ .vmem, ⟨27, _⟩ => ⟨S1x16x512x64, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev main_v7_6 : Ref sig .tc := ⟨.hbm, 19, rfl⟩
abbrev main_v7_7 : Ref sig .tc := ⟨.hbm, 20, rfl⟩
abbrev main_v7_8 : Ref sig .tc := ⟨.hbm, 21, rfl⟩
abbrev main_v7_9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjReferenceIdeal.lean ====
abbrev S8x8192x1024 : Shape := ⟨3, ![8, 8192, 1024]⟩
abbrev S8x1x1024 : Shape := ⟨3, ![8, 1, 1024]⟩
abbrev S1024 : Shape := ⟨1, ![1024]⟩
abbrev S1024x2840 : Shape := ⟨2, ![1024, 2840]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2840 : Shape := ⟨3, ![8, 8192, 2840]⟩
abbrev S8x8192x512 : Shape := ⟨3, ![8, 8192, 512]⟩
abbrev S8x8192x256 : Shape := ⟨3, ![8, 8192, 256]⟩
abbrev S8x8192x24 : Shape := ⟨3, ![8, 8192, 24]⟩
abbrev S8x8192x1536 : Shape := ⟨3, ![8, 8192, 1536]⟩
abbrev S8x8192x3x8x64 : Shape := ⟨5, ![8, 8192, 3, 8, 64]⟩
abbrev S8x8192x128 : Shape := ⟨3, ![8, 8192, 128]⟩
abbrev S8x8192x8x64 : Shape := ⟨4, ![8, 8192, 8, 64]⟩
abbrev S8x8x8192x64 : Shape := ⟨4, ![8, 8, 8192, 64]⟩
abbrev S8x8192x1x8x64 : Shape := ⟨5, ![8, 8192, 1, 8, 64]⟩
abbrev S8x8192x4x64 : Shape := ⟨4, ![8, 8192, 4, 64]⟩
abbrev S8x4x8192x64 : Shape := ⟨4, ![8, 4, 8192, 64]⟩
abbrev S8x8192x2x8x64 : Shape := ⟨5, ![8, 8192, 2, 8, 64]⟩
abbrev S8x8192x16x64 : Shape := ⟨4, ![8, 8192, 16, 64]⟩
abbrev S8x16x8192x64 : Shape := ⟨4, ![8, 16, 8192, 64]⟩

abbrev nBuf : Space → Nat
  | .hbm => 71
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2840, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x2840, .f32⟩
  | .hbm, ⟨29, _⟩ => ⟨S8x8192x512, .f32⟩
  | .hbm, ⟨30, _⟩ => ⟨S8x8192x256, .f32⟩
  | .hbm, ⟨31, _⟩ => ⟨S8x8192x256, .f32⟩
  | .hbm, ⟨32, _⟩ => ⟨S8x8192x256, .f32⟩
  | .hbm, ⟨33, _⟩ => ⟨S8x8192x24, .f32⟩
  | .hbm, ⟨34, _⟩ => ⟨S8x8192x1536, .f32⟩
  | .hbm, ⟨35, _⟩ => ⟨S8x8192x3x8x64, .f32⟩
  | .hbm, ⟨36, _⟩ => ⟨S_, .i32⟩
  | .hbm, ⟨37, _⟩ => ⟨S_, .f32⟩
  | .hbm, ⟨38, _⟩ => ⟨S8x8192x128, .f32⟩
  | .hbm, ⟨39, _⟩ => ⟨S8x8192x128, .f32⟩
  | .hbm, ⟨40, _⟩ => ⟨S8x8192x128, .f32⟩
  | .hbm, ⟨41, _⟩ => ⟨S_, .f32⟩
  | .hbm, ⟨42, _⟩ => ⟨S8x8192x128, .f32⟩
  | .hbm, ⟨43, _⟩ => ⟨S8x8192x128, .f32⟩
  | .hbm, ⟨44, _⟩ => ⟨S_, .f32⟩
  | .hbm, ⟨45, _⟩ => ⟨S8x8192x128, .f32⟩
  | .hbm, ⟨46, _⟩ => ⟨S8x8192x128, .f32⟩
  | .hbm, ⟨47, _⟩ => ⟨S8x8192x8x64, .f32⟩
  | .hbm, ⟨48, _⟩ => ⟨S8x8x8192x64, .f32⟩
  | .hbm, ⟨49, _⟩ => ⟨S_, .f32⟩
  | .hbm, ⟨50, _⟩ => ⟨S8x8x8192x64, .f32⟩
  | .hbm, ⟨51, _⟩ => ⟨S8x8x8192x64, .f32⟩
  | .hbm, ⟨52, _⟩ => ⟨S8x8192x1x8x64, .f32⟩
  | .hbm, ⟨53, _⟩ => ⟨S8x8192x8x64, .f32⟩
  | .hbm, ⟨54, _⟩ => ⟨S8x8x8192x64, .f32⟩
  | .hbm, ⟨55, _⟩ => ⟨S_, .f32⟩
  | .hbm, ⟨56, _⟩ => ⟨S8x8x8192x64, .f32⟩
  | .hbm, ⟨57, _⟩ => ⟨S8x8x8192x64, .f32⟩
  | .hbm, ⟨58, _⟩ => ⟨S8x8192x4x64, .f32⟩
  | .hbm, ⟨59, _⟩ => ⟨S8x4x8192x64, .f32⟩
  | .hbm, ⟨60, _⟩ => ⟨S8x8192x4x64, .f32⟩
  | .hbm, ⟨61, _⟩ => ⟨S8x4x8192x64, .f32⟩
  | .hbm, ⟨62, _⟩ => ⟨S8x8192x2x8x64, .f32⟩
  | .hbm, ⟨63, _⟩ => ⟨S8x8192x16x64, .f32⟩
  | .hbm, ⟨64, _⟩ => ⟨S8x8192x1024, .f32⟩
  | .hbm, ⟨65, _⟩ => ⟨S8x8x8192x64, .bf16⟩
  | .hbm, ⟨66, _⟩ => ⟨S8x8x8192x64, .bf16⟩
  | .hbm, ⟨67, _⟩ => ⟨S8x4x8192x64, .bf16⟩
  | .hbm, ⟨68, _⟩ => ⟨S8x4x8192x64, .bf16⟩
  | .hbm, ⟨69, _⟩ => ⟨S8x16x8192x64, .f32⟩
  | .hbm, ⟨70, _⟩ => ⟨S8x16x8192x64, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Proof.SB.Base.lean ====
/-
  The launch of the stick-breaking kernel, shared by its proofs: the host operations ahead of the region, the
  contents of the arrays when the region is entered (`V`), each window's block at a grid point (`iblk`), the staging
  memrefs, and the step from a run of the whole region to the unchanged arguments.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.SB

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Window 0 fetches its block or keeps it: its staging buffer holds the block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 fetches its block or keeps it: its staging buffer holds the block at every point. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 fetches its block or keeps it: its staging buffer holds the block at every point. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 fetches its block or keeps it: its staging buffer holds the block at every point. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays from a run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (show ∀ w : Fin 5, (spec0 w).arr.view.ref ≠ main_arg0 from by decide))).trans (V_main_arg0 m c),
      ((h c).2 main_arg1 (Pipeline.mem_restRefs_of main_arg1 (by decide) (show ∀ w : Fin 5, (spec0 w).arr.view.ref ≠ main_arg1 from by decide))).trans (V_main_arg1 m c)⟩) h

/-! ## The memrefs the body is given -/

/-- One staging buffer of output window 4, through which its contents are stated (`View.read_writes_of_cover`: the
    choice does not matter). -/
abbrev VO0_4 : View sig .tc .vmem S1x1x512x64 .f32 := (Memref.whole cc0_stg4_0 : Memref sig .tc .vmem S1x1x512x64 .f32).view
/-- Each window's current staging memref at point `t`, spelled as the pipeline passes it (`bodyAt0`), and its wholeness. -/
abbrev ms0_0 (t : Fin (cfg0 (F := F)).N) : Memref sig .tc .vmem S1x1x512x64 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x1x8192x64 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x1x8192x64 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x256 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x1x512x64 .f32 := win0_4.stage ((cfg0 (F := F)).slots t 4)
abbrev hs0_4 (t : Fin (cfg0 (F := F)).N) : (ms0_4 t).IsWhole := hstage0_4 (((cfg0 (F := F)).slots t 4).cast nbuf0_4)
/-- The scratch operands: whole scoped buffers of the kernel's own, passed beside the windows. -/
abbrev scM0_0 : Memref sig .tc .vmem S512x128 .f32 := Memref.whole cc0_scratch0
abbrev scM0_1 : Memref sig .tc .vmem S512x64 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.SB

end
-- ==== Proof.SB.Loop.lean ====
/-
  The loop over the earlier key tiles, as a pure function of the kernel's blocks: one trip takes the carried sums of
  logarithms and the accumulator to the next (`stepC`, `stepA`), and the loop stops when its trips are used up or when
  no carried sum is above the exit bound (`loopF`).  `spec_le` says that the loop's label computes it.
-/
module

public import proofs.«01_k».proof.Proof.SB.Base
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value
public import Idealize.ShloMosaic.Lib.Claim

@[expose] public section

set_option maxRecDepth 16384

noncomputable section

namespace Cert.KernelIdeal.SB

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The kernel's variants: the naturals, the trips of the loop still to run. -/
abbrev 𝒱₀ : Variants := Variants.nat

/-- The whole query block and the whole scratch buffers, as the loop reads and writes them. -/
abbrev rQ : Rect S1x1x512x64 := Rect.unit (s := S1x1x512x64) ![0, 0, 0, 0] S1x1x512x64.size inb_S1x1x512x64_S1x1x512x64_0_0_0_0
/-- The key tile of the trip whose counter is `w`. -/
abbrev rK (i : grid0.Coords) (w : BitVec 32) (h : k0_chk1 i w) : Rect S1x1x8192x64 :=
  Rect.unit (s := S1x1x8192x64) (k0_off3 i w) S1x1x256x64.size (k0_off3_inb i w h)

section Step
variable (i : grid0.Coords) (x0 : Vec F S1x1x512x64 .bf16) (x1 x2 : Vec F S1x1x8192x64 .bf16) (v1 : FVec F S256x256 .bf16)

/-- The carried sums after the trip with counter `w`. -/
def stepC (w : BitVec 32) (h : k0_chk1 i w) (C : Vec F S512x128 .f32) : Vec F S512x128 .f32 :=
  k0_pay5 (k0_pay45 v1 (View.ld x0 rQ) (View.ld x1 (rK i w h)) C) (k0_pay46 v1 (View.ld x0 rQ) (View.ld x1 (rK i w h)))

/-- The accumulator after it. -/
def stepA (w : BitVec 32) (h : k0_chk1 i w) (C : Vec F S512x128 .f32) (A : Vec F S512x64 .f32) : Vec F S512x64 .f32 :=
  k0_pay4 (k0_pay39 (View.ld x0 rQ) (View.ld x1 (rK i w h))) (k0_pay44 v1 (View.ld x0 rQ) (View.ld x1 (rK i w h)) C)
    (k0_pay45 v1 (View.ld x0 rQ) (View.ld x1 (rK i w h)) C) (k0_pay46 v1 (View.ld x0 rQ) (View.ld x1 (rK i w h))) A
    (View.ld x2 (rK i w h))

/-- Whether the largest carried sum `M` is still above the exit bound. -/
def goes (M : F .f32) : Prop := Scalar.cmpf .ogt M (Named.named κ "dead_log" 0xC2D20000#32 : F .f32) = 1#1

open Classical in
/-- The scratch buffers after at most `k` trips from counter `j`, the largest carried sum being `M`. -/
def loopF : ℕ → ℕ → F .f32 → Vec F S512x128 .f32 → Vec F S512x64 .f32 → Vec F S512x128 .f32 × Vec F S512x64 .f32
  | 0, _, _, C, A => (C, A)
  | k + 1, j, M, C, A =>
    if goes M then
      if h : k0_chk1 i (BitVec.ofNat 32 j) then
        loopF k (j + 1) (k0_pay6 (stepC i x0 x1 v1 (BitVec.ofNat 32 j) h C)) (stepC i x0 x1 v1 (BitVec.ofNat 32 j) h C)
          (stepA i x0 x1 x2 v1 (BitVec.ofNat 32 j) h C A)
      else (C, A)
    else (C, A)

end Step

/-! ## The counter -/

/-- A counter below the trip count names a key tile inside the array. -/
theorem chk_of_lt (i : grid0.Coords) (j : ℕ) (hj : j < 2 * (i 2).val) : k0_chk1 i (BitVec.ofNat 32 j) := by
  have hi : (i 2).val < 16 := (i 2).isLt
  have hall : ∀ q < 16, ∀ j < 2 * q,
      (Scalar.muli (Scalar.subi (Scalar.subi (Scalar.muli (BitVec.ofNat 32 q) 2#32) 1#32) (BitVec.ofNat 32 j)) 256#32).toNat
        = (2 * q - 1 - j) * 256 := by decide
  have hv := hall _ hi j hj
  refine ⟨?_, ?_⟩
  · unfold k0_mult2; dsimp only; rw [hv]; exact Dvd.intro_left _ rfl
  · intro a
    unfold k0_off3; dsimp only
    fin_cases a
    · simp
    · simp
    · show (Scalar.indexCast _).toNat + 256 ≤ 8192
      simp only [Scalar.indexCast]
      omega
    · simp

/-- With trips to go the counter's test passes, with none it fails. -/
theorem slt_of_lt (i : grid0.Coords) (j : ℕ) (hj : j < 2 * (i 2).val) :
    Scalar.cmpi .slt (BitVec.ofNat 32 j) (Scalar.muli (BitVec.ofNat 32 (i 2).val) 2#32) = 1#1 := by
  have hi : (i 2).val < 16 := (i 2).isLt
  have hall : ∀ q < 16, ∀ j < 2 * q, Scalar.cmpi .slt (BitVec.ofNat 32 j) (Scalar.muli (BitVec.ofNat 32 q) 2#32) = 1#1 := by decide
  exact hall _ hi j hj
theorem not_slt (i : grid0.Coords) :
    Scalar.cmpi .slt (BitVec.ofNat 32 (2 * (i 2).val)) (Scalar.muli (BitVec.ofNat 32 (i 2).val) 2#32) = 0#1 := by
  have hi : (i 2).val < 16 := (i 2).isLt
  have hall : ∀ q < 16, Scalar.cmpi .slt (BitVec.ofNat 32 (2 * q)) (Scalar.muli (BitVec.ofNat 32 q) 2#32) = 0#1 := by decide
  exact hall _ hi
theorem addi_succ (j : ℕ) : Scalar.addi (BitVec.ofNat 32 j) 1#32 = BitVec.ofNat 32 (j + 1) := by
  apply BitVec.eq_of_toNat_eq
  simp [Scalar.addi, IntOp.addi, BitVec.toNat_add, BitVec.toNat_ofNat, Nat.add_mod]

/-! ## The loop's label: its specification, met by its body -/

section Label
variable (c : Dev nD) (i : grid0.Coords)
  (arg3 : Memref sig .tc .vmem S1x1x512x64 .bf16) (harg3 : arg3.IsWhole) (arg4 : Memref sig .tc .vmem S1x1x8192x64 .bf16) (harg4 : arg4.IsWhole)
  (arg5 : Memref sig .tc .vmem S1x1x8192x64 .bf16) (harg5 : arg5.IsWhole)
  (arg8 : Memref sig .tc .vmem S512x128 .f32) (harg8 : arg8.IsWhole) (arg9 : Memref sig .tc .vmem S512x64 .f32) (harg9 : arg9.IsWhole)
  (x0 : Vec F S1x1x512x64 .bf16) (x1 x2 : Vec F S1x1x8192x64 .bf16) (v1 : FVec F S256x256 .bf16)

/-- The buffers the loop uses: the three blocks at their contents, the carried sums at `C`, the accumulator at `A`. -/
def held (C : Vec F S512x128 .f32) (A : Vec F S512x64 .f32) : sProp 𝕄 :=
  iprop(owns (c : Thread nD τ) arg3 fullShare x0 ∗ owns (c : Thread nD τ) arg4 fullShare x1 ∗ owns (c : Thread nD τ) arg5 fullShare x2
    ∗ owns (c : Thread nD τ) arg8 fullShare C ∗ owns (c : Thread nD τ) arg9 fullShare A)

/-- The label's specification with `k` trips to go: it hands the blocks back, and the scratch buffers as `loopF` says. -/
def spec (k j : ℕ) (M : F .f32) (C : Vec F S512x128 .f32) (A : Vec F S512x64 .f32) : sWPT 𝕄 (BitVec 32 × F .f32) := do
  sWPT.consume (held c arg3 arg4 arg5 arg8 arg9 x0 x1 x2 C A)
  let r ← sWPT.arbitrary
  sWPT.produce (held c arg3 arg4 arg5 arg8 arg9 x0 x1 x2 (loopF i x0 x1 x2 v1 k j M C A).1 (loopF i x0 x1 x2 v1 k j M C A).2)
  pure r

theorem spec_apply (k j : ℕ) (M : F .f32) (C : Vec F S512x128 .f32) (A : Vec F S512x64 .f32) (K : BitVec 32 × F .f32 → sProp 𝕄) :
    spec c i arg3 arg4 arg5 arg8 arg9 x0 x1 x2 v1 k j M C A K
      = iprop(held c arg3 arg4 arg5 arg8 arg9 x0 x1 x2 C A ∗ ∀ r : BitVec 32 × F .f32,
          (held c arg3 arg4 arg5 arg8 arg9 x0 x1 x2 (loopF i x0 x1 x2 v1 k j M C A).1 (loopF i x0 x1 x2 v1 k j M C A).2 -∗ K r)) := rfl

theorem spec_le (E : Set ℕ) :
    ∀ k j, j + k = 2 * (i 2).val → ∀ M C A K, spec c i arg3 arg4 arg5 arg8 arg9 x0 x1 x2 v1 k j M C A K
      ⊢ wp frame (wpE (defs₀ (F := F)) 𝒱₀ (c : Thread nD τ) (some k)) E
          (defs₀ (F := F) .tc 1 ⟨i, arg3, harg3, arg4, harg4, arg8, harg8, v1, arg9, harg9, arg5, harg5, BitVec.ofNat 32 j, M⟩) K := by
  intro k
  induction k with
  | zero =>
    intro j hj M C A K
    rw [spec_apply]
    show _ ⊢ wp frame (wpE (defs₀ (F := F)) 𝒱₀ (c : Thread nD τ) (some 0)) E
      (cc0_while1 i arg3 harg3 arg4 harg4 arg8 harg8 v1 arg9 harg9 arg5 harg5 (BitVec.ofNat 32 j) M) K
    simp only [cc0_while1_eq_skeleton]; unfold cc0_while1_skel
    obtain rfl : j = 2 * (i 2).val := by omega
    have htest : ¬ Scalar.andi (Scalar.cmpi .slt (BitVec.ofNat 32 (2 * (i 2).val)) (Scalar.muli (BitVec.ofNat 32 (i 2).val) 2#32))
        (Scalar.cmpf .ogt M (Named.named κ "dead_log" 0xC2D20000#32 : F .f32)) = 1#1 := by
      rw [not_slt]; simp [Scalar.andi, IntOp.andi]
    simp only [htest, ↓reduceIte, Prog.pure_eq_ret]
    iintro ⟨H, Hk⟩
    rw [wp_ret]; imodintro
    iapply Hk
    simp only [loopF]; iexact H
  | succ k ih =>
    intro j hj M C A K
    have hjT : j < 2 * (i 2).val := by omega
    rw [spec_apply]
    show _ ⊢ wp frame (wpE (defs₀ (F := F)) 𝒱₀ (c : Thread nD τ) (some (k + 1))) E
      (cc0_while1 i arg3 harg3 arg4 harg4 arg8 harg8 v1 arg9 harg9 arg5 harg5 (BitVec.ofNat 32 j) M) K
    simp only [cc0_while1_eq_skeleton]; unfold cc0_while1_skel
    by_cases hg : goes (F := F) M
    · have htest : Scalar.andi (Scalar.cmpi .slt (BitVec.ofNat 32 j) (Scalar.muli (BitVec.ofNat 32 (i 2).val) 2#32))
          (Scalar.cmpf .ogt M (Named.named κ "dead_log" 0xC2D20000#32 : F .f32)) = 1#1 := by
        unfold goes at hg
        rw [slt_of_lt i j hjT, hg]; rfl
      have hchk := chk_of_lt i j hjT
      have hloop : loopF i x0 x1 x2 v1 (k + 1) j M C A = loopF i x0 x1 x2 v1 k (j + 1)
          (k0_pay6 (stepC i x0 x1 v1 (BitVec.ofNat 32 j) hchk C)) (stepC i x0 x1 v1 (BitVec.ofNat 32 j) hchk C)
          (stepA i x0 x1 x2 v1 (BitVec.ofNat 32 j) hchk C A) := by
        rw [loopF, if_pos hg, dif_pos hchk]
      rw [hloop]
      simp only [htest, ↓reduceIte, k0_part5_eq_skeleton]
      unfold held owns
      iintro ⟨⟨⟨%f0, %hf0, H0⟩, ⟨%f1, %hf1, H1⟩, ⟨%f2, %hf2, H2⟩, ⟨%fC, %hfC, HC⟩, ⟨%fA, %hfA, HA⟩⟩, Hk⟩
      obtain rfl := harg3.eq_unread hf0; obtain rfl := harg4.eq_unread hf1; obtain rfl := harg5.eq_unread hf2
      obtain rfl := harg8.eq_unread hfC; obtain rfl := harg9.eq_unread hfA
      sl_exec
      rw [addi_succ]
      have e0 : View.readAt (Elt F) arg3.view rQ.toLoadRect (harg3.unread x0) = View.ld x0 rQ := by
        rw [View.readAt_eq_ld, hf0]
      have e1 : View.readAt (Elt F) arg4.view (rK i (BitVec.ofNat 32 j) hchk).toLoadRect (harg4.unread x1)
          = View.ld x1 (rK i (BitVec.ofNat 32 j) hchk) := by rw [View.readAt_eq_ld, hf1]
      have e2 : View.readAt (Elt F) arg5.view (rK i (BitVec.ofNat 32 j) hchk).toLoadRect (harg5.unread x2)
          = View.ld x2 (rK i (BitVec.ofNat 32 j) hchk) := by rw [View.readAt_eq_ld, hf2]
      have eC : View.readAt (Elt F) arg8.view (Rect.unit (s := S512x128) ![0, 0] S512x128.size inb_S512x128_S512x128_0_0).toLoadRect
          (harg8.unread C) = C := by
        rw [View.readAt_eq_ld, hfC]; exact View.ld_unit_zero (funext fun a => by fin_cases a <;> rfl) _ C
      have eA : View.readAt (Elt F) arg9.view (Rect.unit (s := S512x64) ![0, 0] S512x64.size inb_S512x64_S512x64_0_0).toLoadRect
          (harg9.unread A) = A := by
        rw [View.readAt_eq_ld, hfA]; exact View.ld_unit_zero (funext fun a => by fin_cases a <;> rfl) _ A
      -- what the trip leaves in the two scratch buffers
      have hC' : k0_pay5 (spec_le.sl.r_2 c i arg3 harg3 arg4 harg4 arg8 harg8 x0 x1 v1 j C hchk)
          (spec_le.sl.r_3 c i arg3 harg3 arg4 harg4 x0 x1 v1 j hchk) = stepC i x0 x1 v1 (BitVec.ofNat 32 j) hchk C := by
        show k0_pay5 (k0_pay45 v1 (View.readAt (Elt F) arg3.view rQ.toLoadRect (harg3.unread x0))
            (View.readAt (Elt F) arg4.view (rK i (BitVec.ofNat 32 j) hchk).toLoadRect (harg4.unread x1))
            (View.readAt (Elt F) arg8.view (Rect.unit (s := S512x128) ![0, 0] S512x128.size inb_S512x128_S512x128_0_0).toLoadRect (harg8.unread C)))
          (k0_pay46 v1 (View.readAt (Elt F) arg3.view rQ.toLoadRect (harg3.unread x0))
            (View.readAt (Elt F) arg4.view (rK i (BitVec.ofNat 32 j) hchk).toLoadRect (harg4.unread x1))) = _
        rw [e0, e1, eC]; rfl
      have hA' : k0_pay4 (spec_le.sl.r c i arg3 harg3 arg4 harg4 x0 x1 j hchk)
            (spec_le.sl.r_1 c i arg3 harg3 arg4 harg4 arg8 harg8 x0 x1 v1 j C hchk)
            (spec_le.sl.r_2 c i arg3 harg3 arg4 harg4 arg8 harg8 x0 x1 v1 j C hchk)
            (spec_le.sl.r_3 c i arg3 harg3 arg4 harg4 x0 x1 v1 j hchk)
            (View.readAt (Elt F) arg9.view (Rect.unit (s := S512x64) ![0, 0] S512x64.size inb_S512x64_S512x64_0_0).toLoadRect (harg9.unread A))
            (spec_le.sl.v229 c i arg5 harg5 x2 j hchk) = stepA i x0 x1 x2 v1 (BitVec.ofNat 32 j) hchk C A := by
        show k0_pay4 (k0_pay39 (View.readAt (Elt F) arg3.view rQ.toLoadRect (harg3.unread x0))
              (View.readAt (Elt F) arg4.view (rK i (BitVec.ofNat 32 j) hchk).toLoadRect (harg4.unread x1)))
            (k0_pay44 v1 (View.readAt (Elt F) arg3.view rQ.toLoadRect (harg3.unread x0))
              (View.readAt (Elt F) arg4.view (rK i (BitVec.ofNat 32 j) hchk).toLoadRect (harg4.unread x1))
              (View.readAt (Elt F) arg8.view (Rect.unit (s := S512x128) ![0, 0] S512x128.size inb_S512x128_S512x128_0_0).toLoadRect (harg8.unread C)))
            (k0_pay45 v1 (View.readAt (Elt F) arg3.view rQ.toLoadRect (harg3.unread x0))
              (View.readAt (Elt F) arg4.view (rK i (BitVec.ofNat 32 j) hchk).toLoadRect (harg4.unread x1))
              (View.readAt (Elt F) arg8.view (Rect.unit (s := S512x128) ![0, 0] S512x128.size inb_S512x128_S512x128_0_0).toLoadRect (harg8.unread C)))
            (k0_pay46 v1 (View.readAt (Elt F) arg3.view rQ.toLoadRect (harg3.unread x0))
              (View.readAt (Elt F) arg4.view (rK i (BitVec.ofNat 32 j) hchk).toLoadRect (harg4.unread x1)))
            (View.readAt (Elt F) arg9.view (Rect.unit (s := S512x64) ![0, 0] S512x64.size inb_S512x64_S512x64_0_0).toLoadRect (harg9.unread A))
            (View.readAt (Elt F) arg5.view (rK i (BitVec.ofNat 32 j) hchk).toLoadRect (harg5.unread x2)) = _
        rw [e0, e1, e2, eC, eA]; rfl
      have hM : spec_le.sl.v240 c i arg3 harg3 arg4 harg4 arg8 harg8 x0 x1 v1 j C hchk
          = stepC i x0 x1 v1 (BitVec.ofNat 32 j) hchk C := by
        unfold spec_le.sl.v240 spec_le.sl.HC_1
        exact (View.readCov_cons_toLoadRect _ _ _ _).trans hC'
      rw [hM]
      iapply (wp_call_spec 𝒱₀ (c : Thread nD τ) (some (k + 1)) E
        (spec c i arg3 arg4 arg5 arg8 arg9 x0 x1 x2 v1 k (j + 1) (k0_pay6 (stepC i x0 x1 v1 (BitVec.ofNat 32 j) hchk C))
          (stepC i x0 x1 v1 (BitVec.ofNat 32 j) hchk C) (stepA i x0 x1 x2 v1 (BitVec.ofNat 32 j) hchk C A)) k
        (fun u hu => by cases hu; exact Nat.lt_succ_self k) (ih (j + 1) (by omega) _ _ _))
      rw [spec_apply]; unfold held owns
      isplitl [H0 H1 H2 HC HA]
      · isplitl [H0]
        · iexists _; isplitr; · ipureintro; exact hf0
          iexact H0
        isplitl [H1]
        · iexists _; isplitr; · ipureintro; exact hf1
          iexact H1
        isplitl [H2]
        · iexists _; isplitr; · ipureintro; exact hf2
          iexact H2
        isplitl [HC]
        · iexists _; isplitr; swap; · iexact HC
          ipureintro; unfold spec_le.sl.HC_1
          exact (View.read_writes_full _ _ _ _ _).trans hC'
        · iexists _; isplitr; swap; · iexact HA
          ipureintro
          exact (View.read_writes_full _ _ _ _ _).trans hA'
      iintro %r H
      rw [wp_ret]; imodintro
      iapply Hk; iexact H
    · have htest : ¬ Scalar.andi (Scalar.cmpi .slt (BitVec.ofNat 32 j) (Scalar.muli (BitVec.ofNat 32 (i 2).val) 2#32))
          (Scalar.cmpf .ogt M (Named.named κ "dead_log" 0xC2D20000#32 : F .f32)) = 1#1 := by
        unfold goes at hg
        rw [slt_of_lt i j hjT]; intro h; apply hg; rw [← h]; unfold Scalar.andi IntOp.andi; generalize Scalar.cmpf .ogt M (Named.named κ "dead_log" 0xC2D20000#32 : F .f32) = b; revert b; decide
      simp only [htest, ↓reduceIte, Prog.pure_eq_ret]
      iintro ⟨H, Hk⟩
      rw [wp_ret]; imodintro
      iapply Hk
      rw [loopF, if_neg hg]; iexact H

end Label

end Cert.KernelIdeal.SB

end
-- ==== Proof.SB.Body.lean ====
/-
  The kernel's body at one grid point: its two own tiles, then the loop over the earlier ones (Loop.lean), as a pure
  function of the blocks it is given (`outF`), and the proof that the body leaves that in its output's buffer.
-/
module

public import proofs.«01_k».proof.Proof.SB.Loop

@[expose] public section

set_option maxRecDepth 16384

noncomputable section

namespace Cert.KernelIdeal.SB

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two own tiles, as a function of the blocks -/

section Own
variable (i : grid0.Coords) (x0 : Vec F S1x1x512x64 .bf16) (x1 x2 : Vec F S1x1x8192x64 .bf16) (x3 : Vec F S256x256 .bf16)

/-- The rows the two own tiles use of the scratch buffers: the first 256 and the last, and the whole. -/
abbrev r8Lo : Rect S512x128 := Rect.unit (s := S512x128) ![0, 0] S256x128.size inb_S512x128_S256x128_0_0
abbrev r8Hi : Rect S512x128 := Rect.unit (s := S512x128) ![256, 0] S256x128.size inb_S512x128_S256x128_256_0
abbrev r8 : Rect S512x128 := Rect.unit (s := S512x128) ![0, 0] S512x128.size inb_S512x128_S512x128_0_0
abbrev r9Lo : Rect S512x64 := Rect.unit (s := S512x64) ![0, 0] S256x64.size inb_S512x64_S256x64_0_0
abbrev r9Hi : Rect S512x64 := Rect.unit (s := S512x64) ![256, 0] S256x64.size inb_S512x64_S256x64_256_0
abbrev r9 : Rect S512x64 := Rect.unit (s := S512x64) ![0, 0] S512x64.size inb_S512x64_S512x64_0_0

/-- The triangular weights, the query rows, the key and value tiles as loaded. -/
def triF : FVec F S256x256 .bf16 :=
  k0_pay7 (View.ld x3 (Rect.unit (s := S256x256) ![0, 0] S256x256.size inb_S256x256_S256x256_0_0))
def qLo : Vec F S1x1x256x64 .bf16 :=
  View.ld x0 (Rect.unit (s := S1x1x512x64) ![0, 0, 0, 0] S1x1x256x64.size inb_S1x1x512x64_S1x1x256x64_0_0_0_0)
def qHi : Vec F S1x1x256x64 .bf16 :=
  View.ld x0 (Rect.unit (s := S1x1x512x64) ![0, 0, 256, 0] S1x1x256x64.size inb_S1x1x512x64_S1x1x256x64_0_0_256_0)
def kLo (x : Vec F S1x1x8192x64 .bf16) : Vec F S1x1x256x64 .bf16 :=
  View.ld x (Rect.unit (s := S1x1x8192x64) (k0_off1 i) S1x1x256x64.size (k0_off1_inb i))
def kHi (x : Vec F S1x1x8192x64 .bf16) : Vec F S1x1x512x64 .bf16 :=
  View.ld x (Rect.unit (s := S1x1x8192x64) (k0_off2 i) S1x1x512x64.size (k0_off2_inb i))

/-- The scratch buffers' stores before the loop, the last first, and what the tiles load of them between. -/
def L8z : List (View.Piece (Elt F) S512x128 .f32) := [⟨r8, k0_pay8⟩]
def L9z : List (View.Piece (Elt F) S512x64 .f32) := [⟨r9, k0_pay9⟩]
def c41 : Vec F S256x128 .f32 := fun j => View.canon (L8z (F := F)) (r8Lo.toLoadRect.idx j)
def a66 : Vec F S256x64 .f32 := fun j => View.canon (L9z (F := F)) (r9Lo.toLoadRect.idx j)
/-- The positions along a tile's keys and its rows. -/
abbrev io1 : IVec S256x256 32 := iota .tc S256x256 32 [1] iota_S256x256_d1_w32
abbrev io0 : IVec S256x256 32 := iota .tc S256x256 32 [0] iota_S256x256_d0_w32
def cLo : FVec F S256x128 .f32 := k0_pay20 (triF x3) (k0_pay11 (qLo x0) (kLo i x1)) io1 io0 k0_pay12 c41
def aLo : FVec F S256x64 .f32 :=
  k0_pay21 (triF x3) (k0_pay10 (qLo x0) (kLo i x1)) (k0_pay11 (qLo x0) (kLo i x1)) io1 io0 k0_pay12 c41 a66 (kLo i x2)
def L8a : List (View.Piece (Elt F) S512x128 .f32) := ⟨r8Lo, k0_pay22 (cLo i x0 x1 x3)⟩ :: L8z
def L9a : List (View.Piece (Elt F) S512x64 .f32) := ⟨r9Lo, aLo i x0 x1 x2 x3⟩ :: L9z
def c108 : Vec F S256x128 .f32 := fun j => View.canon (L8a i x0 x1 x3) (r8Hi.toLoadRect.idx j)
def a153 : Vec F S256x64 .f32 := fun j => View.canon (L9a i x0 x1 x2 x3) (r9Hi.toLoadRect.idx j)
def cHi : FVec F S256x128 .f32 :=
  k0_pay37 (triF x3) (k0_pay26 (qHi x0) (kHi i x1)) (k0_pay27 (qHi x0) (kHi i x1)) (c108 i x0 x1 x3) (k0_pay30 (triF x3) (qHi x0) (kHi i x1))
def aHi : FVec F S256x64 .f32 :=
  k0_pay38 (triF x3) (k0_pay23 (qHi x0) (kHi i x1)) k0_pay24 (k0_pay26 (qHi x0) (kHi i x1)) (k0_pay27 (qHi x0) (kHi i x1)) (c108 i x0 x1 x3)
    (k0_pay29 (triF x3) (qHi x0) (kHi i x1) (c108 i x0 x1 x3)) (k0_pay30 (triF x3) (qHi x0) (kHi i x1)) (a153 i x0 x1 x2 x3) (kHi i x2)
def L8 : List (View.Piece (Elt F) S512x128 .f32) := ⟨r8Hi, k0_pay1 (cHi i x0 x1 x3)⟩ :: L8a i x0 x1 x3
def L9 : List (View.Piece (Elt F) S512x64 .f32) := ⟨r9Hi, aHi i x0 x1 x2 x3⟩ :: L9a i x0 x1 x2 x3

/-- The scratch buffers when the loop starts. -/
def C0 : Vec F S512x128 .f32 := View.canon (L8 i x0 x1 x3)
def A0 : Vec F S512x64 .f32 := View.canon (L9 i x0 x1 x2 x3)

/-- What the body leaves in its output's buffer. -/
def outF : Vec F S1x1x512x64 .f32 :=
  k0_pay3 (loopF i x0 x1 x2 (triF x3) (2 * (i 2).val) 0 (k0_pay2 (C0 i x0 x1 x3)) (C0 i x0 x1 x3) (A0 i x0 x1 x2 x3)).2

theorem cover8 (y : S512x128.Idx) : ∃ pc ∈ L8 i x0 x1 x3, y ∈ pc.1.set :=
  ⟨⟨r8, k0_pay8⟩, by simp [L8, L8a, L8z], by
    show y ∈ r8.set
    rw [← Rect.emb_unit_full (s := S512x128) (off := ![0, 0]) inb_S512x128_S512x128_0_0 y]
    exact r8.toLoadRect.idx_mem _⟩
theorem cover9 (y : S512x64.Idx) : ∃ pc ∈ L9 i x0 x1 x2 x3, y ∈ pc.1.set :=
  ⟨⟨r9, k0_pay9⟩, by simp [L9, L9a, L9z], by
    show y ∈ r9.set
    rw [← Rect.emb_unit_full (s := S512x64) (off := ![0, 0]) inb_S512x64_S512x64_0_0 y]
    exact r9.toLoadRect.idx_mem _⟩

end Own

set_option maxHeartbeats 1000000 in
theorem body_run (c : Dev nD) (i : grid0.Coords) (arg3 : Memref sig .tc .vmem S1x1x512x64 .bf16) (harg3 : arg3.IsWhole) (arg4 : Memref sig .tc .vmem S1x1x8192x64 .bf16) (harg4 : arg4.IsWhole) (arg5 : Memref sig .tc .vmem S1x1x8192x64 .bf16) (harg5 : arg5.IsWhole) (arg6 : Memref sig .tc .vmem S256x256 .bf16) (harg6 : arg6.IsWhole) (arg7 : Memref sig .tc .vmem S1x1x512x64 .f32) (harg7 : arg7.IsWhole) (arg8 : Memref sig .tc .vmem S512x128 .f32) (harg8 : arg8.IsWhole) (arg9 : Memref sig .tc .vmem S512x64 .f32) (harg9 : arg9.IsWhole)
    (x0 : Vec F S1x1x512x64 .bf16) (x1 : Vec F S1x1x8192x64 .bf16) (x2 : Vec F S1x1x8192x64 .bf16) (x3 : Vec F S256x256 .bf16)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outF i x0 x1 x2 x3) ∗ (∃ d, owns (c : Thread nD τ) arg8 fullShare d) ∗ (∃ d, owns (c : Thread nD τ) arg9 fullShare d)) -∗ K ⟨⟩))
          ⊢ wp frame (wpE (defs₀ (F := F)) 𝒱₀ c none) E (cc0_stick_breaking i arg3 harg3 arg4 harg4 arg5 harg5 arg6 harg6 arg7 harg7 arg8 harg8 arg9 harg9) K := by
    simp only [cc0_stick_breaking_eq_skeleton]; unfold cc0_stick_breaking_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec
    -- the stores the run found are the ones named above
    have e3 : body_run.sl.r c arg6 harg6 x3 = triF x3 := by
      unfold body_run.sl.r triF; rw [View.readAt_eq_ld, hf3]
    have eqLo : View.readAt (Elt F) arg3.view (Rect.unit (s := S1x1x512x64) ![0, 0, 0, 0] S1x1x256x64.size inb_S1x1x512x64_S1x1x256x64_0_0_0_0).toLoadRect (harg3.unread x0) = qLo x0 := by
      rw [View.readAt_eq_ld, hf0]; rfl
    have eqHi : View.readAt (Elt F) arg3.view (Rect.unit (s := S1x1x512x64) ![0, 0, 256, 0] S1x1x256x64.size inb_S1x1x512x64_S1x1x256x64_0_0_256_0).toLoadRect (harg3.unread x0) = qHi x0 := by
      rw [View.readAt_eq_ld, hf0]; rfl
    have ekLo : View.readAt (Elt F) arg4.view (Rect.unit (s := S1x1x8192x64) (k0_off1 i) S1x1x256x64.size (k0_off1_inb i)).toLoadRect (harg4.unread x1) = kLo i x1 := by
      rw [View.readAt_eq_ld, hf1]; rfl
    have ekHi : View.readAt (Elt F) arg4.view (Rect.unit (s := S1x1x8192x64) (k0_off2 i) S1x1x512x64.size (k0_off2_inb i)).toLoadRect (harg4.unread x1) = kHi i x1 := by
      rw [View.readAt_eq_ld, hf1]; rfl
    have evLo : View.readAt (Elt F) arg5.view (Rect.unit (s := S1x1x8192x64) (k0_off1 i) S1x1x256x64.size (k0_off1_inb i)).toLoadRect (harg5.unread x2) = kLo i x2 := by
      rw [View.readAt_eq_ld, hf2]; rfl
    have evHi : View.readAt (Elt F) arg5.view (Rect.unit (s := S1x1x8192x64) (k0_off2 i) S1x1x512x64.size (k0_off2_inb i)).toLoadRect (harg5.unread x2) = kHi i x2 := by
      rw [View.readAt_eq_ld, hf2]; rfl
    have e1 : body_run.sl.r_1 c i arg3 harg3 arg4 harg4 x0 x1 = k0_pay10 (qLo x0) (kLo i x1) := by
      unfold body_run.sl.r_1; rw [eqLo, ekLo]
    have e2 : body_run.sl.r_2 c i arg3 harg3 arg4 harg4 x0 x1 = k0_pay11 (qLo x0) (kLo i x1) := by
      unfold body_run.sl.r_2; rw [eqLo, ekLo]
    have e41 : body_run.sl.v41 (F := F) c arg8 = c41 := by
      unfold body_run.sl.v41; rw [View.readCov_eq_canon']; rfl
    have ecLo : body_run.sl.r_3 c i arg3 harg3 arg4 harg4 arg6 harg6 arg8 x0 x1 x3 = cLo i x0 x1 x3 := by
      unfold body_run.sl.r_3 cLo; rw [e3, e2, e41]; rfl
    have e8a : body_run.sl.HS0_2 c i arg3 harg3 arg4 harg4 arg6 harg6 arg8 x0 x1 x3 = L8a i x0 x1 x3 := by
      unfold body_run.sl.HS0_2 L8a; rw [ecLo]; rfl
    have e108 : body_run.sl.v108 c i arg3 harg3 arg4 harg4 arg6 harg6 arg8 x0 x1 x3 = c108 i x0 x1 x3 := by
      unfold body_run.sl.v108 c108; rw [e8a, View.readCov_eq_canon']; rfl
    have e4 : body_run.sl.r_4 c i arg3 harg3 arg4 harg4 x0 x1 = k0_pay23 (qHi x0) (kHi i x1) := by
      unfold body_run.sl.r_4; rw [eqHi, ekHi]
    have e5 : body_run.sl.r_5 c i arg3 harg3 arg4 harg4 x0 x1 = k0_pay26 (qHi x0) (kHi i x1) := by
      unfold body_run.sl.r_5; rw [eqHi, ekHi]
    have e6 : body_run.sl.r_6 c i arg3 harg3 arg4 harg4 x0 x1 = k0_pay27 (qHi x0) (kHi i x1) := by
      unfold body_run.sl.r_6; rw [eqHi, ekHi]
    have e7 : body_run.sl.r_7 c i arg3 harg3 arg4 harg4 arg6 harg6 arg8 x0 x1 x3 = k0_pay29 (triF x3) (qHi x0) (kHi i x1) (c108 i x0 x1 x3) := by
      unfold body_run.sl.r_7; rw [e3, eqHi, ekHi, e108]
    have e8' : body_run.sl.r_8 c i arg3 harg3 arg4 harg4 arg6 harg6 x0 x1 x3 = k0_pay30 (triF x3) (qHi x0) (kHi i x1) := by
      unfold body_run.sl.r_8; rw [e3, eqHi, ekHi]
    have ecHi : body_run.sl.r_9 c i arg3 harg3 arg4 harg4 arg6 harg6 arg8 x0 x1 x3 = cHi i x0 x1 x3 := by
      unfold body_run.sl.r_9 cHi; rw [e3, e5, e6, e108, e8']
    have e8 : body_run.sl.HS0_3 c i arg3 harg3 arg4 harg4 arg6 harg6 arg8 x0 x1 x3 = L8 i x0 x1 x3 := by
      unfold body_run.sl.HS0_3 L8; rw [ecHi, e8a]
    have e9a : body_run.sl.HS1_2 c i arg3 harg3 arg4 harg4 arg5 harg5 arg6 harg6 arg8 arg9 x0 x1 x2 x3 = L9a i x0 x1 x2 x3 := by
      unfold body_run.sl.HS1_2 L9a aLo body_run.sl.v66
      rw [e3, e1, e2, e41, evLo, View.readCov_eq_canon']; rfl
    have e153 : body_run.sl.v153 c i arg3 harg3 arg4 harg4 arg5 harg5 arg6 harg6 arg8 arg9 x0 x1 x2 x3 = a153 i x0 x1 x2 x3 := by
      unfold body_run.sl.v153 a153; rw [e9a, View.readCov_eq_canon']; rfl
    have e9 : (⟨Rect.unit (s := S512x64) ![256, 0] S256x64.size inb_S512x64_S256x64_256_0,
          k0_pay38 (triF x3) (body_run.sl.r_4 c i arg3 harg3 arg4 harg4 x0 x1) k0_pay24
            (body_run.sl.r_5 c i arg3 harg3 arg4 harg4 x0 x1) (body_run.sl.r_6 c i arg3 harg3 arg4 harg4 x0 x1)
            (body_run.sl.v108 c i arg3 harg3 arg4 harg4 arg6 harg6 arg8 x0 x1 x3)
            (body_run.sl.r_7 c i arg3 harg3 arg4 harg4 arg6 harg6 arg8 x0 x1 x3)
            (body_run.sl.r_8 c i arg3 harg3 arg4 harg4 arg6 harg6 x0 x1 x3)
            (body_run.sl.v153 c i arg3 harg3 arg4 harg4 arg5 harg5 arg6 harg6 arg8 arg9 x0 x1 x2 x3)
            (View.readAt (Elt F) arg5.view (Rect.unit (s := S1x1x8192x64) (k0_off2 i) S1x1x512x64.size (k0_off2_inb i)).toLoadRect (harg5.unread x2))⟩ ::
        body_run.sl.HS1_2 c i arg3 harg3 arg4 harg4 arg5 harg5 arg6 harg6 arg8 arg9 x0 x1 x2 x3 : List (View.Piece (Elt F) S512x64 .f32)) = L9 i x0 x1 x2 x3 := by
      rw [e4, e5, e6, e108, e7, e8', e153, e9a, evHi]; rfl
    have eM : body_run.sl.v167 c i arg3 harg3 arg4 harg4 arg6 harg6 arg8 x0 x1 x3 = C0 i x0 x1 x3 := by
      unfold body_run.sl.v167; rw [e8, View.readCov_eq_canon']
      exact funext fun y => congrArg _ (Rect.emb_unit_full (s := S512x128) (off := ![0, 0]) inb_S512x128_S512x128_0_0 y)
    rw [e3, e8, eM]
    iapply (wp_call_spec 𝒱₀ (c : Thread nD τ) none E
      (spec c i arg3 arg4 arg5 arg8 arg9 x0 x1 x2 (triF x3) (2 * (i 2).val) 0 (k0_pay2 (C0 i x0 x1 x3)) (C0 i x0 x1 x3) (A0 i x0 x1 x2 x3))
      (2 * (i 2).val) (fun u hu => nomatch hu)
      (spec_le c i arg3 harg3 arg4 harg4 arg5 harg5 arg8 harg8 arg9 harg9 x0 x1 x2 (triF x3) E (2 * (i 2).val) 0 (Nat.zero_add _) _ _ _))
    rw [spec_apply]; unfold held owns
    isplitl [H0 H1 H2 HS0 HS1]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [HS0]
      · iexists _; isplitr; swap; · iexact HS0
        ipureintro; exact View.read_writes_eq_canon _ _ _ (cover8 i x0 x1 x3)
      · iexists _; isplitr; swap; · iexact HS1
        ipureintro; exact (congrArg (fun L => View.read (Elt F) arg9.view (arg9.view.writes (Elt F) fs1 L)) e9).trans
          (View.read_writes_eq_canon _ _ _ (cover9 i x0 x1 x2 x3))
    iintro %r ⟨⟨%g0, %hg0, H0⟩, ⟨%g1, %hg1, H1⟩, ⟨%g2, %hg2, H2⟩, ⟨%g8, %hg8, HS0⟩, ⟨%g9, %hg9, HS1⟩⟩
    sl_exec
    sl_step
    iapply Hk
    isplitl [H0]
    · iexists _; isplitr; · ipureintro; exact hg0
      iexact H0
    isplitl [H1]
    · iexists _; isplitr; · ipureintro; exact hg1
      iexact H1
    isplitl [H2]
    · iexists _; isplitr; · ipureintro; exact hg2
      iexact H2
    isplitl [H3]
    · iexists _; isplitr; · ipureintro; exact hf3
      iexact H3
    isplitl [H4]
    · iexists _; isplitr; swap; · iexact H4
      ipureintro
      refine (View.read_writes_full _ _ _ _ _).trans ?_
      unfold outF; rw [← hg9]
      refine congrArg _ ?_
      rw [View.readAt_eq_ld]; exact View.ld_unit_zero (funext fun a => by fin_cases a <;> rfl) _ _
    isplitl [HS0]
    · iexists _, _; isplitr; swap; · iexact HS0
      ipureintro; rfl
    · iexists _, _; isplitr; swap; · iexact HS1
      ipureintro; rfl

end Cert.KernelIdeal.SB

end
-- ==== Proof.SB.Run.lean ====
/-
  The kernel's run: what each window's buffer holds at each grid point, the body's obligation, the launch, and the frame
  claim at any float values.
-/
module

public import proofs.«01_k».proof.Proof.SB.Body

@[expose] public section

set_option maxRecDepth 16384

noncomputable section

namespace Cert.KernelIdeal.SB

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the output's buffer holds after the body at point `t`. -/
def outsAt0 (c : Dev nD) (t : Fin (cfg0 (F := F)).N) : Vec F S1x1x512x64 .f32 :=
  outF (grid0.coords t) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = (outsAt0 m c t) := by dsimp only [dats]; rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame_shared (Q' := _) (cfgs (F := F)) (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.SB

end
-- ==== Proof.SB.Math.lean ====
/-
  The extended-real arithmetic of stick-breaking attention over one query row: the log probability that a key is not
  taken, its sums from the end of the row backwards, the weights, and how one tile of keys extends the sums.
-/
module

public import Idealize.ShloMosaic.PureOps.Ideal
public import Mathlib.Algebra.BigOperators.Intervals

@[expose] public section

noncomputable section

namespace Cert.SBMath
open Idealize.ShloMosaic
open scoped BigOperators

/-- `log (1 - sigmoid z)`, as the softplus of `z` negated. -/
def cOf (z : EReal) : EReal := 0 - (max z 0 + Ideal.log (1 + Ideal.exp (0 - max z (-z))))

/-- The same with the row's causal mask: 0 at the keys from the row's own position on. -/
def cm (z : ℕ → EReal) (t s : ℕ) : EReal := if s < t then cOf (z s) else 0
/-- Its sum over the keys from `o` on. -/
def S (z : ℕ → EReal) (t o : ℕ) : EReal := ∑ s ∈ Finset.Ico o 8192, cm z t s
/-- The weight of key `s`. -/
def P (z : ℕ → EReal) (t s : ℕ) : EReal := if s < t then Ideal.exp (z s + S z t s) else 0
/-- The weighted values' sum over the keys from `o` on. -/
def acc (z v : ℕ → EReal) (t o : ℕ) : EReal := ∑ s ∈ Finset.Ico o 8192, P z t s * v s

theorem exp_nonneg (x : EReal) : 0 ≤ Ideal.exp x := by
  induction x using EReal.rec with
  | bot => exact le_refl _
  | top => exact le_top
  | coe r => exact EReal.coe_nonneg.mpr (Real.exp_pos r).le

theorem log_nonneg (x : EReal) (h : 1 ≤ x) : 0 ≤ Ideal.log x := by
  induction x using EReal.rec with
  | bot => exact absurd (le_bot_iff.mp h) (EReal.coe_ne_bot 1)
  | top => exact le_top
  | coe r =>
    have h1 : (1 : ℝ) ≤ r := by exact_mod_cast h
    show (0 : EReal) ≤ if r ≤ 0 then ⊥ else (Real.log r : EReal)
    rw [if_neg (by linarith)]
    exact EReal.coe_nonneg.mpr (Real.log_nonneg h1)

theorem zero_sub_nonpos (x : EReal) (h : 0 ≤ x) : 0 - x ≤ 0 := by
  rw [zero_sub]
  exact EReal.neg_le_zero.mpr h

theorem cOf_le (z : EReal) : cOf z ≤ 0 := by
  unfold cOf
  apply zero_sub_nonpos
  apply add_nonneg (le_max_right _ _)
  apply log_nonneg
  calc (1 : EReal) = 1 + 0 := (add_zero _).symm
    _ ≤ _ := by gcongr; exact exp_nonneg _

theorem cm_le (z : ℕ → EReal) (t s : ℕ) : cm z t s ≤ 0 := by
  unfold cm; split_ifs
  · exact cOf_le _
  · exact le_refl _

theorem add_sub_self (a : EReal) (h : a ≤ 0) : a + (a - a) = a := by
  induction a using EReal.rec with
  | bot => simp
  | top => simp at h
  | coe r => rw [← EReal.coe_sub, sub_self]; simp

theorem sum_Ico_split (f : ℕ → EReal) (o n : ℕ) (h : o + n ≤ 8192) :
    ∑ s ∈ Finset.Ico o 8192, f s = (∑ x : Fin n, f (o + x.val)) + ∑ s ∈ Finset.Ico (o + n) 8192, f s := by
  rw [← Finset.sum_Ico_consecutive f (Nat.le_add_right o n) h]
  congr 1
  rw [Finset.sum_Ico_eq_sum_range, Nat.add_sub_cancel_left, Finset.sum_range]

theorem S_split (z : ℕ → EReal) (t o n : ℕ) (h : o + n ≤ 8192) :
    S z t o = (∑ x : Fin n, cm z t (o + x.val)) + S z t (o + n) := sum_Ico_split _ _ _ h
theorem acc_split (z v : ℕ → EReal) (t o n : ℕ) (h : o + n ≤ 8192) :
    acc z v t o = (∑ x : Fin n, P z t (o + x.val) * v (o + x.val)) + acc z v t (o + n) := sum_Ico_split _ _ _ h

/-- No key from the row's own position on contributes. -/
theorem S_zero (z : ℕ → EReal) (t o : ℕ) (h : t ≤ o) : S z t o = 0 := by
  apply Finset.sum_eq_zero
  intro s hs
  rw [Finset.mem_Ico] at hs
  exact if_neg (by omega)
theorem acc_zero (z v : ℕ → EReal) (t o : ℕ) (h : t ≤ o) : acc z v t o = 0 := by
  apply Finset.sum_eq_zero
  intro s hs
  rw [Finset.mem_Ico] at hs
  show (if s < t then _ else (0 : EReal)) * v s = 0
  rw [if_neg (by omega), zero_mul]

/-- What one sub-block of 128 keys from `o` gives in lane `y` of the product with the triangular weights: in the
first 128 lanes the sum from key `o + y` on, in the others the sub-block's sum. -/
def R (z : ℕ → EReal) (t o y : ℕ) : EReal := ∑ x : Fin 128, if y < 128 ∧ x.val < y then 0 else cm z t (o + x.val)

theorem R_lo (z : ℕ → EReal) (t o y : ℕ) (h : o + 128 ≤ 8192) (hy : y < 128) : R z t o y + S z t (o + 128) = S z t (o + y) := by
  have e : R z t o y = ∑ x : Fin (128 - y), cm z t (o + y + x.val) := by
    unfold R
    have e1 : (∑ x : Fin 128, if y < 128 ∧ x.val < y then 0 else cm z t (o + x.val))
        = ∑ x ∈ Finset.range 128, if x < y then 0 else cm z t (o + x) := by
      rw [Finset.sum_range]; apply Finset.sum_congr rfl; intro x _; simp [hy]
    rw [e1, Finset.range_eq_Ico, ← Finset.sum_Ico_consecutive _ (Nat.zero_le y) hy.le]
    rw [Finset.sum_eq_zero, zero_add, Finset.sum_Ico_eq_sum_range, Finset.sum_range]
    · apply Finset.sum_congr rfl; intro x _
      rw [if_neg (by omega)]; congr 1; omega
    · intro x hx; rw [Finset.mem_Ico] at hx; exact if_pos (by omega)
  rw [e, S_split z t (o + y) (128 - y) (by omega)]
  congr 2; omega

theorem R_hi (z : ℕ → EReal) (t o y : ℕ) (h : o + 128 ≤ 8192) (hy : ¬ y < 128) : R z t o y + S z t (o + 128) = S z t o := by
  have e : R z t o y = ∑ x : Fin 128, cm z t (o + x.val) := by
    unfold R; apply Finset.sum_congr rfl; intro x _; simp [hy]
  rw [e, S_split z t o 128 h]

/-- The two stacked halves of the product, the values and what their narrowing lost, are the values' sum. -/
theorem tri_sum (f : Fin 128 → EReal) (hf : ∀ x, f x ≤ 0) (T0 T1 : Fin 128 → EReal) (y : ℕ)
    (h0 : ∀ x, T0 x = if y < 128 ∧ x.val < y then 0 else 1) (h1 : ∀ x, T1 x = if y < 128 ∧ x.val < y then 0 else 1) :
    ∑ x, f x * T0 x + ∑ x, (f x - f x) * T1 x = ∑ x : Fin 128, if y < 128 ∧ x.val < y then 0 else f x := by
  rw [← Finset.sum_add_distrib]
  apply Finset.sum_congr rfl; intro x _
  rw [h0, h1]
  split_ifs
  · simp
  · rw [mul_one, mul_one, add_sub_self _ (hf x)]

theorem S_le (z : ℕ → EReal) (t o : ℕ) : S z t o ≤ 0 := Finset.sum_nonpos fun s _ => cm_le z t s
theorem S_mono (z : ℕ → EReal) (t : ℕ) {o o' : ℕ} (h : o ≤ o') : S z t o ≤ S z t o' := by
  by_cases h8 : o' ≤ 8192
  · have e := S_split z t o (o' - o) (by omega)
    rw [show o + (o' - o) = o' by omega] at e
    rw [e]
    calc _ ≤ 0 + S z t o' := by
          gcongr; exact Finset.sum_nonpos fun s _ => cm_le z t _
      _ = _ := zero_add _
  · have : S z t o' = 0 := by
      unfold S; rw [Finset.Ico_eq_empty (by omega)]; rfl
    rw [this]; exact S_le z t o

/-- A row whose sum has reached `-∞` gets nothing from the keys before. -/
theorem acc_dead (z v : ℕ → EReal) (t o : ℕ) (ho : o ≤ 8192) (h : S z t o = ⊥) : acc z v t 0 = acc z v t o := by
  rw [acc_split z v t 0 o (by omega), zero_add, Finset.sum_eq_zero, zero_add]
  intro x _
  have hb : S z t (0 + x.val) = ⊥ := le_bot_iff.mp (h ▸ S_mono z t (by omega))
  unfold P
  split_ifs
  · rw [hb, EReal.add_bot]; exact zero_mul _
  · exact zero_mul _

end Cert.SBMath
-- ==== Proof.SB.RefMath.lean ====
/-
  The reference's arithmetic of one weight, in the extended reals: its log sigmoids against `cOf`, its exclusive suffix
  sums (the suffix sum less the term itself) against the inclusive ones, and the scale taken out of a product's sum.
-/
module

public import proofs.«01_k».proof.Proof.SB.Math

@[expose] public section

noncomputable section

namespace Cert.SBMath
open Idealize.ShloMosaic
open scoped BigOperators

/-- The log sigmoid of `x`, as the softplus of `-x` negated. -/
def lsg (x : EReal) : EReal := -(max (-x) 0 + Ideal.log (1 + Ideal.exp (-(max x (-x)))))

/-- The log sigmoid of `-z` is the log probability that a key is not taken. -/
theorem lsg_neg (z : EReal) : lsg (-z) = cOf z := by
  unfold lsg cOf
  rw [neg_neg, zero_sub, zero_sub, max_comm (-z) z]

theorem cOf_top : cOf ⊤ = ⊥ := by
  unfold cOf
  have h : (0 : EReal) - max ⊤ (-⊤) = ⊥ := by simp
  rw [h]
  show (0 : EReal) - (max ⊤ 0 + Ideal.log (1 + 0)) = ⊥
  have hl : Ideal.log (1 + 0) = 0 := by
    rw [add_zero]; show (if (1 : ℝ) ≤ 0 then (⊥ : EReal) else ((Real.log 1 : ℝ) : EReal)) = 0
    rw [if_neg (by norm_num), Real.log_one]; rfl
  rw [hl]; simp

theorem lsg_bot : lsg ⊥ = ⊥ := by
  unfold lsg
  have h : -(max (⊥ : EReal) (-⊥)) = ⊥ := by simp
  rw [h]
  have hl : Ideal.log (1 + Ideal.exp ⊥) = 0 := by
    show Ideal.log (1 + 0) = 0
    rw [add_zero]; show (if (1 : ℝ) ≤ 0 then (⊥ : EReal) else ((Real.log 1 : ℝ) : EReal)) = 0
    rw [if_neg (by norm_num), Real.log_one]; rfl
  rw [hl]; simp

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The softplus's second term at a number. -/
theorem log_coe (r : ℝ) : Ideal.log (1 + Ideal.exp (r : EReal)) = ((Real.log (1 + Real.exp r) : ℝ) : EReal) := by
  show Ideal.log (1 + ((Real.exp r : ℝ) : EReal)) = _
  rw [show (1 : EReal) + ((Real.exp r : ℝ) : EReal) = ((1 + Real.exp r : ℝ) : EReal) by push_cast; rfl]
  show (if 1 + Real.exp r ≤ 0 then (⊥ : EReal) else _) = _
  rw [if_neg (by have := Real.exp_pos r; linarith)]

/-- At a number the two log probabilities are numbers, and differ by the score. -/
theorem coe_case (r : ℝ) : ∃ c : ℝ, cOf (r : EReal) = (c : EReal) ∧ lsg (r : EReal) = ((r + c : ℝ) : EReal) := by
  refine ⟨-(max r 0 + Real.log (1 + Real.exp (-(max r (-r))))), ?_, ?_⟩
  · unfold cOf
    rw [← EReal.coe_neg, max_coe, zero_sub, zero_sub, ← EReal.coe_neg, log_coe, ← EReal.coe_zero, max_coe, ← EReal.coe_add, ← EReal.coe_neg]
  · unfold lsg
    rw [← EReal.coe_neg, max_coe, ← EReal.coe_neg, log_coe, ← EReal.coe_zero, max_coe, ← EReal.coe_add, ← EReal.coe_neg]
    congr 1
    rcases le_total r 0 with h | h
    · rw [max_eq_left (by linarith : (0:ℝ) ≤ -r), max_eq_right h]; ring
    · rw [max_eq_right (by linarith : -r ≤ (0:ℝ)), max_eq_left h]; ring

/-- The weight: the reference's log sigmoid plus the sum past the key is the score plus the sum from the key on. -/
theorem weight (z T : EReal) (hT : T ≤ 0) :
    Ideal.exp (lsg z + ((cOf z + T) - cOf z)) = Ideal.exp (z + (cOf z + T)) := by
  induction z using EReal.rec with
  | bot => rw [lsg_bot, EReal.bot_add, EReal.bot_add]
  | top => rw [cOf_top, EReal.bot_add, EReal.add_bot, sub_eq_add_neg, EReal.bot_add, EReal.add_bot]
  | coe r =>
    obtain ⟨c, h1, h2⟩ := coe_case r
    rw [h1, h2]
    induction T using EReal.rec with
    | bot => rw [EReal.add_bot, sub_eq_add_neg, EReal.bot_add, EReal.add_bot, EReal.add_bot]
    | top => exact absurd hT (by simp)
    | coe x =>
      rw [← EReal.coe_add, ← EReal.coe_sub, ← EReal.coe_add, ← EReal.coe_add]
      congr 2; ring

/-- A nonnegative number taken out of a sum. -/
theorem sum_mul {n : ℕ} (f : Fin n → EReal) (c : EReal) (h0 : 0 ≤ c) (h1 : c ≠ ⊤) : (∑ i, f i) * c = ∑ i, f i * c := by
  have h : ∀ s : Finset (Fin n), (∑ i ∈ s, f i) * c = ∑ i ∈ s, f i * c := by
    intro s
    induction s using Finset.induction_on with
    | empty => simp
    | insert a s ha ih => rw [Finset.sum_insert ha, Finset.sum_insert ha, EReal.right_distrib_of_nonneg_of_ne_top h0 h1, ih]
  exact h _

/-- The reference's sum over the keys is the weighted sum from the first key on. -/
theorem acc_of (z v : ℕ → EReal) (t : ℕ) (ht : t < 8192) :
    ∑ s : Fin 8192, (if s.val < t then Ideal.exp (lsg (z s.val) + (S z t s.val - cm z t s.val)) else 0) * v s.val = acc z v t 0 := by
  unfold acc
  rw [← Finset.range_eq_Ico, Finset.sum_range]
  refine Finset.sum_congr rfl fun s _ => ?_
  congr 1
  unfold P
  by_cases h : s.val < t
  · rw [if_pos h, if_pos h]
    have hS : S z t s.val = cOf (z s.val) + S z t (s.val + 1) := by
      unfold S
      rw [Finset.sum_eq_sum_Ico_succ_bot (by omega)]
      unfold cm
      rw [if_pos h]
    have hc : cm z t s.val = cOf (z s.val) := by unfold cm; rw [if_pos h]
    rw [hc, hS]
    exact weight _ _ (S_le _ _ _)
  · rw [if_neg h, if_neg h]

end Cert.SBMath

end
-- ==== Proof.SB.Tiles.lean ====
/-
  The tiles of the kernel at an index: what one tile of keys adds to a row's running sum of log probabilities and to its
  weighted values, in the terms of Math.lean.
-/
module

public import proofs.«01_k».proof.Proof.SB.Run
public import proofs.«01_k».proof.Proof.SB.Math
public import Idealize.ShloMosaic.Lib.Pointwise

@[expose] public section

set_option maxRecDepth 16384

noncomputable section

namespace Cert.KernelIdeal.SB
open Idealize.ShloMosaic Cert.KernelIdeal Cert.KernelIdeal.Gen Cert.SBMath

local notation "II" => Idealize.ShloMosaic.Ideal

/-- The triangular weights: 0 above the diagonal of the first half's lanes, 1 elsewhere; the two halves of rows alike. -/
def IsTri (tri : FVec II S256x256 .bf16) : Prop :=
  ∀ i y : Fin 256, tri (ix2 i y) = if y.val < 128 ∧ i.val % 128 < y.val then (0 : EReal) else 1

theorem tri_sum' {tri : FVec II S256x256 .bf16} (ht : IsTri tri) (f : Fin 128 → EReal) (z : ℕ → EReal) (t o : ℕ)
    (hf : ∀ x, f x = cm z t (o + x.val)) (y : Fin 256) (h0 : ∀ x : Fin 128, x.val < 256) (h1 : ∀ x : Fin 128, 128 + x.val < 256) :
    ∑ x : Fin 128, f x * tri (ix2 ⟨x.val, h0 x⟩ y) + ∑ x : Fin 128, (f x - f x) * tri (ix2 ⟨128 + x.val, h1 x⟩ y)
      = R z t o y.val := by
  rw [tri_sum f (fun x => hf x ▸ cm_le z t _) _ _ y.val
    (fun x => by rw [ht]; simp only [Nat.mod_eq_of_lt x.isLt])
    (fun x => by rw [ht]; simp only [Nat.add_mod_left, Nat.mod_eq_of_lt x.isLt])]
  unfold R
  simp only [hf]

/-! ## The tiles of the loop: 512 rows by 256 keys, none of them masked -/

section Back
variable (tri : FVec II S256x256 .bf16) (ht : IsTri tri)
  (q : Vec II S1x1x512x64 .bf16) (k v : Vec II S1x1x256x64 .bf16) (C : Vec II S512x128 .f32) (A : Vec II S512x64 .f32)
  (z : Fin 512 → ℕ → EReal) (T : Fin 512 → ℕ) (vv : Fin 64 → ℕ → EReal) (o : ℕ) (ho : o + 256 ≤ 8192)
  (hz : ∀ (r : Fin 512) (x : Fin 256), ∑ d : Fin 64, q (ix4 0 0 r d) * k (ix4 0 0 x d) = z r (o + x.val))
  (hT : ∀ r, o + 256 ≤ T r)
  (hv : ∀ (x : Fin 256) d, v (ix4 0 0 x d) = vv d (o + x.val))
  (hC : ∀ r (y : Fin 128), C (ix2 r y) = S (z r) (T r) (o + 256))
  (hA : ∀ r d, A (ix2 r d) = acc (z r) (vv d) (T r) (o + 256))

include hz in
theorem p39_at (r : Fin 512) (x : Fin 256) : k0_pay39 q k (ix2 r x) = z r (o + x.val) := by
  pointwise [k0_pay39]; exact hz r x

include hz hT in
theorem p40_at (r : Fin 512) (x : Fin 256) : k0_pay40 q k (ix2 r x) = cm (z r) (T r) (o + x.val) := by
  pointwise [k0_pay40]
  rw [p39_at q k z o hz]
  unfold cm
  rw [if_pos (by have := hT r; omega)]
  rfl

include ht hz hT in
theorem p43_at (r : Fin 512) (y : Fin 256) : k0_pay43 tri q k (ix2 r y) = R (z r) (T r) (o + 128) y.val := by
  pointwise [k0_pay43, k0_pay42, k0_pay41]
  exact tri_sum' ht (fun x => k0_pay40 q k (ix2 r ⟨128 + x.val, by omega⟩)) _ _ _
    (fun x => by rw [p40_at q k z T o hz hT]; congr 1; simp only; omega) y _ _

include ht hz hT in
theorem p46_at (r : Fin 512) (y : Fin 256) : k0_pay46 tri q k (ix2 r y) = R (z r) (T r) o y.val := by
  pointwise [k0_pay46, k0_pay42, k0_pay41]
  exact tri_sum' ht (fun x => k0_pay40 q k (ix2 r ⟨x.val, by omega⟩)) _ _ _
    (fun x => by rw [p40_at q k z T o hz hT]) y _ _

include ht hz hT hC ho in
theorem back_C (r : Fin 512) (y : Fin 128) :
    k0_pay5 (k0_pay45 tri q k C) (k0_pay46 tri q k) (ix2 r y) = S (z r) (T r) o := by
  pointwise [k0_pay5, k0_pay45]
  rw [p43_at tri ht q k z T o hz hT, p46_at tri ht q k z T o hz hT, hC]
  rw [add_comm (S _ _ _), show o + 256 = o + 128 + 128 by omega, R_hi _ _ (o + 128) _ (by omega) (by simp), add_comm,
    R_hi _ _ o _ (by omega) (by simp)]

include ht hz hT hC hA hv ho in
theorem back_A (r : Fin 512) (d : Fin 64) :
    k0_pay4 (k0_pay39 q k) (k0_pay44 tri q k C) (k0_pay45 tri q k C) (k0_pay46 tri q k) A v (ix2 r d)
      = acc (z r) (vv d) (T r) o := by
  pointwise [k0_pay4, k0_pay44, k0_pay45]
  have hTr := hT r
  rw [acc_split _ _ _ o 128 (by omega), acc_split _ _ _ (o + 128) 128 (by omega), hA, add_comm (acc _ _ _ _), add_assoc]
  congr 1
  · apply Finset.sum_congr rfl; intro x _
    rw [p39_at q k z o hz, p43_at tri ht q k z T o hz hT, p46_at tri ht q k z T o hz hT, hC, hv]
    rw [add_comm (S _ _ _), show o + 256 = o + 128 + 128 by omega, R_hi _ _ (o + 128) _ (by omega) (by simp), add_assoc,
      R_lo _ _ o _ (by omega) x.isLt]
    unfold P; rw [if_pos (by omega)]
  congr 1
  · apply Finset.sum_congr rfl; intro x _
    rw [p39_at q k z o hz, p43_at tri ht q k z T o hz hT, hC, hv]
    simp only
    rw [show o + 256 = o + 128 + 128 by omega, add_assoc (z r _),
      R_lo _ _ (o + 128) _ (by omega) x.isLt, show o + (128 + x.val) = o + 128 + x.val by omega]
    unfold P; rw [if_pos (by omega)]

end Back

/-! ## The first own tile: 256 rows by the 256 keys at their own positions -/

theorem slt_at (a b : ℕ) (ha : a < 2 ^ 31) (hb : b < 2 ^ 31) :
    IntOp.cmpi .slt (BitVec.ofNat 32 a) (BitVec.ofNat 32 b) = if a < b then 1#1 else 0#1 := by
  have ea : (BitVec.ofNat 32 a).toInt = a := by
    rw [BitVec.toInt_eq_toNat_of_lt] <;> rw [BitVec.toNat_ofNat, Nat.mod_eq_of_lt (by omega)]; omega
  have eb : (BitVec.ofNat 32 b).toInt = b := by
    rw [BitVec.toInt_eq_toNat_of_lt] <;> rw [BitVec.toNat_ofNat, Nat.mod_eq_of_lt (by omega)]; omega
  show BitVec.ofBool ((BitVec.ofNat 32 a).slt (BitVec.ofNat 32 b)) = _
  rw [BitVec.slt_eq_decide, ea, eb]
  split_ifs with h
  · rw [decide_eq_true (by exact_mod_cast h)]; rfl
  · rw [decide_eq_false (by exact_mod_cast h)]; rfl

section Lo
variable (tri : FVec II S256x256 .bf16) (ht : IsTri tri)
  (q : Vec II S1x1x256x64 .bf16) (k v : Vec II S1x1x256x64 .bf16) (C : Vec II S256x128 .f32) (A : Vec II S256x64 .f32)
  (z : Fin 256 → ℕ → EReal) (vv : Fin 64 → ℕ → EReal) (o : ℕ) (ho : o + 256 ≤ 8192)
  (hz : ∀ (r : Fin 256) (x : Fin 256), ∑ d : Fin 64, q (ix4 0 0 r d) * k (ix4 0 0 x d) = z r (o + x.val))
  (hv : ∀ (x : Fin 256) d, v (ix4 0 0 x d) = vv d (o + x.val))
  (hC : ∀ r (y : Fin 128), C (ix2 r y) = 0)
  (hA : ∀ r d, A (ix2 r d) = 0)

include hz in
theorem p10_at (r : Fin 256) (x : Fin 256) : k0_pay10 q k (ix2 r x) = z r (o + x.val) := by
  pointwise [k0_pay10]; exact hz r x

theorem p13_at (r x : Fin 256) : k0_pay13 io1 io0 k0_pay12 (ix2 r x) = if x.val < r.val then 1#1 else 0#1 := by
  pointwise [k0_pay13, k0_pay12]
  rw [show IntOp.addi 0#32 (BitVec.ofNat 32 r.val) = BitVec.ofNat 32 r.val from BitVec.zero_add _]
  exact slt_at _ _ (by omega) (by omega)

include hz in
theorem p14_at (r : Fin 256) (x : Fin 256) :
    k0_pay14 (k0_pay11 q k) io1 io0 k0_pay12 (ix2 r x) = cm (z r) (o + r.val) (o + x.val) := by
  pointwise [k0_pay14, k0_pay11]
  rw [p13_at, p10_at q k z o hz]
  unfold cm
  by_cases h : x.val < r.val
  · rw [if_pos h, if_pos (by omega)]; rfl
  · rw [if_neg h, if_neg (by omega)]; rfl

include ht hz in
theorem p17_at (r : Fin 256) (y : Fin 256) :
    k0_pay17 tri (k0_pay11 q k) io1 io0 k0_pay12 (ix2 r y) = R (z r) (o + r.val) (o + 128) y.val := by
  pointwise [k0_pay17, k0_pay15, k0_pay16]
  exact tri_sum' ht (fun x => k0_pay14 (k0_pay11 q k) io1 io0 k0_pay12 (ix2 r ⟨128 + x.val, by omega⟩)) _ _ _
    (fun x => by rw [p14_at q k z o hz]; congr 1; simp only; omega) y _ _

include ht hz in
theorem p19_at (r : Fin 256) (y : Fin 256) :
    k0_pay19 tri (k0_pay11 q k) io1 io0 k0_pay12 (ix2 r y) = R (z r) (o + r.val) o y.val := by
  pointwise [k0_pay19, k0_pay15, k0_pay16]
  exact tri_sum' ht (fun x => k0_pay14 (k0_pay11 q k) io1 io0 k0_pay12 (ix2 r ⟨x.val, by omega⟩)) _ _ _
    (fun x => by rw [p14_at q k z o hz]) y _ _

include ht hz hC ho in
theorem lo_C (r : Fin 256) (y : Fin 128) :
    k0_pay20 tri (k0_pay11 q k) io1 io0 k0_pay12 C (ix2 r y) = S (z r) (o + r.val) o := by
  pointwise [k0_pay20, k0_pay18]
  rw [p17_at tri ht q k z o hz, p19_at tri ht q k z o hz, hC, ← S_zero (z r) (o + r.val) (o + 128 + 128) (by omega)]
  rw [add_comm (S _ _ _), R_hi _ _ (o + 128) _ (by omega) (by simp), add_comm, R_hi _ _ o _ (by omega) (by simp)]

include ht hz hC hA hv ho in
theorem lo_A (r : Fin 256) (d : Fin 64) :
    k0_pay21 tri (k0_pay10 q k) (k0_pay11 q k) io1 io0 k0_pay12 C A v (ix2 r d) = acc (z r) (vv d) (o + r.val) o := by
  pointwise [k0_pay21, k0_pay18]
  have hC' : ∀ y : Fin 128, C (ix2 r y) = S (z r) (o + r.val) (o + 128 + 128) := fun y => (hC r y).trans (S_zero _ _ _ (by omega)).symm
  rw [hA, acc_split _ _ _ o 128 (by omega), acc_split _ _ _ (o + 128) 128 (by omega), acc_zero _ _ _ (o + 128 + 128) (by omega),
    zero_add, add_zero]
  congr 1
  · apply Finset.sum_congr rfl; intro x _
    rw [p13_at, p10_at q k z o hz, p17_at tri ht q k z o hz, p19_at tri ht q k z o hz, hC', hv]
    rw [add_comm (S _ _ _), R_hi _ _ (o + 128) _ (by omega) (by simp), add_assoc, R_lo _ _ o _ (by omega) x.isLt]
    unfold P
    by_cases h : x.val < r.val
    · rw [if_pos h, if_pos (by omega)]; rfl
    · rw [if_neg h, if_neg (by omega), zero_mul]; rfl
  · apply Finset.sum_congr rfl; intro x _
    rw [p13_at, p10_at q k z o hz, p17_at tri ht q k z o hz, hC', hv]
    simp only
    rw [add_assoc (z r _), R_lo _ _ (o + 128) _ (by omega) x.isLt, show o + (128 + x.val) = o + 128 + x.val by omega]
    unfold P
    by_cases h : 128 + x.val < r.val
    · rw [if_pos h, if_pos (by omega)]; rfl
    · rw [if_neg h, if_neg (by omega), zero_mul]; rfl

end Lo

/-! ## The second own tile: 256 rows by the 512 keys up to their own positions -/

section Hi
variable (tri : FVec II S256x256 .bf16) (ht : IsTri tri)
  (q : Vec II S1x1x256x64 .bf16) (k v : Vec II S1x1x512x64 .bf16) (C : Vec II S256x128 .f32) (A : Vec II S256x64 .f32)
  (z : Fin 256 → ℕ → EReal) (vv : Fin 64 → ℕ → EReal) (o : ℕ) (ho : o + 512 ≤ 8192)
  (hz : ∀ (r : Fin 256) (x : Fin 512), ∑ d : Fin 64, q (ix4 0 0 r d) * k (ix4 0 0 x d) = z r (o + x.val))
  (hv : ∀ (x : Fin 512) d, v (ix4 0 0 x d) = vv d (o + x.val))
  (hC : ∀ r (y : Fin 128), C (ix2 r y) = 0)
  (hA : ∀ r d, A (ix2 r d) = 0)

include hz in
theorem p23_at (r : Fin 256) (x : Fin 512) : k0_pay23 q k (ix2 r x) = z r (o + x.val) := by
  pointwise [k0_pay23]; exact hz r x

theorem p24_at (r : Fin 256) (x : Fin 512) : k0_pay24 (ix2 r x) = if x.val < 256 + r.val then 1#1 else 0#1 := by
  pointwise [k0_pay24]
  rw [show IntOp.addi 256#32 (BitVec.ofNat 32 r.val) = BitVec.ofNat 32 (256 + r.val) from (BitVec.ofNat_add 256 r.val).symm]
  exact slt_at _ _ (by omega) (by omega)

include hz in
theorem p25_at (r : Fin 256) (x : Fin 512) : k0_pay25 q k (ix2 r x) = cm (z r) (o + 256 + r.val) (o + x.val) := by
  pointwise [k0_pay25]
  rw [p24_at, p23_at q k z o hz]
  unfold cm
  by_cases h : x.val < 256 + r.val
  · rw [if_pos h, if_pos (by omega)]; rfl
  · rw [if_neg h, if_neg (by omega)]; rfl

include ht hz in
theorem p28_at (r : Fin 256) (y : Fin 256) :
    k0_pay28 tri q k (ix2 r y) = R (z r) (o + 256 + r.val) (o + 384) y.val := by
  pointwise [k0_pay28, k0_pay27, k0_pay26]
  exact tri_sum' ht (fun x => k0_pay25 q k (ix2 r ⟨384 + x.val, by omega⟩)) _ _ _
    (fun x => by rw [p25_at q k z o hz]; congr 1; simp only; omega) y _ _

include ht hz in
theorem p32_at (r : Fin 256) (y : Fin 256) :
    k0_pay32 tri (k0_pay26 q k) (k0_pay27 q k) (ix2 r y) = R (z r) (o + 256 + r.val) (o + 256) y.val := by
  pointwise [k0_pay32, k0_pay27, k0_pay26]
  exact tri_sum' ht (fun x => k0_pay25 q k (ix2 r ⟨256 + x.val, by omega⟩)) _ _ _
    (fun x => by rw [p25_at q k z o hz]; congr 1; simp only; omega) y _ _

include ht hz in
theorem p34_at (r : Fin 256) (y : Fin 256) :
    k0_pay34 tri (k0_pay26 q k) (k0_pay27 q k) (ix2 r y) = R (z r) (o + 256 + r.val) (o + 128) y.val := by
  pointwise [k0_pay34, k0_pay27, k0_pay26]
  exact tri_sum' ht (fun x => k0_pay25 q k (ix2 r ⟨128 + x.val, by omega⟩)) _ _ _
    (fun x => by rw [p25_at q k z o hz]; congr 1; simp only; omega) y _ _

include ht hz in
theorem p36_at (r : Fin 256) (y : Fin 256) :
    k0_pay36 tri (k0_pay26 q k) (k0_pay27 q k) (ix2 r y) = R (z r) (o + 256 + r.val) o y.val := by
  pointwise [k0_pay36, k0_pay27, k0_pay26]
  exact tri_sum' ht (fun x => k0_pay25 q k (ix2 r ⟨x.val, by omega⟩)) _ _ _
    (fun x => by rw [p25_at q k z o hz]) y _ _

/-- The running sum after each sub-block. -/
theorem sum384 (r : Fin 256) (y : ℕ) (hy : ¬ y < 128) (ho : o + 512 ≤ 8192) :
    0 + R (z r) (o + 256 + r.val) (o + 384) y = S (z r) (o + 256 + r.val) (o + 384) := by
  rw [← S_zero (z r) (o + 256 + r.val) (o + 384 + 128) (by omega), add_comm, R_hi _ _ (o + 384) _ (by omega) hy]

include ht hz hC ho in
theorem p31_at (r : Fin 256) (y : Fin 128) :
    k0_pay31 C (k0_pay30 tri q k) (ix2 r y) = S (z r) (o + 256 + r.val) (o + 384) := by
  pointwise [k0_pay31, k0_pay30]
  rw [p28_at tri ht q k z o hz, hC]
  exact sum384 z o r _ (by simp) ho

include ht hz hC ho in
theorem p33_at (r : Fin 256) (y : Fin 128) :
    k0_pay33 tri (k0_pay26 q k) (k0_pay27 q k) C (k0_pay30 tri q k) (ix2 r y) = S (z r) (o + 256 + r.val) (o + 256) := by
  pointwise [k0_pay33]
  rw [p31_at tri ht q k C z o ho hz hC, p32_at tri ht q k z o hz, add_comm]
  exact R_hi _ _ (o + 256) _ (by omega) (by simp)

include ht hz hC ho in
theorem p35_at (r : Fin 256) (y : Fin 128) :
    k0_pay35 tri (k0_pay26 q k) (k0_pay27 q k) C (k0_pay30 tri q k) (ix2 r y) = S (z r) (o + 256 + r.val) (o + 128) := by
  pointwise [k0_pay35]
  rw [p33_at tri ht q k C z o ho hz hC, p34_at tri ht q k z o hz, add_comm]
  exact R_hi _ _ (o + 128) _ (by omega) (by simp)

include ht hz hC ho in
theorem hi_C (r : Fin 256) (y : Fin 128) :
    k0_pay37 tri (k0_pay26 q k) (k0_pay27 q k) C (k0_pay30 tri q k) (ix2 r y) = S (z r) (o + 256 + r.val) o := by
  pointwise [k0_pay37]
  rw [p35_at tri ht q k C z o ho hz hC, p36_at tri ht q k z o hz, add_comm]
  exact R_hi _ _ o _ (by omega) (by simp)

include ht hz hC ho in
theorem p29_at (r : Fin 256) (y : Fin 128) :
    k0_pay29 tri q k C (ix2 r y) = z r (o + 384 + y.val) + S (z r) (o + 256 + r.val) (o + 384 + y.val) := by
  pointwise [k0_pay29]
  rw [p23_at q k z o hz, p28_at tri ht q k z o hz, hC, ← S_zero (z r) (o + 256 + r.val) (o + 384 + 128) (by omega),
    add_assoc (z r _), R_lo _ _ (o + 384) _ (by omega) y.isLt]
  simp only
  rw [show o + (384 + y.val) = o + 384 + y.val by omega]

include ht hz hC hA hv ho in
theorem hi_A (r : Fin 256) (d : Fin 64) :
    k0_pay38 tri (k0_pay23 q k) k0_pay24 (k0_pay26 q k) (k0_pay27 q k) C (k0_pay29 tri q k C) (k0_pay30 tri q k) A v (ix2 r d)
      = acc (z r) (vv d) (o + 256 + r.val) o := by
  pointwise [k0_pay38]
  rw [hA, acc_split _ _ _ o 512 (by omega), acc_zero _ _ _ (o + 512) (by omega), zero_add, add_zero]
  apply Finset.sum_congr rfl; intro x _
  rw [p24_at, hv]
  have key : ∀ L : EReal, L = z r (o + x.val) + S (z r) (o + 256 + r.val) (o + x.val) →
      Scalar.select (if x.val < 256 + r.val then 1#1 else 0#1) (Ideal.exp L * vv d (o + x.val)) 0
        = P (z r) (o + 256 + r.val) (o + x.val) * vv d (o + x.val) := by
    rintro _ rfl
    unfold P
    by_cases h : x.val < 256 + r.val
    · rw [if_pos h, if_pos (by omega)]; rfl
    · rw [if_neg h, if_neg (by omega), zero_mul]; rfl
  apply key
  by_cases h1 : x.val < 128
  · rw [dif_pos h1, p23_at q k z o hz, p36_at tri ht q k z o hz, p35_at tri ht q k C z o ho hz hC, add_assoc,
      R_lo _ _ o _ (by omega) h1]
  rw [dif_neg h1]
  by_cases h2 : x.val - 128 < 128
  · rw [dif_pos h2, p23_at q k z o hz, p34_at tri ht q k z o hz, p33_at tri ht q k C z o ho hz hC, add_assoc,
      R_lo _ _ (o + 128) _ (by omega) h2]
    simp only
    rw [show o + 128 + (x.val - 128) = o + x.val by omega, show o + (128 + (x.val - 128)) = o + x.val by omega]
  rw [dif_neg h2]
  by_cases h3 : x.val - 128 - 128 < 128
  · rw [dif_pos h3, p23_at q k z o hz, p32_at tri ht q k z o hz, p31_at tri ht q k C z o ho hz hC, add_assoc,
      R_lo _ _ (o + 256) _ (by omega) h3]
    simp only
    rw [show o + 256 + (x.val - 128 - 128) = o + x.val by omega, show o + (256 + (x.val - 128 - 128)) = o + x.val by omega]
  rw [dif_neg h3, p29_at tri ht q k C z o ho hz hC]
  simp only
  rw [show o + 384 + (x.val - 128 - 128 - 128) = o + x.val by omega]

end Hi

end Cert.KernelIdeal.SB
-- ==== Proof.SB.Inv.lean ====
/-
  What the kernel's body leaves in its output's block, at an index: the loop keeps the running sum and the weighted
  values of Math.lean, and where it stops early every row's sum is `-∞`, so the keys left out have weight 0.
-/
module

public import proofs.«01_k».proof.Proof.SB.Tiles

@[expose] public section

set_option maxRecDepth 16384

noncomputable section

namespace Cert.KernelIdeal.SB
open Idealize.ShloMosaic Cert.KernelIdeal Cert.KernelIdeal.Gen Cert.SBMath

local notation "II" => Idealize.ShloMosaic.Ideal

/-! ## Loads at an index -/

theorem ld_rows {n k : ℕ} {off : Fin 4 → ℕ} (o : ℕ) (hoff : off = ![0, 0, o, 0]) (x : Vec II ⟨4, ![1, 1, n, 64]⟩ .bf16)
    (inb : ∀ a, off a + (![1, 1, k, 64] : Fin 4 → ℕ) a ≤ (⟨4, ![1, 1, n, 64]⟩ : Shape).size a)
    (y : Fin k) (d : Fin 64) (h : o + y.val < n) :
    View.ld x (Rect.unit (s := ⟨4, ![1, 1, n, 64]⟩) off ![1, 1, k, 64] inb) (ix4 0 0 y d) = x (ix4 0 0 ⟨o + y.val, h⟩ d) := by
  subst hoff
  show x _ = x _
  congr 1
  funext a
  fin_cases a
  · rfl
  · rfl
  · apply Fin.ext
    show o + 1 * y.val = o + y.val
    omega
  · apply Fin.ext
    show 0 + 1 * d.val = d.val
    omega

theorem off1_eq (i : grid0.Coords) : k0_off1 i = ![0, 0, 512 * (i 2).val, 0] := by
  have hi : (i 2).val < 16 := (i 2).isLt
  have hall : ∀ q < 16, (Scalar.muli (BitVec.ofNat 32 q) 512#32).toNat = 512 * q := by decide
  funext a
  fin_cases a
  · rfl
  · rfl
  · exact hall _ hi
  · rfl
theorem off2_eq (i : grid0.Coords) : k0_off2 i = ![0, 0, 512 * (i 2).val, 0] := off1_eq i
theorem off3_eq (i : grid0.Coords) (j : ℕ) (hj : j < 2 * (i 2).val) :
    k0_off3 i (BitVec.ofNat 32 j) = ![0, 0, (2 * (i 2).val - 1 - j) * 256, 0] := by
  have hi : (i 2).val < 16 := (i 2).isLt
  have hall : ∀ q < 16, ∀ j < 2 * q,
      (Scalar.muli (Scalar.subi (Scalar.subi (Scalar.muli (BitVec.ofNat 32 q) 2#32) 1#32) (BitVec.ofNat 32 j)) 256#32).toNat
        = (2 * q - 1 - j) * 256 := by decide
  funext a
  fin_cases a
  · rfl
  · rfl
  · exact hall _ hi j hj
  · rfl

/-! ## The largest carried sum -/

theorem le_pay6 (C : Vec II S512x128 .f32) (r : Fin 512) (y : Fin 128) : C (ix2 r y) ≤ k0_pay6 C := by
  have h : k0_pay6 C = Finset.fold max (Ideal.ofBits FTy.f32 4286578688#32) (fun x : Fin 512 × Fin 128 => C (ix2 x.1 x.2)) Finset.univ := by
    pointwise [k0_pay6]
  rw [h]
  exact ((Finset.fold_max_le (f := fun x : Fin 512 × Fin 128 => (C (ix2 x.1 x.2) : EReal)) (b := Ideal.ofBits FTy.f32 4286578688#32)
    (s := Finset.univ) _).mp (le_refl _)).2 (r, y) (Finset.mem_univ _)
theorem le_pay2 (C : Vec II S512x128 .f32) (r : Fin 512) (y : Fin 128) : C (ix2 r y) ≤ k0_pay2 C := le_pay6 C r y

theorem dead_eq : (Named.named κ "dead_log" 0xC2D20000#32 : II .f32) = (⊥ : EReal) :=
  IdealRules.named_const.ideal_named_scalar κ "dead_log" _ ⊥ rfl

theorem not_goes {M : II .f32} (h : ¬ goes M) : (M : EReal) = ⊥ := by
  by_contra hM
  apply h
  unfold goes
  rw [dead_eq]
  show BitVec.ofBool (decide ((⊥ : EReal) < M)) = 1#1
  rw [decide_eq_true (bot_lt_iff_ne_bot.mpr hM)]
  rfl

/-! ## The body -/

section Body
variable (i : grid0.Coords) (x0 : Vec II S1x1x512x64 .bf16) (x1 x2 : Vec II S1x1x8192x64 .bf16) (x3 : Vec II S256x256 .bf16)
  (z : Fin 512 → ℕ → EReal) (vv : Fin 64 → ℕ → EReal)
  (ht : IsTri x3)
  (hz : ∀ (r : Fin 512) (s : Fin 8192), ∑ d : Fin 64, x0 (ix4 0 0 r d) * x1 (ix4 0 0 s d) = z r s.val)
  (hv : ∀ (s : Fin 8192) d, x2 (ix4 0 0 s d) = vv d s.val)

/-- A block's row's position among the keys. -/
abbrev pos (i : grid0.Coords) (r : Fin 512) : ℕ := 512 * (i 2).val + r.val

include ht hz hv in
theorem loop_at (tri : FVec II S256x256 .bf16) (htri : IsTri tri) : ∀ k j, j + k = 2 * (i 2).val → ∀ (M : II .f32) (C : Vec II S512x128 .f32) (A : Vec II S512x64 .f32),
    (∀ r (y : Fin 128), C (ix2 r y) ≤ M) → (∀ r (y : Fin 128), C (ix2 r y) = S (z r) (pos i r) (k * 256)) →
    (∀ r d, A (ix2 r d) = acc (z r) (vv d) (pos i r) (k * 256)) →
    ∀ r d, (loopF i x0 x1 x2 tri k j M C A).2 (ix2 r d) = acc (z r) (vv d) (pos i r) 0 := by
  have hi : (i 2).val < 16 := (i 2).isLt
  intro k
  induction k with
  | zero =>
    intro j hj M C A hM hC hA r d
    rw [loopF]
    exact (hA r d).trans (by rw [zero_mul])
  | succ k ih =>
    intro j hj M C A hM hC hA r d
    rw [loopF]
    by_cases hg : goes M
    · have hchk := chk_of_lt i j (by omega)
      have hoff : k0_off3 i (BitVec.ofNat 32 j) = ![0, 0, k * 256, 0] := by
        rw [off3_eq i j (by omega), show 2 * (i 2).val - 1 - j = k by omega]
      have hq : View.ld x0 rQ = x0 := View.ld_unit_zero (funext fun a => by fin_cases a <;> rfl) _ x0
      have hk : ∀ (x : Fin 256) (d : Fin 64), View.ld x1 (rK i (BitVec.ofNat 32 j) hchk) (ix4 0 0 x d)
          = x1 (ix4 0 0 ⟨k * 256 + x.val, by omega⟩ d) := fun x d => ld_rows (k * 256) hoff x1 _ x d (by omega)
      have hvk : ∀ (x : Fin 256) (d : Fin 64), View.ld x2 (rK i (BitVec.ofNat 32 j) hchk) (ix4 0 0 x d)
          = vv d (k * 256 + x.val) := fun x d => (ld_rows (k * 256) hoff x2 _ x d (by omega)).trans (hv _ d)
      have hzk : ∀ (r : Fin 512) (x : Fin 256), ∑ d : Fin 64, View.ld x0 rQ (ix4 0 0 r d) * View.ld x1 (rK i (BitVec.ofNat 32 j) hchk) (ix4 0 0 x d)
          = z r (k * 256 + x.val) := fun r x => by
        rw [hq]; simp only [hk]; exact hz r ⟨k * 256 + x.val, by omega⟩
      have hT : ∀ r : Fin 512, k * 256 + 256 ≤ pos i r := fun r => by unfold pos; omega
      have hk1 : (k + 1) * 256 = k * 256 + 256 := by omega
      rw [hk1] at hC hA
      have hC' : ∀ r (y : Fin 128), stepC i x0 x1 tri (BitVec.ofNat 32 j) hchk C (ix2 r y) = S (z r) (pos i r) (k * 256) :=
        fun r y => back_C tri htri _ _ C z (pos i) (k * 256) (by omega) hzk hT hC r y
      rw [if_pos hg, dif_pos hchk]
      apply ih (j + 1) (by omega) _ _ _ (fun r y => le_pay6 _ r y) hC'
      exact fun r d => back_A tri htri _ _ _ C A z (pos i) vv (k * 256) (by omega) hzk hT hvk hC hA r d
    · rw [if_neg hg]
      have hb : S (z r) (pos i r) ((k + 1) * 256) = ⊥ := by
        have h := hM r 0
        rw [hC, not_goes hg] at h
        exact le_bot_iff.mp h
      rw [acc_dead _ _ _ ((k + 1) * 256) (by omega) hb]
      exact hA r d

/-- The triangular weights as loaded are the operand's. -/
theorem triF_eq : triF x3 = x3 := by
  unfold triF
  rw [View.ld_unit_zero (funext fun a => by fin_cases a <;> rfl)]
  funext j
  pointwise [k0_pay7]

/-! The pieces of the scratch buffers at an index. -/

theorem emb8Hi (r : Fin 256) (y : Fin 128) : r8Hi.emb (ix2 r y : S256x128.Idx) = (ix2 ⟨256 + r.val, by omega⟩ y : S512x128.Idx) := by
  funext a
  fin_cases a <;> apply Fin.ext
  · show 256 + 1 * r.val = 256 + r.val; omega
  · show 0 + 1 * y.val = y.val; omega
theorem emb8Lo (r : Fin 256) (y : Fin 128) : r8Lo.emb (ix2 r y : S256x128.Idx) = (ix2 ⟨r.val, by omega⟩ y : S512x128.Idx) := by
  funext a
  fin_cases a <;> apply Fin.ext
  · show 0 + 1 * r.val = r.val; omega
  · show 0 + 1 * y.val = y.val; omega
theorem emb9Hi (r : Fin 256) (y : Fin 64) : r9Hi.emb (ix2 r y : S256x64.Idx) = (ix2 ⟨256 + r.val, by omega⟩ y : S512x64.Idx) := by
  funext a
  fin_cases a <;> apply Fin.ext
  · show 256 + 1 * r.val = 256 + r.val; omega
  · show 0 + 1 * y.val = y.val; omega
theorem emb9Lo (r : Fin 256) (y : Fin 64) : r9Lo.emb (ix2 r y : S256x64.Idx) = (ix2 ⟨r.val, by omega⟩ y : S512x64.Idx) := by
  funext a
  fin_cases a <;> apply Fin.ext
  · show 0 + 1 * r.val = r.val; omega
  · show 0 + 1 * y.val = y.val; omega

theorem not_mem8Hi (r : Fin 256) (y : Fin 128) : (ix2 ⟨r.val, by omega⟩ y : S512x128.Idx) ∉ r8Hi.set := by
  intro hm
  obtain ⟨j, hj, he⟩ := (LoadRect.mem_set _).mp hm (0 : Fin 2)
  have he' : r.val = 256 + 1 * j := he
  omega
theorem not_mem8Lo (r : Fin 256) (y : Fin 128) : (ix2 ⟨256 + r.val, by omega⟩ y : S512x128.Idx) ∉ r8Lo.set := by
  intro hm
  obtain ⟨j, hj, he⟩ := (LoadRect.mem_set _).mp hm (0 : Fin 2)
  have he' : 256 + r.val = 0 + 1 * j := he
  have hj' : j < 256 := hj
  omega
theorem not_mem9Hi (r : Fin 256) (y : Fin 64) : (ix2 ⟨r.val, by omega⟩ y : S512x64.Idx) ∉ r9Hi.set := by
  intro hm
  obtain ⟨j, hj, he⟩ := (LoadRect.mem_set _).mp hm (0 : Fin 2)
  have he' : r.val = 256 + 1 * j := he
  omega
theorem not_mem9Lo (r : Fin 256) (y : Fin 64) : (ix2 ⟨256 + r.val, by omega⟩ y : S512x64.Idx) ∉ r9Lo.set := by
  intro hm
  obtain ⟨j, hj, he⟩ := (LoadRect.mem_set _).mp hm (0 : Fin 2)
  have he' : 256 + r.val = 0 + 1 * j := he
  have hj' : j < 256 := hj
  omega

theorem skip8Hi (w : Vec II S256x128 .f32) (L : List (View.Piece (Elt II) S512x128 .f32)) (r : Fin 256) (y : Fin 128) :
    View.canon (⟨r8Hi, w⟩ :: L) (ix2 ⟨r.val, by omega⟩ y : S512x128.Idx) = View.canon L (ix2 ⟨r.val, by omega⟩ y : S512x128.Idx) :=
  View.canon_cons_of_not_mem ⟨r8Hi, w⟩ L (not_mem8Hi r y)
theorem skip8Lo (w : Vec II S256x128 .f32) (L : List (View.Piece (Elt II) S512x128 .f32)) (r : Fin 256) (y : Fin 128) :
    View.canon (⟨r8Lo, w⟩ :: L) (ix2 ⟨256 + r.val, by omega⟩ y : S512x128.Idx) = View.canon L (ix2 ⟨256 + r.val, by omega⟩ y : S512x128.Idx) :=
  View.canon_cons_of_not_mem ⟨r8Lo, w⟩ L (not_mem8Lo r y)
theorem take8Hi (w : Vec II S256x128 .f32) (L : List (View.Piece (Elt II) S512x128 .f32)) (r : Fin 256) (y : Fin 128) :
    View.canon (⟨r8Hi, w⟩ :: L) (ix2 ⟨256 + r.val, by omega⟩ y : S512x128.Idx) = w (ix2 r y) := by
  rw [← emb8Hi]; exact View.canon_cons_emb r8Hi w L _
theorem take8Lo (w : Vec II S256x128 .f32) (L : List (View.Piece (Elt II) S512x128 .f32)) (r : Fin 256) (y : Fin 128) :
    View.canon (⟨r8Lo, w⟩ :: L) (ix2 ⟨r.val, by omega⟩ y : S512x128.Idx) = w (ix2 r y) := by
  rw [← emb8Lo]; exact View.canon_cons_emb r8Lo w L _

theorem skip9Hi (w : Vec II S256x64 .f32) (L : List (View.Piece (Elt II) S512x64 .f32)) (r : Fin 256) (y : Fin 64) :
    View.canon (⟨r9Hi, w⟩ :: L) (ix2 ⟨r.val, by omega⟩ y : S512x64.Idx) = View.canon L (ix2 ⟨r.val, by omega⟩ y : S512x64.Idx) :=
  View.canon_cons_of_not_mem ⟨r9Hi, w⟩ L (not_mem9Hi r y)
theorem skip9Lo (w : Vec II S256x64 .f32) (L : List (View.Piece (Elt II) S512x64 .f32)) (r : Fin 256) (y : Fin 64) :
    View.canon (⟨r9Lo, w⟩ :: L) (ix2 ⟨256 + r.val, by omega⟩ y : S512x64.Idx) = View.canon L (ix2 ⟨256 + r.val, by omega⟩ y : S512x64.Idx) :=
  View.canon_cons_of_not_mem ⟨r9Lo, w⟩ L (not_mem9Lo r y)
theorem take9Hi (w : Vec II S256x64 .f32) (L : List (View.Piece (Elt II) S512x64 .f32)) (r : Fin 256) (y : Fin 64) :
    View.canon (⟨r9Hi, w⟩ :: L) (ix2 ⟨256 + r.val, by omega⟩ y : S512x64.Idx) = w (ix2 r y) := by
  rw [← emb9Hi]; exact View.canon_cons_emb r9Hi w L _
theorem take9Lo (w : Vec II S256x64 .f32) (L : List (View.Piece (Elt II) S512x64 .f32)) (r : Fin 256) (y : Fin 64) :
    View.canon (⟨r9Lo, w⟩ :: L) (ix2 ⟨r.val, by omega⟩ y : S512x64.Idx) = w (ix2 r y) := by
  rw [← emb9Lo]; exact View.canon_cons_emb r9Lo w L _

theorem L8z_at (j : S512x128.Idx) : View.canon (L8z (F := II)) j = (0 : EReal) := by
  unfold L8z
  rw [View.canon_cons_unit_zero (funext fun a => by fin_cases a <;> rfl)]
  pointwise [k0_pay8]
theorem L9z_at (j : S512x64.Idx) : View.canon (L9z (F := II)) j = (0 : EReal) := by
  unfold L9z
  rw [View.canon_cons_unit_zero (funext fun a => by fin_cases a <;> rfl)]
  pointwise [k0_pay9]

theorem c41_at (r : Fin 256) (y : Fin 128) : (c41 : Vec II S256x128 .f32) (ix2 r y) = (0 : EReal) := L8z_at _
theorem a66_at (r : Fin 256) (d : Fin 64) : (a66 : Vec II S256x64 .f32) (ix2 r d) = (0 : EReal) := L9z_at _

theorem c108_at (r : Fin 256) (y : Fin 128) : (c108 i x0 x1 x3 : Vec II S256x128 .f32) (ix2 r y) = (0 : EReal) := by
  show View.canon (L8a i x0 x1 x3) (r8Hi.emb (ix2 r y : S256x128.Idx)) = _
  unfold L8a
  rw [emb8Hi, skip8Lo]
  exact L8z_at _
theorem a153_at (r : Fin 256) (d : Fin 64) : (a153 i x0 x1 x2 x3 : Vec II S256x64 .f32) (ix2 r d) = (0 : EReal) := by
  show View.canon (L9a i x0 x1 x2 x3) (r9Hi.emb (ix2 r d : S256x64.Idx)) = _
  unfold L9a
  rw [emb9Hi, skip9Lo]
  exact L9z_at _

/-! The loads of the two own tiles. -/

theorem qLo_at (r : Fin 256) (d : Fin 64) : qLo x0 (ix4 0 0 r d) = x0 (ix4 0 0 ⟨r.val, by omega⟩ d) := by
  rw [show qLo x0 (ix4 0 0 r d) = _ from ld_rows 0 rfl x0 _ r d (by omega)]
  congr 2; apply Fin.ext; simp
theorem qHi_at (r : Fin 256) (d : Fin 64) : qHi x0 (ix4 0 0 r d) = x0 (ix4 0 0 ⟨256 + r.val, by omega⟩ d) :=
  ld_rows 256 rfl x0 _ r d (by omega)
theorem kLo_at (x : Vec II S1x1x8192x64 .bf16) (y : Fin 256) (d : Fin 64) :
    kLo i x (ix4 0 0 y d) = x (ix4 0 0 ⟨512 * (i 2).val + y.val, by have : (i 2).val < 16 := (i 2).isLt; omega⟩ d) :=
  ld_rows _ (off1_eq i) x _ y d _
theorem kHi_at (x : Vec II S1x1x8192x64 .bf16) (y : Fin 512) (d : Fin 64) :
    kHi i x (ix4 0 0 y d) = x (ix4 0 0 ⟨512 * (i 2).val + y.val, by have : (i 2).val < 16 := (i 2).isLt; omega⟩ d) :=
  ld_rows _ (off2_eq i) x _ y d _

/-! The scratch buffers when the loop starts. -/

include hz in
theorem hzLo (r y : Fin 256) : ∑ d : Fin 64, qLo x0 (ix4 0 0 r d) * kLo i x1 (ix4 0 0 y d)
    = z ⟨r.val, by omega⟩ (512 * (i 2).val + y.val) := by
  have hi : (i 2).val < 16 := (i 2).isLt
  simp only [qLo_at, kLo_at]
  exact hz ⟨r.val, by omega⟩ ⟨512 * (i 2).val + y.val, by omega⟩
include hz in
theorem hzHi (r : Fin 256) (y : Fin 512) : ∑ d : Fin 64, qHi x0 (ix4 0 0 r d) * kHi i x1 (ix4 0 0 y d)
    = z ⟨256 + r.val, by omega⟩ (512 * (i 2).val + y.val) := by
  have hi : (i 2).val < 16 := (i 2).isLt
  simp only [qHi_at, kHi_at]
  exact hz ⟨256 + r.val, by omega⟩ ⟨512 * (i 2).val + y.val, by omega⟩

/-- A row is one of the first 256 or of the last. -/
theorem row_cases {p : Fin 512 → Prop} (h1 : ∀ r : Fin 256, p ⟨r.val, by omega⟩) (h2 : ∀ r : Fin 256, p ⟨256 + r.val, by omega⟩)
    (r : Fin 512) : p r := by
  by_cases h : r.val < 256
  · exact h1 ⟨r.val, h⟩
  · have := h2 ⟨r.val - 256, by omega⟩
    convert this using 1
    apply Fin.ext; simp only; omega

include ht hz in
theorem C0_at (r : Fin 512) (y : Fin 128) : C0 i x0 x1 x3 (ix2 r y) = S (z r) (pos i r) (512 * (i 2).val) := by
  have hi : (i 2).val < 16 := (i 2).isLt
  revert r
  apply row_cases
  · intro r
    unfold C0 L8
    rw [skip8Hi]
    unfold L8a
    rw [take8Lo]
    pointwise [k0_pay22]
    unfold cLo
    rw [triF_eq]
    exact lo_C x3 ht _ _ c41 (fun r => z ⟨r.val, by omega⟩) _ (by omega) (hzLo i x0 x1 z hz) c41_at r y
  · intro r
    unfold C0 L8
    rw [take8Hi]
    pointwise [k0_pay1]
    unfold cHi
    rw [triF_eq]
    exact (hi_C x3 ht _ _ (c108 i x0 x1 x3) (fun r => z ⟨256 + r.val, by omega⟩) _ (by omega) (hzHi i x0 x1 z hz) (c108_at i x0 x1 x3) r y).trans
      (by unfold pos; simp only [add_assoc])

include ht hz hv in
theorem A0_at (r : Fin 512) (d : Fin 64) : A0 i x0 x1 x2 x3 (ix2 r d) = acc (z r) (vv d) (pos i r) (512 * (i 2).val) := by
  have hi : (i 2).val < 16 := (i 2).isLt
  revert r
  apply row_cases
  · intro r
    unfold A0 L9
    rw [skip9Hi]
    unfold L9a
    rw [take9Lo]
    unfold aLo
    rw [triF_eq]
    exact lo_A x3 ht _ _ _ c41 a66 (fun r => z ⟨r.val, by omega⟩) vv _ (by omega) (hzLo i x0 x1 z hz)
      (fun y d => (kLo_at i x2 y d).trans (hv _ d)) c41_at a66_at r d
  · intro r
    unfold A0 L9
    rw [take9Hi]
    unfold aHi
    rw [triF_eq]
    exact (hi_A x3 ht _ _ _ (c108 i x0 x1 x3) (a153 i x0 x1 x2 x3) (fun r => z ⟨256 + r.val, by omega⟩) vv _ (by omega) (hzHi i x0 x1 z hz)
      (fun y d => (kHi_at i x2 y d).trans (hv _ d)) (c108_at i x0 x1 x3) (a153_at i x0 x1 x2 x3) r d).trans
      (by unfold pos; simp only [add_assoc])

include ht hz hv in
/-- **The output's block at an index**: the weighted values over all the keys before the row's own position. -/
theorem outF_at (r : Fin 512) (d : Fin 64) :
    outF i x0 x1 x2 x3 (ix4 0 0 r d) = acc (z r) (vv d) (pos i r) 0 := by
  unfold outF
  pointwise [k0_pay3]
  rw [triF_eq]
  have e : 2 * (i 2).val * 256 = 512 * (i 2).val := by omega
  exact loop_at i x0 x1 x2 x3 z vv ht hz hv x3 ht (2 * (i 2).val) 0 (by omega) _ _ _ (le_pay2 _)
    (fun r y => by rw [e]; exact C0_at i x0 x1 x3 z ht hz r y) (fun r d => by rw [e]; exact A0_at i x0 x1 x2 x3 z vv ht hz hv r d) r d

end Body

end Cert.KernelIdeal.SB
-- ==== Proof.SB.Value.lean ====
/-
  The stick-breaking kernel's result array, read off its run: the element of batch `b`, head `h`, query `t` and column `d`
  is the weighted sum `acc` of Math.lean over the row of scores and the column of values the arguments give.
-/
module

public import proofs.«01_k».proof.Proof.SB.Inv
public import Idealize.ShloMosaic.Lib.Pipeline.ValueKit

@[expose] public section

set_option maxRecDepth 16384

noncomputable section

namespace Cert.KernelIdeal.SB

open Cert.KernelIdeal Cert.KernelIdeal.Gen Cert.SBMath
open Idealize.ShloMosaic Idealize.ShloMosaic.TcCoe Idealize.SL.Sem

local notation "II" => Idealize.ShloMosaic.Ideal

/-- A query scaled by an eighth. -/
def scaled (Q : FVec II S8x8192x8x64 .f32) (b : Fin 8) (t : Fin 8192) (h : Fin 8) (d : Fin 64) : EReal :=
  Q (ix4 b t h d) * Ideal.ofBits .f32 0x3E000000#32

/-- The scores of query `t` of head `h`: the scaled query against every key. -/
def zrow (Q : FVec II S8x8192x8x64 .f32) (K : FVec II S8x8192x2x8x64 .f32) (b h : Fin 8) (t : Fin 8192) (s : ℕ) : EReal :=
  if hs : s < 8192 then ∑ d : Fin 64, scaled Q b t h d * K (ix5 b ⟨s, hs⟩ 0 h d) else 0

/-- The values of head `h` in column `d`. -/
def vcol (K : FVec II S8x8192x2x8x64 .f32) (b h : Fin 8) (d : Fin 64) (s : ℕ) : EReal :=
  if hs : s < 8192 then K (ix5 b ⟨s, hs⟩ 1 h d) else 0

/-- The attention's result, of the argument arrays. -/
def OUT (Q : FVec II S8x8192x8x64 .f32) (K : FVec II S8x8192x2x8x64 .f32) : FVec II S8x8x8192x64 .f32 :=
  fun j => acc (zrow Q K (j 0) (j 1) (j 2)) (vcol K (j 0) (j 1) (j 3)) (j 2).val 0

variable (m : (ℓ : Loc nD τ sig) → Buf (Elt II) ℓ)

/-- The scaled queries the region reads. -/
theorem v3_at (c : Dev nD) (b h : Fin 8) (t : Fin 8192) (d : Fin 64) :
    V m c main_v3 (ix4 b h t d) = scaled (m ((c : Thread nD τ).loc main_arg0)) b t h d := by
  entry_read
  pointwise []
  rfl

/-- The keys and values the region reads, stacked by head. -/
theorem v6_at (c : Dev nD) (b : Fin 8) (h : Fin 16) (t : Fin 8192) (d : Fin 64) (k : Fin 2) (h' : Fin 8) (hk : h.val = 8 * k.val + h'.val) :
    V m c main_v6 (ix4 b h t d) = (m ((c : Thread nD τ).loc main_arg1) : FVec II S8x8192x2x8x64 .f32) (ix5 b t k h' d) := by
  entry_read
  pointwise []
  exact congrArg₂ (fun (k : Fin 2) (h' : Fin 8) => (m ((c : Thread nD τ).loc main_arg1) : FVec II S8x8192x2x8x64 .f32) (ix5 b t k h' d))
    (Fin.ext (by show h.val / 8 = k.val; omega)) (Fin.ext (by show h.val % 8 = h'.val; omega))

/-- The signed comparison of two small numbers: is the first at least the second? -/
theorem sge_at (a b : ℕ) (ha : a < 2 ^ 31) (hb : b < 2 ^ 31) :
    IntOp.cmpi .sge (BitVec.ofNat 32 a) (BitVec.ofNat 32 b) = if b ≤ a then 1#1 else 0#1 := by
  have ea : (BitVec.ofNat 32 a).toInt = a := by
    rw [BitVec.toInt_eq_toNat_of_lt] <;> rw [BitVec.toNat_ofNat, Nat.mod_eq_of_lt (by omega)]; omega
  have eb : (BitVec.ofNat 32 b).toInt = b := by
    rw [BitVec.toInt_eq_toNat_of_lt] <;> rw [BitVec.toNat_ofNat, Nat.mod_eq_of_lt (by omega)]; omega
  show BitVec.ofBool ((BitVec.ofNat 32 b).sle (BitVec.ofNat 32 a)) = _
  rw [BitVec.sle_eq_decide, ea, eb]
  split_ifs with h
  · rw [decide_eq_true (by exact_mod_cast h)]; rfl
  · rw [decide_eq_false (by exact_mod_cast h)]; rfl

/-- The comparison's bit as a number. -/
theorem uitofp_at (a b : ℕ) (ha : a < 2 ^ 31) (hb : b < 2 ^ 31) :
    (FloatOps.uitofp .bf16 (IntOp.cmpi .sge (BitVec.ofNat 32 a) (BitVec.ofNat 32 b)) : II .bf16) = if a < b then (0 : EReal) else 1 := by
  rw [sge_at a b ha hb]
  by_cases h : b ≤ a
  · rw [if_pos h, if_neg (by omega)]; show ((((1#1 : BitVec 1).toNat : ℕ) : ℝ) : EReal) = 1; norm_num
  · rw [if_neg h, if_pos (by omega)]; show ((((0#1 : BitVec 1).toNat : ℕ) : ℝ) : EReal) = 0; norm_num

/-- The triangular table the region reads. -/
theorem v17_at (c : Dev nD) : IsTri (V m c main_v17) := by
  intro b h
  entry_read
  pointwise []
  after_results_simp
  pointwise []
  by_cases hh : h.val < 128
  · by_cases hb : b.val < 128
    · rw [dif_pos hb, dif_pos hh, uitofp_at _ _ (by omega) (by omega)]
      by_cases h' : b.val < h.val
      · rw [if_pos h', if_pos ⟨hh, by omega⟩]
      · rw [if_neg h', if_neg (by omega)]
    · rw [dif_neg hb, dif_pos hh, uitofp_at _ _ (by omega) (by omega)]
      by_cases h' : b.val - 128 < h.val
      · rw [if_pos h', if_pos ⟨hh, by omega⟩]
      · rw [if_neg h', if_neg (by omega)]
  · rw [if_neg (by omega)]
    by_cases hb : b.val < 128
    · rw [dif_pos hb, dif_neg hh]
    · rw [dif_neg hb, dif_neg hh]

/-- Each window's block at every grid point. -/
theorem idx : ∀ t : Fin (cfg0 (F := II)).N, win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, 8 + (grid0.coords t 1).val, 0, 0]
    ∧ win0_3.index t = ![0, 0]
    ∧ win0_4.index t = ![(grid0.coords t 0).val, (grid0.coords t 1).val, (grid0.coords t 2).val, 0] :=
  (by decide +kernel : ∀ t : Fin grid0.N, _)

/-- The block of queries at a grid point. -/
theorem blk0 (c : Dev nD) (t : Fin (cfg0 (F := II)).N) (b h : Fin 8) (q : Fin 8192) (r : Fin 512) (d : Fin 64)
    (hb : b.val = (grid0.coords t 0).val) (hh : h.val = (grid0.coords t 1).val) (hq : q.val = 512 * (grid0.coords t 2).val + r.val) :
    iblk m c 0 t (ix4 0 0 r d) = V m c main_v3 (ix4 b h q d) := by
  blk_ext [iblk, idx t]

/-- The block of keys at a grid point. -/
theorem blk1 (c : Dev nD) (t : Fin (cfg0 (F := II)).N) (b : Fin 8) (h : Fin 16) (s : Fin 8192) (d : Fin 64)
    (hb : b.val = (grid0.coords t 0).val) (hh : h.val = (grid0.coords t 1).val) :
    iblk m c 1 t (ix4 0 0 s d) = V m c main_v6 (ix4 b h s d) := by
  blk_ext [iblk, idx t]

/-- The block of values at a grid point. -/
theorem blk2 (c : Dev nD) (t : Fin (cfg0 (F := II)).N) (b : Fin 8) (h : Fin 16) (s : Fin 8192) (d : Fin 64)
    (hb : b.val = (grid0.coords t 0).val) (hh : h.val = 8 + (grid0.coords t 1).val) :
    iblk m c 2 t (ix4 0 0 s d) = V m c main_v6 (ix4 b h s d) := by
  blk_ext [iblk, idx t]

/-- The table's block is the table. -/
theorem blk3 (c : Dev nD) (t : Fin (cfg0 (F := II)).N) (i y : Fin 256) :
    iblk m c 3 t (ix2 i y) = V m c main_v17 (ix2 i y) := by
  blk_ext [iblk, idx t]

/-- What the body leaves in the output's buffer at a grid point. -/
theorem point (c : Dev nD) (t : Fin (cfg0 (F := II)).N) (b h : Fin 8) (q : Fin 8192) (r : Fin 512) (d : Fin 64)
    (hb : b.val = (grid0.coords t 0).val) (hh : h.val = (grid0.coords t 1).val) (hq : q.val = 512 * (grid0.coords t 2).val + r.val) :
    outsAt0 m c t (ix4 0 0 r d)
      = OUT (m ((c : Thread nD τ).loc main_arg0)) (m ((c : Thread nD τ).loc main_arg1)) (ix4 b h q d) := by
  have hc : (grid0.coords t 2).val < 16 := (grid0.coords t 2).isLt
  have key := outF_at (grid0.coords t) (iblk m c 0 t) (iblk m c 1 t) (iblk m c 2 t) (iblk m c 3 t)
    (fun r' => zrow (m ((c : Thread nD τ).loc main_arg0)) (m ((c : Thread nD τ).loc main_arg1)) b h ⟨512 * (grid0.coords t 2).val + r'.val, by omega⟩)
    (fun d' => vcol (m ((c : Thread nD τ).loc main_arg1)) b h d')
    (fun i y => (blk3 m c t i y).trans (v17_at m c i y))
    (fun r' s => by
      unfold zrow
      rw [dif_pos s.isLt]
      refine Finset.sum_congr rfl fun d' _ => ?_
      rw [blk0 m c t b h ⟨512 * (grid0.coords t 2).val + r'.val, by omega⟩ r' d' hb hh rfl, v3_at,
        blk1 m c t b ⟨h.val, by omega⟩ s d' hb hh, v6_at m c b ⟨h.val, by omega⟩ s d' 0 h (by simp)])
    (fun s d' => by
      unfold vcol
      rw [dif_pos s.isLt, blk2 m c t b ⟨8 + h.val, by omega⟩ s d' hb (congrArg (8 + ·) hh), v6_at m c b ⟨8 + h.val, by omega⟩ s d' 1 h (by simp)])
    r d
  have hq' : (⟨512 * (grid0.coords t 2).val + r.val, by omega⟩ : Fin 8192) = q := Fin.ext hq.symm
  unfold outsAt0
  rw [key]
  show acc (zrow _ _ b h ⟨512 * (grid0.coords t 2).val + r.val, by omega⟩) _ (512 * (grid0.coords t 2).val + r.val) 0 = acc (zrow _ _ b h q) _ q.val 0
  rw [hq', ← hq]
  rfl

/-- The result array after the run. -/
theorem final (c : Dev nD) : (dats m 0 c).arrAt 4 (cfgs (F := II) 0).N
    = OUT (m ((c : Thread nD τ).loc main_arg0)) (m ((c : Thread nD τ).loc main_arg1)) := by
  refine (dats m 0 c).arrAt_eq_of_covers 4 _ (by decide +kernel) fun t _ y => ?_
  blk_simp
  rw [after0_4]
  obtain ⟨r, d, rfl⟩ : ∃ (r : Fin 512) (d : Fin 64), y = ix4 0 0 r d := ⟨y 2, y 3, by blk_ext []⟩
  have h0 : (grid0.coords t 0).val < 8 := (grid0.coords t 0).isLt
  have h1 : (grid0.coords t 1).val < 8 := (grid0.coords t 1).isLt
  have h2 : (grid0.coords t 2).val < 16 := (grid0.coords t 2).isLt
  refine (point m c t ⟨_, h0⟩ ⟨_, h1⟩ ⟨512 * (grid0.coords t 2).val + r.val, by omega⟩ r d rfl rfl rfl).trans ?_
  refine congrArg _ ?_
  blk_ext [idx t]

end Cert.KernelIdeal.SB

end
-- ==== Proof.SB.Ref.lean ====
/-
  The reference's result, element by element: the weighted sum `acc` of Math.lean over the row of scores and the column of
  values its arguments give.
-/
module

public import proofs.«01_k».proof.Proof.Gen.ReferenceIdeal.Run
public import proofs.«01_k».proof.Proof.SB.RefMath
public import proofs.«01_k».proof.Proof.SB.Value

@[expose] public section

set_option maxRecDepth 16384

noncomputable section

namespace Cert.ReferenceIdeal.SB

open Cert.ReferenceIdeal Cert.ReferenceIdeal.Gen Cert.SBMath
open Idealize.ShloMosaic Idealize.ShloMosaic.TcCoe Idealize.SL.Sem

local notation "II" => Idealize.ShloMosaic.Ideal

/-- Zero everywhere. -/
def O : FVec II S8x8x8192x8192 .f32 := broadcastInDim S8x8x8192x8192 ![] bcast_S_S8x8x8192x8192 (constant S_ .f32 0x00000000#32)

/-- The causal mask: key before query. -/
def M : IVec S8x8x8192x8192 1 :=
  broadcastInDim S8x8x8192x8192 ![2, 3] bcast_S8192x8192_S8x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The log sigmoid of the negated argument, as it prints. -/
def LS (n : FVec II S8x8x8192x8192 .f32) : FVec II S8x8x8192x8192 .f32 :=
  Host.negf (select (cmpf .une (subf n O) (subf n O)) (addf n O) (addf (maximumf n O) (Host.log1p (Host.exp (Host.negf (Host.absf (subf n O)))))))

/-- The scores. -/
def Z (Q : FVec II S8x8192x8x64 .f32) (K : FVec II S8x8192x2x8x64 .f32) : FVec II S8x8x8192x8192 .f32 :=
  mulf (Host.dotGeneral dot_S8x8192x8x64_S8x8192x8x64_S8x8x8192x8192_3_3_1_1_02_02 none Q (shapeCast _ (extractStridedSlice S8x8192x1x8x64 ![0, 0, 0, 0, 0] K slices_S8x8192x2x8x64_S8x8192x1x8x64_0_0_0_0_0) shapeCasts_S8x8192x1x8x64_S8x8192x8x64)) (broadcastInDim S8x8x8192x8192 ![] bcast_S_S8x8x8192x8192 (constant S_ .f32 0x3E000000#32))

/-- The masked log probabilities that a key is not taken. -/
def C (z : FVec II S8x8x8192x8192 .f32) : FVec II S8x8x8192x8192 .f32 := select M (LS (Host.negf (Host.negf z))) O

/-- Their sums from each key on. -/
def W (x : FVec II S8x8x8192x8192 .f32) : FVec II S8x8x8192x8192 .f32 :=
  Host.reduceWindowAdd ![1, 1, 1, 8192] ![1, 1, 1, 1] ![0, 0, 0, 0] ![0, 0, 0, 8191] x (broadcastInDim S_ ![] bcast_S_S_ (constant S_ .f32 0x00000000#32)) reduceWindows_S8x8x8192x8192_S8x8x8192x8192_w1s1p0_0_w1s1p0_0_w1s1p0_0_w8192s1p0_8191 h_S_

/-- The weights. -/
def A (z : FVec II S8x8x8192x8192 .f32) : FVec II S8x8x8192x8192 .f32 :=
  select M (Host.exp (addf (LS (Host.negf z)) (subf (W (C z)) (C z)))) O

/-- The result. -/
def RES (Q : FVec II S8x8192x8x64 .f32) (K : FVec II S8x8192x2x8x64 .f32) : FVec II S8x8x8192x64 .f32 :=
  Host.dotGeneral dot_S8x8x8192x8192_S8x8192x8x64_S8x8x8192x64_3_1_2_3_01_02 none (A (Z Q K)) (shapeCast _ (extractStridedSlice S8x8192x1x8x64 ![0, 0, 1, 0, 0] K slices_S8x8192x2x8x64_S8x8192x1x8x64_0_0_1_0_0) shapeCasts_S8x8192x1x8x64_S8x8192x8x64)

theorem res_eq (m : (ℓ : Loc nD τ sig) → Buf (Elt II) ℓ) (c : Dev nD) :
    Value.res_main_v22 m c = RES (m ((c.tc : Thread nD τ).loc main_arg0)) (m ((c.tc : Thread nD τ).loc main_arg1)) := by
  unfold Value.res_main_v22 RES A W C LS Z M O
  rfl

theorem M_at (b h : Fin 8) (t s : Fin 8192) : M (ix4 b h t s) = if s.val < t.val then 1#1 else 0#1 := by
  pointwise [M]
  exact Cert.KernelIdeal.SB.slt_at _ _ (by omega) (by omega)

theorem LS_at (n : FVec II S8x8x8192x8192 .f32) (b h : Fin 8) (t s : Fin 8192) :
    LS n (ix4 b h t s) = lsg (-(n (ix4 b h t s))) := by
  pointwise [LS, O]
  rw [if_neg (fun h => h rfl)]
  generalize n (ix4 b h t s) = x
  show -(max (x : EReal) 0 + Ideal.log (1 + Ideal.exp (-(max x (-x))))) = lsg (-x)
  unfold lsg
  rw [neg_neg, max_comm (-x) x]

/-- An eighth as a number. -/
theorem eighth : Ideal.ofBits .f32 0x3E000000#32 = ((1 / 8 : ℝ) : EReal) := by
  simp [Ideal.ofBits, Ideal.ieee]
  rw [← EReal.coe_mul]
  norm_num

theorem Z_at (Q : FVec II S8x8192x8x64 .f32) (K : FVec II S8x8192x2x8x64 .f32) (b h : Fin 8) (t s : Fin 8192) :
    Z Q K (ix4 b h t s) = Cert.KernelIdeal.SB.zrow Q K b h t s.val := by
  pointwise [Z]
  unfold Cert.KernelIdeal.SB.zrow Cert.KernelIdeal.SB.scaled
  rw [dif_pos s.isLt, eighth]
  refine (sum_mul (fun x : Fin 64 => (Q (ix4 b t h x) * K (ix5 b s 0 h x) : EReal)) _ (EReal.coe_nonneg.mpr (by norm_num)) (EReal.coe_ne_top _)).trans ?_
  refine Finset.sum_congr rfl fun d _ => ?_
  exact mul_right_comm _ _ _

theorem foldl_add {n : ℕ} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, Fin.sum_univ_def]

/-- The window's sum is the sum from the key on. -/
theorem W_at (x : FVec II S8x8x8192x8192 .f32) (f : ℕ → EReal) (b h : Fin 8) (t s : Fin 8192)
    (hx : ∀ s : Fin 8192, x (ix4 b h t s) = f s.val) : W x (ix4 b h t s) = ∑ o ∈ Finset.Ico s.val 8192, f o := by
  have hv : (broadcastInDim S_ ![] bcast_S_S_ (constant S_ .f32 0x00000000#32) : FVec II S_ .f32) (Shape.Idx.first h_S_) = (0 : EReal) :=
    Ideal.ofBits_zero_f32
  unfold W Host.reduceWindowAdd
  rw [Ideal.hostReduceWindowAdd_def]
  unfold Ideal.hostReduceWindowAdd Host.reduceWindow
  rw [hv]
  dsimp only
  rw [foldl_add, zero_add]
  have e1 : ∀ p : (⟨4, ![1, 1, 1, 8192]⟩ : Shape).Idx, p = ix4 0 0 0 (p 3) := fun p => by blk_ext []
  have e2 : ∀ g : (⟨4, ![1, 1, 1, 8192]⟩ : Shape).Idx → EReal, ∑ p, g p = ∑ n : Fin 8192, g (ix4 0 0 0 n) := fun g =>
    Fintype.sum_bijective (fun p : (⟨4, ![1, 1, 1, 8192]⟩ : Shape).Idx => (p 3 : Fin 8192))
      ⟨fun p q hpq => (e1 p).trans ((congrArg (fun n : Fin 8192 => (ix4 0 0 0 n : (⟨4, ![1, 1, 1, 8192]⟩ : Shape).Idx)) hpq).trans (e1 q).symm), fun n => ⟨ix4 0 0 0 n, rfl⟩⟩
      _ _ fun p => congrArg g (e1 p)
  refine (Finset.sum_congr rfl fun k _ => ?_ : _ = ∑ k, (fun p : (⟨4, ![1, 1, 1, 8192]⟩ : Shape).Idx =>
    if s.val + (p 3).val < 8192 then f (s.val + (p 3).val) else (0 : EReal)) ((⟨4, ![1, 1, 1, 8192]⟩ : Shape).rowMajor.symm k)).trans ?_
  · have p0 : ((⟨4, ![1, 1, 1, 8192]⟩ : Shape).rowMajor.symm k 0).val = 0 := by have : ((⟨4, ![1, 1, 1, 8192]⟩ : Shape).rowMajor.symm k 0).val < 1 := ((⟨4, ![1, 1, 1, 8192]⟩ : Shape).rowMajor.symm k 0).isLt; omega
    have p1 : ((⟨4, ![1, 1, 1, 8192]⟩ : Shape).rowMajor.symm k 1).val = 0 := by have : ((⟨4, ![1, 1, 1, 8192]⟩ : Shape).rowMajor.symm k 1).val < 1 := ((⟨4, ![1, 1, 1, 8192]⟩ : Shape).rowMajor.symm k 1).isLt; omega
    have p2 : ((⟨4, ![1, 1, 1, 8192]⟩ : Shape).rowMajor.symm k 2).val = 0 := by have : ((⟨4, ![1, 1, 1, 8192]⟩ : Shape).rowMajor.symm k 2).val < 1 := ((⟨4, ![1, 1, 1, 8192]⟩ : Shape).rowMajor.symm k 2).isLt; omega
    dsimp only
    by_cases hs : s.val + ((⟨4, ![1, 1, 1, 8192]⟩ : Shape).rowMajor.symm k 3).val < 8192
    · have hin : ∀ a : Fin 4, (![0, 0, 0, 0] : Fin 4 → ℕ) a ≤ (ix4 b h t s a).val * (![1, 1, 1, 1] : Fin 4 → ℕ) a + ((⟨4, ![1, 1, 1, 8192]⟩ : Shape).rowMajor.symm k a).val
          ∧ (ix4 b h t s a).val * (![1, 1, 1, 1] : Fin 4 → ℕ) a + ((⟨4, ![1, 1, 1, 8192]⟩ : Shape).rowMajor.symm k a).val - (![0, 0, 0, 0] : Fin 4 → ℕ) a < (![8, 8, 8192, 8192] : Fin 4 → ℕ) a := by
        intro a
        match a with
        | ⟨0, _⟩ => exact ⟨Nat.zero_le _, by show b.val * 1 + ((⟨4, ![1, 1, 1, 8192]⟩ : Shape).rowMajor.symm k 0).val - 0 < 8; omega⟩
        | ⟨1, _⟩ => exact ⟨Nat.zero_le _, by show h.val * 1 + ((⟨4, ![1, 1, 1, 8192]⟩ : Shape).rowMajor.symm k 1).val - 0 < 8; omega⟩
        | ⟨2, _⟩ => exact ⟨Nat.zero_le _, by show t.val * 1 + ((⟨4, ![1, 1, 1, 8192]⟩ : Shape).rowMajor.symm k 2).val - 0 < 8192; omega⟩
        | ⟨3, _⟩ => exact ⟨Nat.zero_le _, by show s.val * 1 + ((⟨4, ![1, 1, 1, 8192]⟩ : Shape).rowMajor.symm k 3).val - 0 < 8192; omega⟩
      rw [if_pos hs]
      refine (dif_pos hin).trans ?_
      refine Eq.trans (congrArg x (funext fun a => Fin.ext ?_)) (hx ⟨s.val + ((⟨4, ![1, 1, 1, 8192]⟩ : Shape).rowMajor.symm k 3).val, hs⟩)
      match a with
      | ⟨0, _⟩ => show b.val * 1 + ((⟨4, ![1, 1, 1, 8192]⟩ : Shape).rowMajor.symm k 0).val - 0 = b.val; omega
      | ⟨1, _⟩ => show h.val * 1 + ((⟨4, ![1, 1, 1, 8192]⟩ : Shape).rowMajor.symm k 1).val - 0 = h.val; omega
      | ⟨2, _⟩ => show t.val * 1 + ((⟨4, ![1, 1, 1, 8192]⟩ : Shape).rowMajor.symm k 2).val - 0 = t.val; omega
      | ⟨3, _⟩ => show s.val * 1 + ((⟨4, ![1, 1, 1, 8192]⟩ : Shape).rowMajor.symm k 3).val - 0 = s.val + ((⟨4, ![1, 1, 1, 8192]⟩ : Shape).rowMajor.symm k 3).val; omega
    · rw [if_neg hs]
      refine dif_neg fun hin => hs ?_
      have h3 := (hin 3).2
      change s.val * 1 + ((⟨4, ![1, 1, 1, 8192]⟩ : Shape).rowMajor.symm k 3).val - 0 < 8192 at h3
      omega
  · refine (Equiv.sum_comp (⟨4, ![1, 1, 1, 8192]⟩ : Shape).rowMajor.symm (fun p : (⟨4, ![1, 1, 1, 8192]⟩ : Shape).Idx =>
      if s.val + (p 3).val < 8192 then f (s.val + (p 3).val) else (0 : EReal))).trans ?_
    rw [e2, Finset.sum_Ico_eq_sum_range]
    show ∑ n : Fin 8192, (if s.val + n.val < 8192 then f (s.val + n.val) else (0 : EReal)) = _
    rw [← Finset.sum_range (fun n => if s.val + n < 8192 then f (s.val + n) else (0 : EReal)), ← Finset.sum_filter]
    refine Finset.sum_congr (Finset.ext fun n => ?_) fun _ _ => rfl
    simp only [Finset.mem_filter, Finset.mem_range]
    omega

theorem C_at (z : FVec II S8x8x8192x8192 .f32) (f : ℕ → EReal) (b h : Fin 8) (t s : Fin 8192) (hz : z (ix4 b h t s) = f s.val) :
    C z (ix4 b h t s) = cm f t.val s.val := by
  pointwise [C, O]
  rw [M_at, LS_at]
  pointwise []
  rw [hz, neg_neg]
  unfold cm
  by_cases hs : s.val < t.val
  · rw [if_pos hs, if_pos hs]; exact lsg_neg _
  · rw [if_neg hs, if_neg hs]; rfl

theorem A_at (z : FVec II S8x8x8192x8192 .f32) (f : ℕ → EReal) (b h : Fin 8) (t s : Fin 8192)
    (hz : ∀ s : Fin 8192, z (ix4 b h t s) = f s.val) :
    A z (ix4 b h t s) = if s.val < t.val then Ideal.exp (lsg (f s.val) + (S f t.val s.val - cm f t.val s.val)) else (0 : EReal) := by
  pointwise [A, O]
  rw [M_at, LS_at, C_at z f b h t s (hz s), W_at (C z) (cm f t.val) b h t s (fun s' => C_at z f b h t s' (hz s'))]
  pointwise []
  rw [hz, neg_neg]
  by_cases hs : s.val < t.val
  · rw [if_pos hs, if_pos hs]; rfl
  · rw [if_neg hs, if_neg hs]; rfl

/-- The reference's result is the kernel's. -/
theorem RES_eq (Q : FVec II S8x8192x8x64 .f32) (K : FVec II S8x8192x2x8x64 .f32) : RES Q K = Cert.KernelIdeal.SB.OUT Q K := by
  have key : ∀ (b h : Fin 8) (t : Fin 8192) (d : Fin 64), RES Q K (ix4 b h t d) = Cert.KernelIdeal.SB.OUT Q K (ix4 b h t d) := by
    intro b h t d
    pointwise [RES]
    refine Eq.trans ?_ (acc_of (Cert.KernelIdeal.SB.zrow Q K b h t) (Cert.KernelIdeal.SB.vcol K b h d) t.val t.isLt)
    refine Finset.sum_congr rfl fun s _ => ?_
    rw [A_at (Z Q K) (Cert.KernelIdeal.SB.zrow Q K b h t) b h t s (fun s' => Z_at Q K b h t s')]
    congr 1
    unfold Cert.KernelIdeal.SB.vcol
    rw [dif_pos s.isLt]
  funext j
  obtain ⟨b, h, t, d, rfl⟩ : ∃ (b h : Fin 8) (t : Fin 8192) (d : Fin 64), j = ix4 b h t d := ⟨j 0, j 1, j 2, j 3, eq_ix4 j⟩
  exact key b h t d

end Cert.ReferenceIdeal.SB

end
-- ==== Proof.FFN.Body.lean ====
/-
  The kernel's body at one grid point, as pure functions of the blocks it is given. At the first of a row tile's two
  points it stores the residual stream after the output projection (`x1F`), its modulated norm (`h2F`) and a first
  share of the feed-forward's sum (`accF`); at the second it adds the second share and writes the result (`outF`).
-/
module

public import proofs.«01_k».proof.Proof.Gen.OutFfnIdeal.Frame.Runs
public import Idealize.ShloMosaic.Lib.Pipeline.ValueKit.Acc

@[expose] public section

set_option maxRecDepth 16384

noncomputable section

namespace Cert.OutFfnIdeal.FFN

open Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's results, as functions of the blocks -/

/-- Each head's rows of the stick-breaking output. -/
def hd0 (x5 : Vec F S1x8x512x64 .f32) : Vec F S1x1x512x64 .f32 :=
  View.ld x5 (Rect.unit (s := S1x8x512x64) ![0, 0, 0, 0] S1x1x512x64.size inb_S1x8x512x64_S1x1x512x64_0_0_0_0)
def hd1 (x5 : Vec F S1x8x512x64 .f32) : Vec F S1x1x512x64 .f32 :=
  View.ld x5 (Rect.unit (s := S1x8x512x64) ![0, 1, 0, 0] S1x1x512x64.size inb_S1x8x512x64_S1x1x512x64_0_1_0_0)
def hd2 (x5 : Vec F S1x8x512x64 .f32) : Vec F S1x1x512x64 .f32 :=
  View.ld x5 (Rect.unit (s := S1x8x512x64) ![0, 2, 0, 0] S1x1x512x64.size inb_S1x8x512x64_S1x1x512x64_0_2_0_0)
def hd3 (x5 : Vec F S1x8x512x64 .f32) : Vec F S1x1x512x64 .f32 :=
  View.ld x5 (Rect.unit (s := S1x8x512x64) ![0, 3, 0, 0] S1x1x512x64.size inb_S1x8x512x64_S1x1x512x64_0_3_0_0)
def hd4 (x5 : Vec F S1x8x512x64 .f32) : Vec F S1x1x512x64 .f32 :=
  View.ld x5 (Rect.unit (s := S1x8x512x64) ![0, 4, 0, 0] S1x1x512x64.size inb_S1x8x512x64_S1x1x512x64_0_4_0_0)
def hd5 (x5 : Vec F S1x8x512x64 .f32) : Vec F S1x1x512x64 .f32 :=
  View.ld x5 (Rect.unit (s := S1x8x512x64) ![0, 5, 0, 0] S1x1x512x64.size inb_S1x8x512x64_S1x1x512x64_0_5_0_0)
def hd6 (x5 : Vec F S1x8x512x64 .f32) : Vec F S1x1x512x64 .f32 :=
  View.ld x5 (Rect.unit (s := S1x8x512x64) ![0, 6, 0, 0] S1x1x512x64.size inb_S1x8x512x64_S1x1x512x64_0_6_0_0)
def hd7 (x5 : Vec F S1x8x512x64 .f32) : Vec F S1x1x512x64 .f32 :=
  View.ld x5 (Rect.unit (s := S1x8x512x64) ![0, 7, 0, 0] S1x1x512x64.size inb_S1x8x512x64_S1x1x512x64_0_7_0_0)

/-- The gated sum of the three sparse branches. -/
def nsaF (x1 : Vec F S1x512x512 .f32) (x2 : Vec F S1x512x512 .f32) (x3 : Vec F S1x512x512 .f32) (x4 : Vec F S1x512x128 .f32) (x10 : Vec F S128x1536 .bf16) : FVec F S512x512 .f32 := k0_pay5 x4 x10 x10 x1 x2 x3
/-- The stick-breaking output, its heads side by side, and the sum of its rows' squares. -/
def sbF (x5 : Vec F S1x8x512x64 .f32) : FVec F S512x512 .f32 := k0_pay8 (k0_pay6 (hd0 x5)) (k0_pay7 (hd1 x5)) (hd2 x5) (hd3 x5) (hd4 x5) (hd5 x5) (hd6 x5) (hd7 x5)
def sqF (x5 : Vec F S1x8x512x64 .f32) : FVec F S512 .f32 := k0_pay11 (k0_pay6 (hd0 x5)) (k0_pay7 (hd1 x5)) (hd2 x5) (hd3 x5) (hd4 x5) (hd5 x5) (hd6 x5) (hd7 x5)
/-- The residual stream after the output projection. -/
def x1F (x0 : Vec F S1x512x1024 .f32) (x1 : Vec F S1x512x512 .f32) (x2 : Vec F S1x512x512 .f32) (x3 : Vec F S1x512x512 .f32) (x4 : Vec F S1x512x128 .f32) (x5 : Vec F S1x8x512x64 .f32) (x6 : Vec F S1x1x1024 .f32) (x10 : Vec F S128x1536 .bf16) (x11 : Vec F S1x512 .f32) (x12 : Vec F S1x512 .f32) (x13 : Vec F S1024x1024 .bf16) : FVec F S512x1024 .f32 :=
  k0_pay13 (sbF x5) (k0_pay9 (nsaF x1 x2 x3 x4 x10) x11) (k0_pay10 x12) (sqF x5) x0 x6 x13
/-- Its norm, scaled and shifted. -/
def h2F (x0 : Vec F S1x512x1024 .f32) (x1 : Vec F S1x512x512 .f32) (x2 : Vec F S1x512x512 .f32) (x3 : Vec F S1x512x512 .f32) (x4 : Vec F S1x512x128 .f32) (x5 : Vec F S1x8x512x64 .f32) (x6 : Vec F S1x1x1024 .f32) (x7 : Vec F S1x1x1024 .f32) (x8 : Vec F S1x1x1024 .f32) (x10 : Vec F S128x1536 .bf16) (x11 : Vec F S1x512 .f32) (x12 : Vec F S1x512 .f32) (x13 : Vec F S1024x1024 .bf16) (x14 : Vec F S1x1024 .f32) : FVec F S512x1024 .bf16 :=
  k0_pay1 (k0_pay14 (sbF x5) (k0_pay9 (nsaF x1 x2 x3 x4 x10) x11) (k0_pay10 x12) (sqF x5) x0 x6 x13 x14) x8 x7
/-- One more share of the feed-forward's sum. -/
def accF (h : Vec F S512x1024 .bf16) (acc : Vec F S512x1024 .f32) (x15 : Vec F S1024x1408 .bf16) (x16 : Vec F S1024x1408 .bf16) (x17 : Vec F S1408x1024 .bf16) : FVec F S512x1024 .f32 :=
  k0_pay3 h x15 x16 acc x17
/-- The result. -/
def outF (y1 acc : Vec F S512x1024 .f32) (x9 : Vec F S1x1x1024 .f32) (x18 : Vec F S1x1024 .f32) : FVec F S1x512x1024 .f32 := k0_pay4 y1 x9 acc x18

end Cert.OutFfnIdeal.FFN

end
-- ==== Proof.FFN.RunA.lean ====
/-
  The kernel's body at the first point of a row tile leaves in its scratch buffers what Body.lean names.
-/
module

public import proofs.«01_k».proof.Proof.FFN.Body
public import Idealize.ShloMosaic.Lib.VecWindow

@[expose] public section

set_option maxRecDepth 16384

noncomputable section

namespace Cert.OutFfnIdeal.FFN

open Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_A (c : Dev nD) (i : grid0.Coords) (arg3 : Memref sig .tc .vmem S1x512x1024 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x128 .f32) (harg7 : arg7.IsWhole) (arg8 : Memref sig .tc .vmem S1x8x512x64 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S128x1536 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1024x1408 .bf16) (harg18 : arg18.IsWhole) (arg19 : Memref sig .tc .vmem S1024x1408 .bf16) (harg19 : arg19.IsWhole) (arg20 : Memref sig .tc .vmem S1408x1024 .bf16) (harg20 : arg20.IsWhole) (arg21 : Memref sig .tc .vmem S1x1024 .f32) (harg21 : arg21.IsWhole) (arg22 : Memref sig .tc .vmem S1x512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x1024 .f32) (harg25 : arg25.IsWhole) (hc0 : cond0_0 i) (hc1 : ¬cond0_1 i)
    (x0 : Vec F S1x512x1024 .f32) (x1 : Vec F S1x512x512 .f32) (x2 : Vec F S1x512x512 .f32) (x3 : Vec F S1x512x512 .f32) (x4 : Vec F S1x512x128 .f32) (x5 : Vec F S1x8x512x64 .f32) (x6 : Vec F S1x1x1024 .f32) (x7 : Vec F S1x1x1024 .f32) (x8 : Vec F S1x1x1024 .f32) (x9 : Vec F S1x1x1024 .f32) (x10 : Vec F S128x1536 .bf16) (x11 : Vec F S1x512 .f32) (x12 : Vec F S1x512 .f32) (x13 : Vec F S1024x1024 .bf16) (x14 : Vec F S1x1024 .f32) (x15 : Vec F S1024x1408 .bf16) (x16 : Vec F S1024x1408 .bf16) (x17 : Vec F S1408x1024 .bf16) (x18 : Vec F S1x1024 .f32) (xi : Vec F S1x512x1024 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare xi ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare xi ∗ owns (c : Thread nD τ) arg23 fullShare (x1F x0 x1 x2 x3 x4 x5 x6 x10 x11 x12 x13) ∗ owns (c : Thread nD τ) arg24 fullShare (h2F x0 x1 x2 x3 x4 x5 x6 x7 x8 x10 x11 x12 x13 x14) ∗ owns (c : Thread nD τ) arg25 fullShare (accF (h2F x0 x1 x2 x3 x4 x5 x6 x7 x8 x10 x11 x12 x13 x14) k0_pay2 x15 x16 x17)) -∗ K ⟨⟩))
          ⊢ wp frame (wpE (defs₀ (F := F)) Variants.none c none) E (cc0_out_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    simp only [cc0_out_ffn_eq_skeleton]; unfold cc0_out_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; · ipureintro; exact hf16
      iexact H16
    isplitl [H17]
    · iexists _; isplitr; · ipureintro; exact hf17
      iexact H17
    isplitl [H18]
    · iexists _; isplitr; · ipureintro; exact hf18
      iexact H18
    isplitl [H19]
    · iexists _; isplitr; · ipureintro; exact hf19
      iexact H19
    isplitl [HS0]
    · iexists _; isplitr; swap; · iexact HS0
      ipureintro
      refine (View.read_writes_full _ _ _ _ _).trans ?_
      unfold x1F
      try unfold body_A.sl.r_7
      try unfold body_A.sl.r_6
      try unfold body_A.sl.r_5
      try unfold body_A.sl.r_4
      try unfold body_A.sl.r_3
      try unfold body_A.sl.r_2
      try unfold body_A.sl.r_1
      try unfold body_A.sl.r
      simp (disch := decide) only [View.read_writes_full, View.readAt_eq_ld, Memref.IsWhole.read_unread, View.ld_unit_lit', View.readCov_unit_lit', View.readCov_cons_unit_lit', sbF, sqF, nsaF, hd0, hd1, hd2, hd3, hd4, hd5, hd6, hd7]
    isplitl [HS1]
    · iexists _; isplitr; swap; · iexact HS1
      ipureintro
      unfold body_A.sl.HS1_1
      refine (View.read_writes_full _ _ _ _ _).trans ?_
      unfold h2F
      try unfold body_A.sl.r_7
      try unfold body_A.sl.r_6
      try unfold body_A.sl.r_5
      try unfold body_A.sl.r_4
      try unfold body_A.sl.r_3
      try unfold body_A.sl.r_2
      try unfold body_A.sl.r_1
      try unfold body_A.sl.r
      simp (disch := decide) only [View.read_writes_full, View.readAt_eq_ld, Memref.IsWhole.read_unread, View.ld_unit_lit', View.readCov_unit_lit', View.readCov_cons_unit_lit', sbF, sqF, nsaF, hd0, hd1, hd2, hd3, hd4, hd5, hd6, hd7]
    · iexists _; isplitr; swap; · iexact HS2
      ipureintro
      refine (View.read_writes_full _ _ _ _ _).trans ?_
      unfold accF h2F
      try unfold body_A.sl.v3
      try unfold body_A.sl.v19
      try unfold body_A.sl.HS1_1
      try unfold body_A.sl.HS2_1
      try unfold body_A.sl.r_7
      try unfold body_A.sl.r_6
      try unfold body_A.sl.r_5
      try unfold body_A.sl.r_4
      try unfold body_A.sl.r_3
      try unfold body_A.sl.r_2
      try unfold body_A.sl.r_1
      try unfold body_A.sl.r
      simp (disch := decide) only [View.read_writes_full, View.readAt_eq_ld, Memref.IsWhole.read_unread, View.ld_unit_lit', View.readCov_unit_lit', View.readCov_cons_unit_lit', sbF, sqF, nsaF, hd0, hd1, hd2, hd3, hd4, hd5, hd6, hd7]

end Cert.OutFfnIdeal.FFN

end
-- ==== Proof.FFN.RunB.lean ====
/-
  The kernel's body at the second point of a row tile leaves in its output's buffer what Body.lean names.
-/
module

public import proofs.«01_k».proof.Proof.FFN.Body
public import Idealize.ShloMosaic.Lib.VecWindow

@[expose] public section

set_option maxRecDepth 16384

noncomputable section

namespace Cert.OutFfnIdeal.FFN

open Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body_B (c : Dev nD) (i : grid0.Coords) (arg3 : Memref sig .tc .vmem S1x512x1024 .f32) (harg3 : arg3.IsWhole) (arg4 : Memref sig .tc .vmem S1x512x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x128 .f32) (harg7 : arg7.IsWhole) (arg8 : Memref sig .tc .vmem S1x8x512x64 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S128x1536 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1024x1408 .bf16) (harg18 : arg18.IsWhole) (arg19 : Memref sig .tc .vmem S1024x1408 .bf16) (harg19 : arg19.IsWhole) (arg20 : Memref sig .tc .vmem S1408x1024 .bf16) (harg20 : arg20.IsWhole) (arg21 : Memref sig .tc .vmem S1x1024 .f32) (harg21 : arg21.IsWhole) (arg22 : Memref sig .tc .vmem S1x512x1024 .f32) (harg22 : arg22.IsWhole) (arg23 : Memref sig .tc .vmem S512x1024 .f32) (harg23 : arg23.IsWhole) (arg24 : Memref sig .tc .vmem S512x1024 .bf16) (harg24 : arg24.IsWhole) (arg25 : Memref sig .tc .vmem S512x1024 .f32) (harg25 : arg25.IsWhole) (hc0 : ¬cond0_0 i) (hc1 : cond0_1 i)
    (x0 : Vec F S1x512x1024 .f32) (x1 : Vec F S1x512x512 .f32) (x2 : Vec F S1x512x512 .f32) (x3 : Vec F S1x512x512 .f32) (x4 : Vec F S1x512x128 .f32) (x5 : Vec F S1x8x512x64 .f32) (x6 : Vec F S1x1x1024 .f32) (x7 : Vec F S1x1x1024 .f32) (x8 : Vec F S1x1x1024 .f32) (x9 : Vec F S1x1x1024 .f32) (x10 : Vec F S128x1536 .bf16) (x11 : Vec F S1x512 .f32) (x12 : Vec F S1x512 .f32) (x13 : Vec F S1024x1024 .bf16) (x14 : Vec F S1x1024 .f32) (x15 : Vec F S1024x1408 .bf16) (x16 : Vec F S1024x1408 .bf16) (x17 : Vec F S1408x1024 .bf16) (x18 : Vec F S1x1024 .f32) (xs0 : Vec F S512x1024 .f32) (xs1 : Vec F S512x1024 .bf16) (xs2 : Vec F S512x1024 .f32)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ (∃ d, owns (c : Thread nD τ) arg22 fullShare d) ∗ owns (c : Thread nD τ) arg23 fullShare xs0 ∗ owns (c : Thread nD τ) arg24 fullShare xs1 ∗ owns (c : Thread nD τ) arg25 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare (outF xs0 (accF xs1 xs2 x15 x16 x17) x9 x18) ∗ owns (c : Thread nD τ) arg23 fullShare xs0 ∗ owns (c : Thread nD τ) arg24 fullShare xs1 ∗ owns (c : Thread nD τ) arg25 fullShare (accF xs1 xs2 x15 x16 x17)) -∗ K ⟨⟩))
          ⊢ wp frame (wpE (defs₀ (F := F)) Variants.none c none) E (cc0_out_ffn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
    simp only [cc0_out_ffn_eq_skeleton]; unfold cc0_out_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%fs0, %hs0, HS0⟩, ⟨%fs1, %hs1, HS1⟩, ⟨%fs2, %hs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg23.eq_unread hs0; obtain rfl := harg24.eq_unread hs1; obtain rfl := harg25.eq_unread hs2
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr; · ipureintro; exact hf12
      iexact H12
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    isplitl [H16]
    · iexists _; isplitr; · ipureintro; exact hf16
      iexact H16
    isplitl [H17]
    · iexists _; isplitr; · ipureintro; exact hf17
      iexact H17
    isplitl [H18]
    · iexists _; isplitr; · ipureintro; exact hf18
      iexact H18
    isplitl [H19]
    · iexists _; isplitr; swap; · iexact H19
      ipureintro
      refine (View.read_writes_full _ _ _ _ _).trans ?_
      unfold outF accF
      try unfold body_B.sl.v34
      try unfold body_B.sl.HS2_1
      simp (disch := decide) only [View.read_writes_full, View.readAt_eq_ld, Memref.IsWhole.read_unread, View.ld_unit_lit', View.readCov_unit_lit', View.readCov_cons_unit_lit', sbF, sqF, nsaF, hd0, hd1, hd2, hd3, hd4, hd5, hd6, hd7]
    isplitl [HS0]
    · iexists _; isplitr; · ipureintro; exact hs0
      iexact HS0
    isplitl [HS1]
    · iexists _; isplitr; · ipureintro; exact hs1
      iexact HS1
    · iexists _; isplitr; swap; · iexact HS2
      ipureintro
      unfold body_B.sl.HS2_1
      refine (View.read_writes_full _ _ _ _ _).trans ?_
      unfold accF
      simp (disch := decide) only [View.read_writes_full, View.readAt_eq_ld, Memref.IsWhole.read_unread, View.ld_unit_lit', View.readCov_unit_lit', View.readCov_cons_unit_lit', sbF, sqF, nsaF, hd0, hd1, hd2, hd3, hd4, hd5, hd6, hd7]

end Cert.OutFfnIdeal.FFN

end
-- ==== Proof.FFN.Run.lean ====
/-
  The run of the out_ffn call: what each buffer holds at each grid point, the body's obligation, the launch and the frame.
-/
module

public import proofs.«01_k».proof.Proof.FFN.RunA
public import proofs.«01_k».proof.Proof.FFN.RunB
public import Idealize.ShloMosaic.Lib.Claim

@[expose] public section

set_option maxRecDepth 16384

noncomputable section

namespace Cert.OutFfnIdeal.FFN

open Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers and the output's hold after a point -/

/-- The three scratch buffers after the first point `t` of a row tile. -/
def X1 (c : Dev nD) (t : Fin cfg0.N) : Vec F S512x1024 .f32 := x1F (iblk m c 0 t) (iblk m c 1 t) (iblk m c 2 t) (iblk m c 3 t) (iblk m c 4 t) (iblk m c 5 t) (iblk m c 6 t) (iblk m c 10 t) (iblk m c 11 t) (iblk m c 12 t) (iblk m c 13 t)
def H2 (c : Dev nD) (t : Fin cfg0.N) : Vec F S512x1024 .bf16 := h2F (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (iblk m c 14 t)
def AC (c : Dev nD) (t : Fin cfg0.N) : Vec F S512x1024 .f32 := accF (H2 m c t) k0_pay2 (iblk m c 15 t) (iblk m c 16 t) (iblk m c 17 t)

/-- The point before `t` (the first point of its row tile, where `t` is the second). -/
def prev (t : Fin cfg0.N) : Fin cfg0.N := ⟨t.val - 1, lt_of_le_of_lt (Nat.sub_le _ _) t.isLt⟩

/-- The output's buffer after the second point `t` of a row tile. -/
def OUT (c : Dev nD) (t : Fin cfg0.N) : Vec F S1x512x1024 .f32 :=
  outF (X1 m c (prev t)) (accF (H2 m c (prev t)) (AC m c (prev t)) (iblk m c 15 t) (iblk m c 16 t) (iblk m c 17 t)) (iblk m c 9 t) (iblk m c 18 t)

/-- What is held between points: before a row tile's second point the scratch buffers at what its first left, else at anything. -/
def PhiS (c : Dev nD) (n : ℕ) (h : n ≤ cfg0.N) : sProp 𝕄 :=
  if ho : n % 2 = 1 then
    iprop(iprop(owns (c : Thread nD τ) scM0_0 fullShare (X1 m c ⟨n - 1, by omega⟩) ∗ owns (c : Thread nD τ) scM0_1 fullShare (H2 m c ⟨n - 1, by omega⟩) ∗ owns (c : Thread nD τ) scM0_2 fullShare (AC m c ⟨n - 1, by omega⟩)) ∗ (∃ r, prngReg c r))
  else Pipeline.ΦA spec0 c

theorem PhiS_even (c : Dev nD) (n : ℕ) (h : n ≤ cfg0.N) (he : n % 2 = 0) : PhiS m c n h = Pipeline.ΦA spec0 c := by
  unfold PhiS; exact dif_neg (by omega)
theorem PhiS_odd (c : Dev nD) (n : ℕ) (h : n ≤ cfg0.N) (ho : n % 2 = 1) :
    PhiS m c n h = iprop(iprop(owns (c : Thread nD τ) scM0_0 fullShare (X1 m c ⟨n - 1, by omega⟩) ∗ owns (c : Thread nD τ) scM0_1 fullShare (H2 m c ⟨n - 1, by omega⟩) ∗ owns (c : Thread nD τ) scM0_2 fullShare (AC m c ⟨n - 1, by omega⟩)) ∗ (∃ r, prngReg c r)) := by
  unfold PhiS; exact dif_pos ho

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => OUT m c t
    | ⟨_ + 20, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = OUT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl]
  rw [show (dats m 0 c).Φ t.castSucc = PhiS m c t.val (Nat.le_of_lt t.isLt) from rfl,
    show (dats m 0 c).Φ t.succ = PhiS m c (t.val + 1) t.isLt from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  by_cases h0 : t.val % 2 = 0
  · have hA0 := (hcond0_0 t).mpr h0
    have hA1 : ¬cond0_1 (grid0.coords t) := fun h => by have := (hcond0_1 t).mp h; omega
    rw [Dat.leavesExact_idle (dats m 0 c) 19 t (idleAt0_19_A t hA0 hA1) (noFlush0_19_A t hA0 hA1)]
    rw [PhiS_even m c _ _ h0, PhiS_odd m c _ _ (by omega), PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (body_A c (grid0.coords t) _ _ _ _ _ _ _ _ _ _ _ _ _ _ _ _ _ _ _ _ _ _ _ _ _ _ _ _ _ _ _ _ _ _ _ _ _ _ _ _ _ _ _ _ _ _ hA0 hA1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexists _; iexact H19
  · have h1 : t.val % 2 = 1 := by omega
    have hB0 : ¬cond0_0 (grid0.coords t) := fun h => h0 ((hcond0_0 t).mp h)
    have hB1 := (hcond0_1 t).mpr h1
    rw [show (dats m 0 c).leavesExact 19 t = owns (c : Thread nD τ) (ms0_19 t) fullShare ((dats m 0 c).after 19 t) from by
      unfold Dat.leavesExact; rw [liveAt0_19_B t hB0 hB1], after0_19]
    rw [PhiS_odd m c _ _ h1, PhiS_even m c _ _ (by omega), PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (body_B c (grid0.coords t) _ _ _ _ _ _ _ _ _ _ _ _ _ _ _ _ _ _ _ _ _ _ _ _ _ _ _ _ _ _ _ _ _ _ _ _ _ _ _ _ _ _ _ _ _ _ hB0 hB1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexists _; iexact H19
    isplitl [HS0]; · iexact HS0
    isplitl [HS1]; · iexact HS1
    isplitl [HS2]; · iexact HS2
    iintro ⟨H0, H1, H2, H3, H4, H5, H6, H7, H8, H9, H10, H11, H12, H13, H14, H15, H16, H17, H18, H19, HS0, HS1, HS2⟩
    isplitl [HS0 HS1 HS2 Hg]
    · isplitl [HS0 HS1 HS2]
      · isplitl [HS0]; · iexists _; iexact HS0
        isplitl [HS1]; · iexists _; iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_even m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_even m c _ _ (by have : cfg0.N = 256 := N_0; omega)]
  try exact Idealize.SL.BI.Entails.refl _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.OutFfnIdeal.FFN

end
-- ==== Proof.FFN.Math.lean ====
/-
  The output projection and the feed-forward of one row, as plain functions of the row's numbers, and what the kernel's
  body computes element by element in those terms.
-/
module

public import proofs.«01_k».proof.Proof.FFN.Body
public import Idealize.ShloMosaic.Lib.Pipeline.ValueKit

@[expose] public section

set_option maxRecDepth 16384

noncomputable section

namespace Cert.FFMath

open Idealize.ShloMosaic

/-- The logistic function. -/
def lgs (x : EReal) : EReal := Ideal.div 1 (1 + Ideal.exp (-x))

/-- A row divided by its root mean square and scaled: `c` is the row's length. -/
def rms {n : ℕ} (c : EReal) (v g : Fin n → EReal) (k : Fin n) : EReal :=
  v k * Ideal.rsqrt (Ideal.div (∑ j, v j * v j) c + Ideal.ofBits .f32 0x358637BD#32) * g k

/-- The two lengths. -/
def c512 : EReal := Ideal.ofBits .f32 0x44000000#32
def c1024 : EReal := Ideal.ofBits .f32 0x44800000#32

/-- The residual stream after the output projection of the two normed branches. -/
def x1r (x ga : Fin 1024 → EReal) (a s gna gnb : Fin 512 → EReal) (w : Fin 1024 → Fin 1024 → EReal) (j : Fin 1024) : EReal :=
  x j + ga j * (∑ k : Fin 512, rms c512 a gna k * w ⟨k.val, by omega⟩ j + ∑ k : Fin 512, rms c512 s gnb k * w ⟨512 + k.val, by omega⟩ j)

/-- The feed-forward's input: the norm, scaled and shifted. -/
def h2r (x1 g sc sh : Fin 1024 → EReal) (j : Fin 1024) : EReal := rms c1024 x1 g j * (1 + sc j) + sh j

/-- One hidden unit: the gate's column `wg` and the other column `wu`. -/
def act (h wg wu : Fin 1024 → EReal) : EReal :=
  (∑ k, h k * wg k) * lgs (∑ k, h k * wg k) * ∑ k, h k * wu k

/-- The residual stream after the feed-forward. -/
def yr (x1 gm h : Fin 1024 → EReal) (wg wu : Fin 2816 → Fin 1024 → EReal) (wd : Fin 2816 → Fin 1024 → EReal) (j : Fin 1024) : EReal :=
  x1 j + gm j * ∑ n : Fin 2816, act h (wg n) (wu n) * wd n j

/-- The gated sum of the three sparse branches, a head's 64 columns sharing its gates. -/
def nsar (l : Fin 3 → Fin 8 → EReal) (a b c : Fin 512 → EReal) (j : Fin 512) : EReal :=
  lgs (l 0 ⟨j.val / 64, by omega⟩) * a j + lgs (l 1 ⟨j.val / 64, by omega⟩) * b j + lgs (l 2 ⟨j.val / 64, by omega⟩) * c j

/-- The logistic function's values are finite numbers, whatever the argument. -/
theorem lgs_real (x : EReal) : ∃ y : ℝ, lgs x = (y : EReal) := by
  have e0 : Ideal.exp ⊥ = 0 := rfl
  have e1 : Ideal.exp ⊤ = ⊤ := rfl
  have e2 : ∀ r : ℝ, Ideal.exp (r : EReal) = (Real.exp r : EReal) := fun _ => rfl
  unfold lgs
  induction x using EReal.rec with
  | bot =>
    rw [EReal.neg_bot, e1]
    refine ⟨0, ?_⟩
    rw [show (1 : EReal) + ⊤ = ⊤ from EReal.add_top_of_ne_bot (by decide)]
    simp [Ideal.div]
  | top =>
    rw [EReal.neg_top, e0]
    exact ⟨1, by simp [Ideal.div]⟩
  | coe x =>
    have h : (1 : ℝ) + Real.exp (-x) ≠ 0 := by have := Real.exp_pos (-x); linarith
    rw [← EReal.coe_neg, e2, ← EReal.coe_one, ← EReal.coe_add]
    exact ⟨(1 + Real.exp (-x))⁻¹, by rw [Ideal.div, if_neg (by exact_mod_cast h)]; rw [EReal.coe_one, one_mul, EReal.coe_inv]⟩

/-- A finite number less itself is nought. -/
theorem lgs_sub (x : EReal) : lgs x - lgs x = 0 := by
  obtain ⟨y, hy⟩ := lgs_real x
  rw [hy, ← EReal.coe_sub, sub_self, EReal.coe_zero]

end Cert.FFMath

namespace Cert.OutFfnIdeal.FFN

open Cert.OutFfnIdeal.Gen Cert.FFMath
open Idealize.ShloMosaic Idealize.ShloMosaic.TcCoe Idealize.SL.Sem

local notation "II" => Idealize.ShloMosaic.Ideal

/-- The gates' table: a column's head and branch choose one of the 24 gates. -/
def IsExp (e : FVec II S128x1536 .bf16) : Prop :=
  ∀ (k : Fin 128) (j : Fin 1536), e (ix2 k j) = if k.val = j.val / 512 * 8 + j.val % 512 / 64 then (1 : EReal) else 0

theorem exp_sum {e : FVec II S128x1536 .bf16} (he : IsExp e) (f : Fin 128 → EReal) (j : Fin 1536) :
    ∑ k : Fin 128, f k * e (ix2 k j) = f ⟨j.val / 512 * 8 + j.val % 512 / 64, by omega⟩ := by
  rw [Finset.sum_eq_single ⟨j.val / 512 * 8 + j.val % 512 / 64, by omega⟩]
  · rw [he, if_pos rfl]; exact mul_one _
  · intro k _ hk
    rw [he, if_neg fun h => hk (Fin.ext h)]; exact mul_zero _
  · exact fun h => absurd (Finset.mem_univ _) h

theorem nsaF_at (x1 x2 x3 : FVec II S1x512x512 .f32) (x4 : FVec II S1x512x128 .f32) (x10 : FVec II S128x1536 .bf16) (he : IsExp x10)
    (r : Fin 512) (l : Fin 3 → Fin 8 → EReal)
    (hl : ∀ (i : Fin 3) (h : Fin 8), x4 (ix3 0 r ⟨i.val * 8 + h.val, by omega⟩) = lgs (l i h)) (j : Fin 512) :
    nsaF (F := II) x1 x2 x3 x4 x10 (ix2 r j) = nsar l (fun k => x1 (ix3 0 r k)) (fun k => x2 (ix3 0 r k)) (fun k => x3 (ix3 0 r k)) j := by
  have key : ∀ (i : Fin 3) (p : ℕ) (hp : p < 1536), p = 512 * i.val + j.val →
      ∑ x, x4 (ix3 0 r x) * x10 (ix2 x ⟨p, hp⟩) + ∑ x, (x4 (ix3 0 r x) - x4 (ix3 0 r x)) * x10 (ix2 x ⟨p, hp⟩) = lgs (l i ⟨j.val / 64, by omega⟩) := by
    intro i p hp hpe
    have e := hl i ⟨j.val / 64, by omega⟩
    have e' : (⟨p / 512 * 8 + p % 512 / 64, by omega⟩ : Fin 128) = ⟨i.val * 8 + j.val / 64, by omega⟩ :=
      Fin.ext (by show p / 512 * 8 + p % 512 / 64 = i.val * 8 + j.val / 64; omega)
    refine (congrArg₂ (fun a b : EReal => a + b) (exp_sum he (fun x => x4 (ix3 0 r x)) ⟨p, hp⟩) (exp_sum he (fun x => (x4 (ix3 0 r x) - x4 (ix3 0 r x) : EReal)) ⟨p, hp⟩)).trans ?_
    show x4 (ix3 0 r ⟨p / 512 * 8 + p % 512 / 64, _⟩) + (x4 (ix3 0 r ⟨p / 512 * 8 + p % 512 / 64, _⟩) - x4 (ix3 0 r ⟨p / 512 * 8 + p % 512 / 64, _⟩)) = _
    rw [e', e, lgs_sub, add_zero]
  pointwise [nsaF, k0_pay5]
  unfold nsar
  rw [key 0 _ _ (by simp), key 1 _ _ (by simp), key 2 _ _ (by simp)]

theorem sbF_at (x5 : FVec II S1x8x512x64 .f32) (r : Fin 512) (j : Fin 512) :
    sbF (F := II) x5 (ix2 r j) = x5 (ix4 0 ⟨j.val / 64, by omega⟩ r ⟨j.val % 64, by omega⟩) := by
  pointwise [sbF, k0_pay8, k0_pay6, k0_pay7, hd0, hd1, hd2, hd3, hd4, hd5, hd6, hd7]
  obtain ⟨h, d, hd⟩ : ∃ (h : Fin 8) (d : Fin 64), j.val = 64 * h.val + d.val := ⟨⟨j.val / 64, by omega⟩, ⟨j.val % 64, by omega⟩, by simp only []; omega⟩
  have e1 : (⟨j.val / 64, by omega⟩ : Fin 8) = h := Fin.ext (by show j.val / 64 = h.val; omega)
  have e2 : (⟨j.val % 64, by omega⟩ : Fin 64) = d := Fin.ext (by show j.val % 64 = d.val; omega)
  rw [e1, e2]
  have hh : h.val < 8 := h.isLt
  have key : ∀ (n : ℕ) (hn : n < 8) (e : ℕ) (he : e < 64), h.val = n → e = d.val →
      x5 (ix4 0 ⟨n, hn⟩ r ⟨e, he⟩) = x5 (ix4 0 h r d) := fun n hn e he h1 h2 =>
    congrArg₂ (fun (h : Fin 8) (d : Fin 64) => x5 (ix4 0 h r d)) (Fin.ext h1.symm) (Fin.ext h2)
  repeat' split
  all_goals first | exact key 0 (by omega) _ (by omega) (by omega) (by omega) | exact key 1 (by omega) _ (by omega) (by omega) (by omega) | exact key 2 (by omega) _ (by omega) (by omega) (by omega) | exact key 3 (by omega) _ (by omega) (by omega) (by omega) | exact key 4 (by omega) _ (by omega) (by omega) (by omega) | exact key 5 (by omega) _ (by omega) (by omega) (by omega) | exact key 6 (by omega) _ (by omega) (by omega) (by omega) | exact key 7 (by omega) _ (by omega) (by omega) (by omega)

theorem sqF_at (x5 : FVec II S1x8x512x64 .f32) (r : Fin 512) :
    sqF (F := II) x5 (ix1 r) = ∑ j : Fin 512, sbF (F := II) x5 (ix2 r j) * sbF (F := II) x5 (ix2 r j) := by
  unfold sqF k0_pay11
  pointwise []
  rfl

theorem x1F_at (x0 : FVec II S1x512x1024 .f32) (x1 x2 x3 : FVec II S1x512x512 .f32) (x4 : FVec II S1x512x128 .f32) (x5 : FVec II S1x8x512x64 .f32)
    (x6 : FVec II S1x1x1024 .f32) (x10 : FVec II S128x1536 .bf16) (x11 x12 : FVec II S1x512 .f32) (x13 : FVec II S1024x1024 .bf16) (r : Fin 512) (j : Fin 1024) :
    x1F (F := II) x0 x1 x2 x3 x4 x5 x6 x10 x11 x12 x13 (ix2 r j)
      = x1r (fun j => x0 (ix3 0 r j)) (fun j => x6 (ix3 0 0 j)) (fun k => nsaF (F := II) x1 x2 x3 x4 x10 (ix2 r k)) (fun k => sbF (F := II) x5 (ix2 r k))
        (fun k => x11 (ix2 0 k)) (fun k => x12 (ix2 0 k)) (fun a b => x13 (ix2 a b)) j := by
  unfold x1F x1r rms
  generalize nsaF (F := II) x1 x2 x3 x4 x10 = A
  have hq := sqF_at x5 r
  generalize sqF (F := II) x5 = Q at hq ⊢
  generalize sbF (F := II) x5 = S at hq ⊢
  pointwise [k0_pay13, k0_pay12, k0_pay9, k0_pay10]
  rw [hq]
  rfl

theorem h2F_at (x0 : FVec II S1x512x1024 .f32) (x1 x2 x3 : FVec II S1x512x512 .f32) (x4 : FVec II S1x512x128 .f32) (x5 : FVec II S1x8x512x64 .f32)
    (x6 x7 x8 : FVec II S1x1x1024 .f32) (x10 : FVec II S128x1536 .bf16) (x11 x12 : FVec II S1x512 .f32) (x13 : FVec II S1024x1024 .bf16) (x14 : FVec II S1x1024 .f32)
    (r : Fin 512) (j : Fin 1024) :
    h2F (F := II) x0 x1 x2 x3 x4 x5 x6 x7 x8 x10 x11 x12 x13 x14 (ix2 r j)
      = h2r (fun j => x1F (F := II) x0 x1 x2 x3 x4 x5 x6 x10 x11 x12 x13 (ix2 r j)) (fun j => x14 (ix2 0 j)) (fun j => x8 (ix3 0 0 j)) (fun j => x7 (ix3 0 0 j)) j := by
  have hx : ∀ j, x1F (F := II) x0 x1 x2 x3 x4 x5 x6 x10 x11 x12 x13 (ix2 r j)
      = k0_pay12 (sbF (F := II) x5) (k0_pay9 (F := II) (nsaF (F := II) x1 x2 x3 x4 x10) x11) (k0_pay10 x12) (sqF (F := II) x5) x0 x6 x13 (ix2 r j) := fun j => by
    unfold x1F k0_pay13
    pointwise []
  simp only [hx]
  unfold h2F k0_pay14 h2r rms
  generalize k0_pay12 (sbF (F := II) x5) (k0_pay9 (F := II) (nsaF (F := II) x1 x2 x3 x4 x10) x11) (k0_pay10 x12) (sqF (F := II) x5) x0 x6 x13 = X
  pointwise [k0_pay1]
  rfl

theorem accF_at (h : FVec II S512x1024 .bf16) (acc : FVec II S512x1024 .f32) (x15 x16 : FVec II S1024x1408 .bf16) (x17 : FVec II S1408x1024 .bf16)
    (r : Fin 512) (j : Fin 1024) :
    accF (F := II) h acc x15 x16 x17 (ix2 r j)
      = acc (ix2 r j) + ∑ n : Fin 1408, act (fun k => h (ix2 r k)) (fun k => x15 (ix2 k n)) (fun k => x16 (ix2 k n)) * x17 (ix2 n j) := by
  unfold act lgs
  pointwise [accF, k0_pay3]
  simp only [zero_sub]

theorem outF_at (y acc : FVec II S512x1024 .f32) (x9 : FVec II S1x1x1024 .f32) (x18 : FVec II S1x1024 .f32) (r : Fin 512) (j : Fin 1024) :
    outF (F := II) y acc x9 x18 (ix3 0 r j)
      = rms c1024 (fun j => y (ix2 r j) + x9 (ix3 0 0 j) * acc (ix2 r j)) (fun j => x18 (ix2 0 j)) j := by
  unfold rms
  pointwise [outF, k0_pay4]
  rfl

theorem pay2_at (r : Fin 512) (j : Fin 1024) : k0_pay2 (F := II) (ix2 r j) = (0 : EReal) := by
  pointwise [k0_pay2]

end Cert.OutFfnIdeal.FFN

end
-- ==== Proof.FFN.Entry.lean ====
/-
  What the kernel's region reads: each window's array in terms of the arguments, and each window's block at a grid point.
-/
module

public import proofs.«01_k».proof.Proof.FFN.Math
public import proofs.«01_k».proof.Proof.Gen.OutFfnIdeal.Frame.Runs

@[expose] public section

set_option maxRecDepth 16384

noncomputable section

namespace Cert.OutFfnIdeal.FFN

open Cert.OutFfnIdeal Cert.OutFfnIdeal.Gen Cert.FFMath
open Idealize.ShloMosaic Idealize.ShloMosaic.TcCoe Idealize.SL.Sem

local notation "II" => Idealize.ShloMosaic.Ideal

variable (m : (ℓ : Loc nD τ sig) → Buf (Elt II) ℓ)

theorem V_eq (c : Dev nD) (b : Ref sig .tc) : V m c b = StableHlo.after hostOps0_8 (StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 (fun b => m (c, b)))))))))) (Proc.devRef .tc b) := by
  show StableHlo.after ([hostOps0, hostOps0_1, hostOps0_2, hostOps0_3, hostOps0_4, hostOps0_5, hostOps0_6, hostOps0_7, hostOps0_8].flatten) _ _ = _
  simp only [List.flatten_cons, List.flatten_nil, List.append_nil, StableHlo.after_append]

/-- An equality test's bit as a number. -/
theorem eq_at (a b : ℕ) (ha : a < 2 ^ 32) (hb : b < 2 ^ 32) :
    (FloatOps.uitofp .bf16 (IntOp.cmpi .eq (BitVec.ofNat 32 a) (BitVec.ofNat 32 b)) : II .bf16) = if a = b then (1 : EReal) else 0 := by
  have h : (BitVec.ofNat 32 a == BitVec.ofNat 32 b) = decide (a = b) := by
    rw [Bool.eq_iff_iff, beq_iff_eq, decide_eq_true_iff, ← BitVec.toNat_inj, BitVec.toNat_ofNat, BitVec.toNat_ofNat, Nat.mod_eq_of_lt ha, Nat.mod_eq_of_lt hb]
  show ((((BitVec.ofBool (BitVec.ofNat 32 a == BitVec.ofNat 32 b)).toNat : ℕ) : ℝ) : EReal) = _
  rw [h]
  by_cases e : a = b
  · rw [if_pos e, decide_eq_true e]; show (((1 : ℕ) : ℝ) : EReal) = 1; norm_num
  · rw [if_neg e, decide_eq_false e]; show (((0 : ℕ) : ℝ) : EReal) = 0; norm_num

set_option maxHeartbeats 1600000 in
theorem v8_at (c : Dev nD) (b : Fin 8) (q : Fin 8192) (j : Fin 512) :
    V m c main_v8 (ix3 b q j) = (m ((c : Thread nD τ).loc main_arg1) : FVec II S8x8192x8x64 .f32) (ix4 b q ⟨j.val / 64, by omega⟩ ⟨j.val % 64, by omega⟩) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []
set_option maxHeartbeats 1600000 in
theorem v9_at (c : Dev nD) (b : Fin 8) (q : Fin 8192) (j : Fin 512) :
    V m c main_v9 (ix3 b q j) = (m ((c : Thread nD τ).loc main_arg2) : FVec II S8x8192x8x64 .f32) (ix4 b q ⟨j.val / 64, by omega⟩ ⟨j.val % 64, by omega⟩) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []
set_option maxHeartbeats 1600000 in
theorem v10_at (c : Dev nD) (b : Fin 8) (q : Fin 8192) (j : Fin 512) :
    V m c main_v10 (ix3 b q j) = (m ((c : Thread nD τ).loc main_arg3) : FVec II S8x8192x8x64 .f32) (ix4 b q ⟨j.val / 64, by omega⟩ ⟨j.val % 64, by omega⟩) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []

set_option maxHeartbeats 1600000 in
/-- The gates. -/
theorem v7_at (c : Dev nD) (b : Fin 8) (q : Fin 8192) (i : Fin 3) (h : Fin 8) :
    V m c main_v7 (ix3 b q (⟨i.val * 8 + h.val, by omega⟩ : Fin 128)) = lgs ((m ((c : Thread nD τ).loc main_arg4) : FVec II S8x8192x3x8 .f32) (ix4 b q i h)) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise [lgs]
  have e1 : (⟨(i.val * 8 + h.val) / 8, by omega⟩ : Fin 3) = i := Fin.ext (by show (i.val * 8 + h.val) / 8 = i.val; omega)
  have e2 : (⟨(i.val * 8 + h.val) % 8, by omega⟩ : Fin 8) = h := Fin.ext (by show (i.val * 8 + h.val) % 8 = h.val; omega)
  rw [dif_pos (show i.val * 8 + h.val < 24 by omega), e1, e2]

set_option maxHeartbeats 1600000 in
/-- The stick-breaking output by head. -/
theorem v11_at (c : Dev nD) (b : Fin 8) (h : Fin 8) (q : Fin 8192) (d : Fin 64) :
    V m c main_v11 (ix4 b h q d) = (m ((c : Thread nD τ).loc main_arg5) : FVec II S8x8192x8x64 .f32) (ix4 b q h d) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []

set_option maxHeartbeats 1600000 in
theorem v26_at (c : Dev nD) (i j : Fin 1024) : V m c main_v26 (ix2 i j) = (m ((c : Thread nD τ).loc main_arg12) : FVec II S1024x1024 .f32) (ix2 i j) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []
set_option maxHeartbeats 1600000 in
theorem v27_at (c : Dev nD) (i : Fin 1024) (j : Fin 2816) : V m c main_v27 (ix2 i j) = (m ((c : Thread nD τ).loc main_arg14) : FVec II S1024x2816 .f32) (ix2 i j) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []
set_option maxHeartbeats 1600000 in
theorem v28_at (c : Dev nD) (i : Fin 1024) (j : Fin 2816) : V m c main_v28 (ix2 i j) = (m ((c : Thread nD τ).loc main_arg15) : FVec II S1024x2816 .f32) (ix2 i j) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []
set_option maxHeartbeats 1600000 in
theorem v29_at (c : Dev nD) (i : Fin 2816) (j : Fin 1024) : V m c main_v29 (ix2 i j) = (m ((c : Thread nD τ).loc main_arg16) : FVec II S2816x1024 .f32) (ix2 i j) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []
set_option maxHeartbeats 1600000 in
theorem v30_at (c : Dev nD) (j : Fin 512) : V m c main_v30 (ix2 0 j) = (m ((c : Thread nD τ).loc main_arg10) : FVec II S512 .f32) (ix1 j) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []
set_option maxHeartbeats 1600000 in
theorem v31_at (c : Dev nD) (j : Fin 512) : V m c main_v31 (ix2 0 j) = (m ((c : Thread nD τ).loc main_arg11) : FVec II S512 .f32) (ix1 j) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []
set_option maxHeartbeats 1600000 in
theorem v32_at (c : Dev nD) (j : Fin 1024) : V m c main_v32 (ix2 0 j) = (m ((c : Thread nD τ).loc main_arg13) : FVec II S1024 .f32) (ix1 j) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []
set_option maxHeartbeats 1600000 in
theorem v33_at (c : Dev nD) (j : Fin 1024) : V m c main_v33 (ix2 0 j) = (m ((c : Thread nD τ).loc main_arg17) : FVec II S1024 .f32) (ix1 j) := by
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []

set_option maxHeartbeats 1600000 in
/-- The table that spreads the gates over the columns. -/
theorem v25_at (c : Dev nD) : IsExp (V m c main_v25) := by
  intro k j
  rw [V_eq]
  simp only [hostOps0, hostOps0_1, hostOps0_2, hostOps0_3, hostOps0_4, hostOps0_5, hostOps0_6, hostOps0_7, hostOps0_8, StableHlo.after_cons, StableHlo.after_nil, StableHlo.TRef.unary, StableHlo.TRef.binary, StableHlo.TRef.nullary, StableHlo.TRef.ternary, StableHlo.TRef.toBuf, StableHlo.TRef.ofBuf, cast_eq, id_eq]
  after_results_simp
  pointwise []
  refine (congrArg (fun w : BitVec 32 => (FloatOps.uitofp .bf16 (IntOp.cmpi .eq (BitVec.ofNat 32 k.val) w) : II .bf16))
    (?_ : _ = BitVec.ofNat 32 (j.val / 512 * 8 + j.val % 512 / 64))).trans (eq_at k.val _ (by omega) (by omega))
  clear k
  revert j
  decide +kernel
end Cert.OutFfnIdeal.FFN
end
-- ==== Proof.FFN.Blocks.lean ====
/-
  What the kernel's region reads: each window's array in terms of the arguments, and each window's block at a grid point.
-/
module

public import proofs.«01_k».proof.Proof.FFN.Math
public import proofs.«01_k».proof.Proof.Gen.OutFfnIdeal.Frame.Runs

@[expose] public section

set_option maxRecDepth 16384

noncomputable section

namespace Cert.OutFfnIdeal.FFN

open Cert.OutFfnIdeal Cert.OutFfnIdeal.Gen Cert.FFMath
open Idealize.ShloMosaic Idealize.ShloMosaic.TcCoe Idealize.SL.Sem

local notation "II" => Idealize.ShloMosaic.Ideal

variable (m : (ℓ : Loc nD τ sig) → Buf (Elt II) ℓ)

/-- Each window's block at every grid point. -/
theorem idx : ∀ t : Fin cfg0.N, win0_0.index t = ![t.val / 32, t.val / 2 % 16, 0] ∧ win0_1.index t = ![t.val / 32, t.val / 2 % 16, 0]
    ∧ win0_2.index t = ![t.val / 32, t.val / 2 % 16, 0] ∧ win0_3.index t = ![t.val / 32, t.val / 2 % 16, 0] ∧ win0_4.index t = ![t.val / 32, t.val / 2 % 16, 0]
    ∧ win0_5.index t = ![t.val / 32, 0, t.val / 2 % 16, 0] ∧ win0_6.index t = ![t.val / 32, 0, 0] ∧ win0_7.index t = ![t.val / 32, 0, 0]
    ∧ win0_8.index t = ![t.val / 32, 0, 0] ∧ win0_9.index t = ![t.val / 32, 0, 0] ∧ win0_10.index t = ![0, 0] ∧ win0_11.index t = ![0, 0]
    ∧ win0_12.index t = ![0, 0] ∧ win0_13.index t = ![0, 0] ∧ win0_14.index t = ![0, 0] ∧ win0_15.index t = ![0, t.val % 2]
    ∧ win0_16.index t = ![0, t.val % 2] ∧ win0_17.index t = ![t.val % 2, 0] ∧ win0_18.index t = ![0, 0] ∧ win0_19.index t = ![t.val / 32, t.val / 2 % 16, 0] :=
  (by decide +kernel : ∀ t : Fin grid0.N, _)

/-- The blocks of the row tile. -/
theorem blk0 (c : Dev nD) (t : Fin cfg0.N) (b : Fin 8) (q : Fin 8192) (r : Fin 512) (j : Fin 1024)
    (hb : b.val = t.val / 32) (hq : q.val = 512 * (t.val / 2 % 16) + r.val) :
    iblk m c 0 t (ix3 0 r j) = V m c main_arg0 (ix3 b q j) := by
  blk_ext [iblk, idx t]
theorem blk1 (c : Dev nD) (t : Fin cfg0.N) (b : Fin 8) (q : Fin 8192) (r : Fin 512) (j : Fin 512)
    (hb : b.val = t.val / 32) (hq : q.val = 512 * (t.val / 2 % 16) + r.val) :
    iblk m c 1 t (ix3 0 r j) = V m c main_v8 (ix3 b q j) := by
  blk_ext [iblk, idx t]
theorem blk2 (c : Dev nD) (t : Fin cfg0.N) (b : Fin 8) (q : Fin 8192) (r : Fin 512) (j : Fin 512)
    (hb : b.val = t.val / 32) (hq : q.val = 512 * (t.val / 2 % 16) + r.val) :
    iblk m c 2 t (ix3 0 r j) = V m c main_v9 (ix3 b q j) := by
  blk_ext [iblk, idx t]
theorem blk3 (c : Dev nD) (t : Fin cfg0.N) (b : Fin 8) (q : Fin 8192) (r : Fin 512) (j : Fin 512)
    (hb : b.val = t.val / 32) (hq : q.val = 512 * (t.val / 2 % 16) + r.val) :
    iblk m c 3 t (ix3 0 r j) = V m c main_v10 (ix3 b q j) := by
  blk_ext [iblk, idx t]
theorem blk4 (c : Dev nD) (t : Fin cfg0.N) (b : Fin 8) (q : Fin 8192) (r : Fin 512) (j : Fin 128)
    (hb : b.val = t.val / 32) (hq : q.val = 512 * (t.val / 2 % 16) + r.val) :
    iblk m c 4 t (ix3 0 r j) = V m c main_v7 (ix3 b q j) := by
  blk_ext [iblk, idx t]
theorem blk5 (c : Dev nD) (t : Fin cfg0.N) (b h : Fin 8) (q : Fin 8192) (r : Fin 512) (d : Fin 64)
    (hb : b.val = t.val / 32) (hq : q.val = 512 * (t.val / 2 % 16) + r.val) :
    iblk m c 5 t (ix4 0 h r d) = V m c main_v11 (ix4 b h q d) := by
  blk_ext [iblk, idx t]

/-- The four modulations' rows. -/
theorem blk6 (c : Dev nD) (t : Fin cfg0.N) (b : Fin 8) (j : Fin 1024) (hb : b.val = t.val / 32) :
    iblk m c 6 t (ix3 0 0 j) = V m c main_arg6 (ix3 b 0 j) := by
  blk_ext [iblk, idx t]
theorem blk7 (c : Dev nD) (t : Fin cfg0.N) (b : Fin 8) (j : Fin 1024) (hb : b.val = t.val / 32) :
    iblk m c 7 t (ix3 0 0 j) = V m c main_arg7 (ix3 b 0 j) := by
  blk_ext [iblk, idx t]
theorem blk8 (c : Dev nD) (t : Fin cfg0.N) (b : Fin 8) (j : Fin 1024) (hb : b.val = t.val / 32) :
    iblk m c 8 t (ix3 0 0 j) = V m c main_arg8 (ix3 b 0 j) := by
  blk_ext [iblk, idx t]
theorem blk9 (c : Dev nD) (t : Fin cfg0.N) (b : Fin 8) (j : Fin 1024) (hb : b.val = t.val / 32) :
    iblk m c 9 t (ix3 0 0 j) = V m c main_arg9 (ix3 b 0 j) := by
  blk_ext [iblk, idx t]

/-- The whole weights. -/
theorem blk10 (c : Dev nD) (t : Fin cfg0.N) (i : Fin 128) (j : Fin 1536) : iblk m c 10 t (ix2 i j) = V m c main_v25 (ix2 i j) := by
  blk_ext [iblk, idx t]
theorem blk11 (c : Dev nD) (t : Fin cfg0.N) (j : Fin 512) : iblk m c 11 t (ix2 0 j) = V m c main_v30 (ix2 0 j) := by
  blk_ext [iblk, idx t]
theorem blk12 (c : Dev nD) (t : Fin cfg0.N) (j : Fin 512) : iblk m c 12 t (ix2 0 j) = V m c main_v31 (ix2 0 j) := by
  blk_ext [iblk, idx t]
theorem blk13 (c : Dev nD) (t : Fin cfg0.N) (i j : Fin 1024) : iblk m c 13 t (ix2 i j) = V m c main_v26 (ix2 i j) := by
  blk_ext [iblk, idx t]
theorem blk14 (c : Dev nD) (t : Fin cfg0.N) (j : Fin 1024) : iblk m c 14 t (ix2 0 j) = V m c main_v32 (ix2 0 j) := by
  blk_ext [iblk, idx t]
theorem blk18 (c : Dev nD) (t : Fin cfg0.N) (j : Fin 1024) : iblk m c 18 t (ix2 0 j) = V m c main_v33 (ix2 0 j) := by
  blk_ext [iblk, idx t]

/-- The halves of the feed-forward's weights. -/
theorem blk15 (c : Dev nD) (t : Fin cfg0.N) (i : Fin 1024) (n : Fin 1408) (n' : Fin 2816) (hn : n'.val = t.val % 2 * 1408 + n.val) :
    iblk m c 15 t (ix2 i n) = V m c main_v27 (ix2 i n') := by
  blk_ext [iblk, idx t]
theorem blk16 (c : Dev nD) (t : Fin cfg0.N) (i : Fin 1024) (n : Fin 1408) (n' : Fin 2816) (hn : n'.val = t.val % 2 * 1408 + n.val) :
    iblk m c 16 t (ix2 i n) = V m c main_v28 (ix2 i n') := by
  blk_ext [iblk, idx t]
theorem blk17 (c : Dev nD) (t : Fin cfg0.N) (n : Fin 1408) (j : Fin 1024) (n' : Fin 2816) (hn : n'.val = t.val % 2 * 1408 + n.val) :
    iblk m c 17 t (ix2 n j) = V m c main_v29 (ix2 n' j) := by
  blk_ext [iblk, idx t]

end Cert.OutFfnIdeal.FFN

end
-- ==== Proof.FFN.Ref.lean ====
/-
  The reference's result, element by element, in the terms of Math.lean.
-/
module

public import proofs.«01_k».proof.Proof.Gen.OutFfnReferenceIdeal.Run
public import proofs.«01_k».proof.Proof.FFN.Math

@[expose] public section

set_option maxRecDepth 16384

noncomputable section

namespace Cert.OutFfnReferenceIdeal.FFN

open Cert.OutFfnReferenceIdeal Cert.OutFfnReferenceIdeal.Gen Cert.FFMath
open Idealize.ShloMosaic Idealize.ShloMosaic.TcCoe Idealize.SL.Sem Idealize.ShloMosaic.StableHlo

local notation "II" => Idealize.ShloMosaic.Ideal

section pieces

variable (x : FVec II S8x8192x1024 .f32) (a1 a2 a3 a5 : FVec II S8x8192x8x64 .f32) (lg : FVec II S8x8192x3x8 .f32)
  (ga sh sc gm : FVec II S8x1x1024 .f32) (gna gnb : FVec II S512 .f32) (wo : FVec II S1024x1024 .f32) (gn gf : FVec II S1024 .f32)
  (wg wu : FVec II S1024x2816 .f32) (wd : FVec II S2816x1024 .f32) (b : Fin 8) (q : Fin 8192)

/-- The arrays of the reference, each as its row's function. -/
def nsaA (j : Fin 512) : EReal :=
  nsar (fun i h => lg (ix4 b q i h)) (fun j => a1 (ix4 b q ⟨j.val / 64, by omega⟩ ⟨j.val % 64, by omega⟩))
    (fun j => a2 (ix4 b q ⟨j.val / 64, by omega⟩ ⟨j.val % 64, by omega⟩)) (fun j => a3 (ix4 b q ⟨j.val / 64, by omega⟩ ⟨j.val % 64, by omega⟩)) j
def sbA (j : Fin 512) : EReal := a5 (ix4 b q ⟨j.val / 64, by omega⟩ ⟨j.val % 64, by omega⟩)
def x1A (j : Fin 1024) : EReal :=
  x1r (fun j => x (ix3 b q j)) (fun j => ga (ix3 b 0 j)) (nsaA a1 a2 a3 lg b q) (sbA a5 b q) (fun k => gna (ix1 k)) (fun k => gnb (ix1 k)) (fun i j => wo (ix2 i j)) j
def h2A (j : Fin 1024) : EReal :=
  h2r (x1A x a1 a2 a3 a5 lg ga gna gnb wo b q) (fun j => gn (ix1 j)) (fun j => sc (ix3 b 0 j)) (fun j => sh (ix3 b 0 j)) j
def yA (j : Fin 1024) : EReal :=
  yr (x1A x a1 a2 a3 a5 lg ga gna gnb wo b q) (fun j => gm (ix3 b 0 j)) (h2A x a1 a2 a3 a5 lg ga sh sc gna gnb wo gn b q)
    (fun n k => wg (ix2 k n)) (fun n k => wu (ix2 k n)) (fun n j => wd (ix2 n j)) j
def resA (j : Fin 1024) : EReal :=
  rms c1024 (yA x a1 a2 a3 a5 lg ga sh sc gm gna gnb wo gn wg wu wd b q) (fun j => gf (ix1 j)) j

/-- The result array. -/
def RES : FVec II S8x8192x1024 .f32 := fun i => resA x a1 a2 a3 a5 lg ga sh sc gm gna gnb wo gn gf wg wu wd (i 0) (i 1) (i 2)

end pieces

variable (V0 : Valuation τ sig (Elt II)) (b : Fin 8) (q : Fin 8192)

theorem v21_at (j : Fin 512) : Value.res_main_v21 V0 (ix3 b q j)
    = nsaA (V0 (Proc.devRef .tc main_arg1)) (V0 (Proc.devRef .tc main_arg2)) (V0 (Proc.devRef .tc main_arg3)) (V0 (Proc.devRef .tc main_arg4)) b q j := by
  unfold nsaA nsar lgs
  pointwise [Value.res_main_v21, Value.res_main_v6]

theorem v35_at (j : Fin 512) : Value.res_main_v35 V0 (ix3 b q j) = sbA (V0 (Proc.devRef .tc main_arg5)) b q j := by
  unfold sbA
  pointwise [Value.res_main_v35]

theorem v53_at (j : Fin 1024) : Value.res_main_v53 V0 (ix3 b q j)
    = x1A (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg4)) (V0 (Proc.devRef .tc main_arg6)) (V0 (Proc.devRef .tc main_arg10)) (V0 (Proc.devRef .tc main_arg11)) (V0 (Proc.devRef .tc main_arg12)) b q j := by
  unfold x1A x1r rms
  have h1 := v21_at V0 b q
  have h2 := v35_at V0 b q
  unfold Value.res_main_v53
  generalize Value.res_main_v21 V0 = N at h1 ⊢
  generalize Value.res_main_v35 V0 = S at h2 ⊢
  simp only [← h1, ← h2]
  pointwise []
  rfl

theorem v72_at (j : Fin 1024) : Value.res_main_v72 V0 (ix3 b q j)
    = h2A (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg4)) (V0 (Proc.devRef .tc main_arg6)) (V0 (Proc.devRef .tc main_arg7)) (V0 (Proc.devRef .tc main_arg8)) (V0 (Proc.devRef .tc main_arg10)) (V0 (Proc.devRef .tc main_arg11)) (V0 (Proc.devRef .tc main_arg12)) (V0 (Proc.devRef .tc main_arg13)) b q j := by
  unfold h2A h2r rms
  have h1 := v53_at V0 b q
  unfold Value.res_main_v72
  generalize Value.res_main_v53 V0 = N at h1 ⊢
  simp only [← h1]
  pointwise []
  rfl

theorem v80_at (j : Fin 1024) : Value.res_main_v80 V0 (ix3 b q j)
    = yA (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) b q j := by
  unfold yA yr act lgs
  have h1 := v53_at V0 b q
  have h2 := v72_at V0 b q
  unfold Value.res_main_v80 Value.res_main_v73
  generalize Value.res_main_v53 V0 = N at h1 ⊢
  generalize Value.res_main_v72 V0 = H at h2 ⊢
  simp only [← h1, ← h2]
  pointwise []

/-- The result's term is `RES` of the arguments. -/
theorem res_eq : mulf (mulf (Value.res_main_v80 V0) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (Value.res_main_v80 V0) (Value.res_main_v80 V0)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (V0 (Proc.devRef .tc main_arg17))))
    = RES (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg17)) (V0 (Proc.devRef .tc main_arg14)) (V0 (Proc.devRef .tc main_arg15)) (V0 (Proc.devRef .tc main_arg16)) := by
  have key : ∀ (b : Fin 8) (q : Fin 8192) (j : Fin 1024), mulf (mulf (Value.res_main_v80 V0) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (Value.res_main_v80 V0) (Value.res_main_v80 V0)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (V0 (Proc.devRef .tc main_arg17)))) (ix3 b q j)
      = resA (V0 (Proc.devRef .tc main_arg0)) (V0 (Proc.devRef .tc main_arg1)) (V0 (Proc.devRef .tc main_arg2)) (V0 (Proc.devRef .tc main_arg3)) (V0 (Proc.devRef .tc main_arg5)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg17)) (V0 (Proc.devRef .tc main_arg14)) (V0 (Proc.devRef .tc main_arg15)) (V0 (Proc.devRef .tc main_arg16)) b q j := by
    intro b q j
    unfold resA rms
    have h1 := v80_at V0 b q
    generalize Value.res_main_v80 V0 = N at h1 ⊢
    simp only [← h1]
    pointwise []
    rfl
  funext i
  obtain ⟨b, q, j, rfl⟩ : ∃ (b : Fin 8) (q : Fin 8192) (j : Fin 1024), i = ix3 b q j := ⟨i 0, i 1, i 2, eq_ix3 i⟩
  exact key b q j

end Cert.OutFfnReferenceIdeal.FFN

end
-- ==== Proof.FFN.Value.lean ====
/-
  The out_ffn call's result array, read off its run: the element of batch `b`, position `q` and column `j` is the row
  function `resA` of Ref.lean over the argument arrays.
-/
module

public import proofs.«01_k».proof.Proof.FFN.Run
public import proofs.«01_k».proof.Proof.FFN.Entry
public import proofs.«01_k».proof.Proof.FFN.Blocks
public import proofs.«01_k».proof.Proof.FFN.Ref
public import Idealize.ShloMosaic.Lib.Pipeline.ValueKit

@[expose] public section

set_option maxRecDepth 16384

noncomputable section

namespace Cert.OutFfnIdeal.FFN

open Cert.OutFfnIdeal Cert.OutFfnIdeal.Gen Cert.FFMath
open Idealize.ShloMosaic Idealize.ShloMosaic.TcCoe Idealize.SL.Sem
open Cert.OutFfnReferenceIdeal.FFN (nsaA sbA x1A h2A yA resA RES)

local notation "II" => Idealize.ShloMosaic.Ideal

/-! ## The row functions at equal rows -/

theorem nsar_congr {l l' : Fin 3 → Fin 8 → EReal} {a a' b b' c c' : Fin 512 → EReal} (hl : l = l') (ha : a = a') (hb : b = b') (hc : c = c') (j : Fin 512) :
    nsar l a b c j = nsar l' a' b' c' j := by subst hl ha hb hc; rfl
theorem rms_congr {n : ℕ} (c : EReal) {v v' g g' : Fin n → EReal} (hv : v = v') (hg : g = g') (k : Fin n) : rms c v g k = rms c v' g' k := by
  subst hv hg; rfl
theorem x1r_congr {x x' ga ga' : Fin 1024 → EReal} {a a' s s' p p' q q' : Fin 512 → EReal} {w w' : Fin 1024 → Fin 1024 → EReal}
    (hx : x = x') (hga : ga = ga') (ha : a = a') (hs : s = s') (hp : p = p') (hq : q = q') (hw : w = w') (j : Fin 1024) :
    x1r x ga a s p q w j = x1r x' ga' a' s' p' q' w' j := by subst hx hga ha hs hp hq hw; rfl
theorem h2r_congr {x x' g g' sc sc' sh sh' : Fin 1024 → EReal} (hx : x = x') (hg : g = g') (hsc : sc = sc') (hsh : sh = sh') (j : Fin 1024) :
    h2r x g sc sh j = h2r x' g' sc' sh' j := by subst hx hg hsc hsh; rfl
theorem act_congr {h h' g g' u u' : Fin 1024 → EReal} (hh : h = h') (hg : g = g') (hu : u = u') : act h g u = act h' g' u' := by
  subst hh hg hu; rfl

variable (m : (ℓ : Loc nD τ sig) → Buf (Elt II) ℓ)

/-- The argument arrays of core `c`. -/
abbrev A0 (c : Dev nD) : FVec II S8x8192x1024 .f32 := m ((c : Thread nD τ).loc main_arg0)
abbrev A1 (c : Dev nD) : FVec II S8x8192x8x64 .f32 := m ((c : Thread nD τ).loc main_arg1)
abbrev A2 (c : Dev nD) : FVec II S8x8192x8x64 .f32 := m ((c : Thread nD τ).loc main_arg2)
abbrev A3 (c : Dev nD) : FVec II S8x8192x8x64 .f32 := m ((c : Thread nD τ).loc main_arg3)
abbrev A4 (c : Dev nD) : FVec II S8x8192x3x8 .f32 := m ((c : Thread nD τ).loc main_arg4)
abbrev A5 (c : Dev nD) : FVec II S8x8192x8x64 .f32 := m ((c : Thread nD τ).loc main_arg5)
abbrev A6 (c : Dev nD) : FVec II S8x1x1024 .f32 := m ((c : Thread nD τ).loc main_arg6)
abbrev A7 (c : Dev nD) : FVec II S8x1x1024 .f32 := m ((c : Thread nD τ).loc main_arg7)
abbrev A8 (c : Dev nD) : FVec II S8x1x1024 .f32 := m ((c : Thread nD τ).loc main_arg8)
abbrev A9 (c : Dev nD) : FVec II S8x1x1024 .f32 := m ((c : Thread nD τ).loc main_arg9)
abbrev A10 (c : Dev nD) : FVec II S512 .f32 := m ((c : Thread nD τ).loc main_arg10)
abbrev A11 (c : Dev nD) : FVec II S512 .f32 := m ((c : Thread nD τ).loc main_arg11)
abbrev A12 (c : Dev nD) : FVec II S1024x1024 .f32 := m ((c : Thread nD τ).loc main_arg12)
abbrev A13 (c : Dev nD) : FVec II S1024 .f32 := m ((c : Thread nD τ).loc main_arg13)
abbrev A14 (c : Dev nD) : FVec II S1024x2816 .f32 := m ((c : Thread nD τ).loc main_arg14)
abbrev A15 (c : Dev nD) : FVec II S1024x2816 .f32 := m ((c : Thread nD τ).loc main_arg15)
abbrev A16 (c : Dev nD) : FVec II S2816x1024 .f32 := m ((c : Thread nD τ).loc main_arg16)
abbrev A17 (c : Dev nD) : FVec II S1024 .f32 := m ((c : Thread nD τ).loc main_arg17)

/-! ## The rows at a grid point -/

theorem nsa_pt (c : Dev nD) (t : Fin cfg0.N) (b : Fin 8) (q : Fin 8192) (r : Fin 512)
    (hb : b.val = t.val / 32) (hq : q.val = 512 * (t.val / 2 % 16) + r.val) :
    (fun k => nsaF (F := II) (iblk m c 1 t) (iblk m c 2 t) (iblk m c 3 t) (iblk m c 4 t) (iblk m c 10 t) (ix2 r k)) = nsaA (A1 m c) (A2 m c) (A3 m c) (A4 m c) b q := by
  funext k
  refine (nsaF_at _ _ _ _ _ (fun k j => (blk10 m c t k j).trans (v25_at m c k j)) r (fun i h => A4 m c (ix4 b q i h))
    (fun i h => (blk4 m c t b q r ⟨i.val * 8 + h.val, by omega⟩ hb hq).trans (v7_at m c b q i h)) k).trans ?_
  unfold nsaA
  exact nsar_congr rfl (funext fun k => (blk1 m c t b q r k hb hq).trans (v8_at m c b q k)) (funext fun k => (blk2 m c t b q r k hb hq).trans (v9_at m c b q k))
    (funext fun k => (blk3 m c t b q r k hb hq).trans (v10_at m c b q k)) k

theorem sb_pt (c : Dev nD) (t : Fin cfg0.N) (b : Fin 8) (q : Fin 8192) (r : Fin 512)
    (hb : b.val = t.val / 32) (hq : q.val = 512 * (t.val / 2 % 16) + r.val) :
    (fun k => sbF (F := II) (iblk m c 5 t) (ix2 r k)) = sbA (A5 m c) b q := by
  funext k
  refine (sbF_at _ r k).trans ?_
  unfold sbA
  exact (blk5 m c t b ⟨k.val / 64, by omega⟩ q r ⟨k.val % 64, by omega⟩ hb hq).trans (v11_at m c b _ q _)

theorem x1_pt (c : Dev nD) (t : Fin cfg0.N) (b : Fin 8) (q : Fin 8192) (r : Fin 512)
    (hb : b.val = t.val / 32) (hq : q.val = 512 * (t.val / 2 % 16) + r.val) :
    (fun j => X1 m c t (ix2 r j)) = x1A (A0 m c) (A1 m c) (A2 m c) (A3 m c) (A5 m c) (A4 m c) (A6 m c) (A10 m c) (A11 m c) (A12 m c) b q := by
  funext j
  unfold X1
  refine (x1F_at _ _ _ _ _ _ _ _ _ _ _ r j).trans ?_
  unfold x1A
  exact x1r_congr (funext fun j => (blk0 m c t b q r j hb hq).trans (congrFun (V_main_arg0 m c) _)) (funext fun j => (blk6 m c t b j hb).trans (congrFun (V_main_arg6 m c) _))
    (nsa_pt m c t b q r hb hq) (sb_pt m c t b q r hb hq) (funext fun k => (blk11 m c t k).trans (v30_at m c k)) (funext fun k => (blk12 m c t k).trans (v31_at m c k))
    (funext fun i => funext fun j => (blk13 m c t i j).trans (v26_at m c i j)) j

theorem h2_pt (c : Dev nD) (t : Fin cfg0.N) (b : Fin 8) (q : Fin 8192) (r : Fin 512)
    (hb : b.val = t.val / 32) (hq : q.val = 512 * (t.val / 2 % 16) + r.val) :
    (fun j => H2 m c t (ix2 r j)) = h2A (A0 m c) (A1 m c) (A2 m c) (A3 m c) (A5 m c) (A4 m c) (A6 m c) (A7 m c) (A8 m c) (A10 m c) (A11 m c) (A12 m c) (A13 m c) b q := by
  funext j
  unfold H2
  refine (h2F_at _ _ _ _ _ _ _ _ _ _ _ _ _ _ r j).trans ?_
  unfold h2A
  exact h2r_congr (x1_pt m c t b q r hb hq) (funext fun j => (blk14 m c t j).trans (v32_at m c j))
    (funext fun j => (blk8 m c t b j hb).trans (congrFun (V_main_arg8 m c) _)) (funext fun j => (blk7 m c t b j hb).trans (congrFun (V_main_arg7 m c) _)) j

/-- One half of the hidden units, of a point's blocks of weights. -/
theorem half_pt (c : Dev nD) (t : Fin cfg0.N) (h : Fin 1024 → EReal) (j : Fin 1024) (p : ℕ) (hp : p = t.val % 2 * 1408) :
    ∑ n : Fin 1408, act h (fun k => iblk m c 15 t (ix2 k n)) (fun k => iblk m c 16 t (ix2 k n)) * iblk m c 17 t (ix2 n j)
      = ∑ n : Fin 1408, act h (fun k => A14 m c (ix2 k ⟨p + n.val, by omega⟩)) (fun k => A15 m c (ix2 k ⟨p + n.val, by omega⟩)) * A16 m c (ix2 ⟨p + n.val, by omega⟩ j) := by
  refine Finset.sum_congr rfl fun n _ => ?_
  have hn : (⟨p + n.val, by omega⟩ : Fin 2816).val = t.val % 2 * 1408 + n.val := by show p + n.val = _; omega
  exact congrArg₂ (· * ·) (act_congr rfl (funext fun k => (blk15 m c t k n _ hn).trans (v27_at m c k _)) (funext fun k => (blk16 m c t k n _ hn).trans (v28_at m c k _)))
    ((blk17 m c t n j _ hn).trans (v29_at m c _ j))

/-- The sum the second point's norm reads: the first residual and the scaled accumulator. -/
abbrev yK (y acc : FVec II S512x1024 .f32) (x9 : FVec II S1x1x1024 .f32) (r : Fin 512) (j : Fin 1024) : EReal :=
  y (ix2 r j) + x9 (ix3 0 0 j) * acc (ix2 r j)

/-- The residual stream a row tile's second point leaves. -/
theorem y_pt (c : Dev nD) (t : Fin cfg0.N) (ho : t.val % 2 = 1) (b : Fin 8) (q : Fin 8192) (r : Fin 512)
    (hb : b.val = t.val / 32) (hq : q.val = 512 * (t.val / 2 % 16) + r.val) (j : Fin 1024) :
    yK (X1 m c (prev t)) (accF (F := II) (H2 m c (prev t)) (AC m c (prev t)) (iblk m c 15 t) (iblk m c 16 t) (iblk m c 17 t)) (iblk m c 9 t) r j
      = yA (A0 m c) (A1 m c) (A2 m c) (A3 m c) (A5 m c) (A4 m c) (A6 m c) (A7 m c) (A8 m c) (A9 m c) (A10 m c) (A11 m c) (A12 m c) (A13 m c) (A14 m c) (A15 m c) (A16 m c) b q j := by
  have hpv : (prev t).val = t.val - 1 := rfl
  have hb' : b.val = (prev t).val / 32 := by omega
  have hq' : q.val = 512 * ((prev t).val / 2 % 16) + r.val := by omega
  have ex := congrFun (x1_pt m c (prev t) b q r hb' hq') j
  have eh := h2_pt m c (prev t) b q r hb' hq'
  have ea : (AC m c (prev t) : FVec II S512x1024 .f32) (ix2 r j) = (0 : EReal) + ∑ n : Fin 1408, act (h2A (A0 m c) (A1 m c) (A2 m c) (A3 m c) (A5 m c) (A4 m c) (A6 m c) (A7 m c) (A8 m c) (A10 m c) (A11 m c) (A12 m c) (A13 m c) b q) (fun k => A14 m c (ix2 k ⟨0 + n.val, by omega⟩)) (fun k => A15 m c (ix2 k ⟨0 + n.val, by omega⟩)) * A16 m c (ix2 ⟨0 + n.val, by omega⟩ j) := by
    unfold AC
    refine (accF_at _ _ _ _ _ r j).trans (congrArg₂ (· + ·) (pay2_at r j) ?_)
    rw [eh]
    exact half_pt m c (prev t) _ j 0 (by omega)
  have eacc : accF (F := II) (H2 m c (prev t)) (AC m c (prev t)) (iblk m c 15 t) (iblk m c 16 t) (iblk m c 17 t) (ix2 r j)
      = ∑ n : Fin 2816, act (h2A (A0 m c) (A1 m c) (A2 m c) (A3 m c) (A5 m c) (A4 m c) (A6 m c) (A7 m c) (A8 m c) (A10 m c) (A11 m c) (A12 m c) (A13 m c) b q) (fun k => A14 m c (ix2 k n)) (fun k => A15 m c (ix2 k n)) * A16 m c (ix2 n j) := by
    refine (accF_at _ _ _ _ _ r j).trans ?_
    rw [eh, ea, half_pt m c t _ j 1408 (by omega), zero_add]
    refine Eq.trans ?_ (Fin.sum_univ_two_halves 1408 1408 rfl (fun n : Fin 2816 => act (h2A (A0 m c) (A1 m c) (A2 m c) (A3 m c) (A5 m c) (A4 m c) (A6 m c) (A7 m c) (A8 m c) (A10 m c) (A11 m c) (A12 m c) (A13 m c) b q) (fun k => A14 m c (ix2 k n)) (fun k => A15 m c (ix2 k n)) * A16 m c (ix2 n j))).symm
    refine congrArg₂ (· + ·) (Finset.sum_congr rfl fun n _ => ?_) rfl
    have e0 : (⟨0 + n.val, by omega⟩ : Fin 2816) = ⟨n.val, by omega⟩ := Fin.ext (Nat.zero_add _)
    rw [e0]
  unfold yA yr yK
  exact congrArg₂ (· + ·) ex (congrArg₂ (· * ·) ((blk9 m c t b j hb).trans (congrFun (V_main_arg9 m c) _)) eacc)

/-- What the body leaves in the output's buffer at a row tile's second point. -/
theorem point (c : Dev nD) (t : Fin cfg0.N) (ho : t.val % 2 = 1) (b : Fin 8) (q : Fin 8192) (r : Fin 512)
    (hb : b.val = t.val / 32) (hq : q.val = 512 * (t.val / 2 % 16) + r.val) (j : Fin 1024) :
    OUT m c t (ix3 0 r j) = RES (A0 m c) (A1 m c) (A2 m c) (A3 m c) (A5 m c) (A4 m c) (A6 m c) (A7 m c) (A8 m c) (A9 m c) (A10 m c) (A11 m c) (A12 m c) (A13 m c) (A17 m c) (A14 m c) (A15 m c) (A16 m c) (ix3 b q j) := by
  unfold OUT
  refine (outF_at _ _ _ _ r j).trans ?_
  show _ = resA (A0 m c) (A1 m c) (A2 m c) (A3 m c) (A5 m c) (A4 m c) (A6 m c) (A7 m c) (A8 m c) (A9 m c) (A10 m c) (A11 m c) (A12 m c) (A13 m c) (A17 m c) (A14 m c) (A15 m c) (A16 m c) b q j
  unfold resA
  exact rms_congr _ (funext fun j => y_pt m c t ho b q r hb hq j) (funext fun j => (blk18 m c t j).trans (v33_at m c j)) j

/-- The result array after the run. -/
theorem final (c : Dev nD) : (dats m 0 c).arrAt 19 cfg0.N = RES (A0 m c) (A1 m c) (A2 m c) (A3 m c) (A5 m c) (A4 m c) (A6 m c) (A7 m c) (A8 m c) (A9 m c) (A10 m c) (A11 m c) (A12 m c) (A13 m c) (A17 m c) (A14 m c) (A15 m c) (A16 m c) := by
  refine (dats m 0 c).arrAt_eq_of_covers 19 _ (by decide +kernel) fun t hf y => ?_
  have ho : t.val % 2 = 1 := (flush0_19 t).mp hf
  blk_simp
  rw [after0_19]
  obtain ⟨r, j, rfl⟩ : ∃ (r : Fin 512) (j : Fin 1024), y = ix3 0 r j := ⟨y 1, y 2, by blk_ext []⟩
  have ht : t.val < 256 := lt_of_lt_of_eq t.isLt N_0
  refine (point m c t ho ⟨t.val / 32, by omega⟩ ⟨512 * (t.val / 2 % 16) + r.val, by omega⟩ r rfl rfl j).trans ?_
  refine congrArg _ ?_
  blk_ext [idx t]

end Cert.OutFfnIdeal.FFN

end
-- ==== Proof.PJ.Ref.lean ====
/-
  The input projection's reference, element by element: every result is a column of the product of the normed, scaled and
  shifted row with the weights.
-/
module

public import proofs.«01_k».proof.Proof.Gen.ProjReferenceIdeal.Run
public import proofs.«01_k».proof.Proof.FFN.Math

@[expose] public section

set_option maxRecDepth 16384

noncomputable section

namespace Cert.ProjReferenceIdeal.PJ

open Cert.ProjReferenceIdeal Cert.ProjReferenceIdeal.Gen Cert.FFMath
open Idealize.ShloMosaic Idealize.ShloMosaic.TcCoe Idealize.SL.Sem Idealize.ShloMosaic.StableHlo

local notation "II" => Idealize.ShloMosaic.Ideal

variable (x : FVec II S8x8192x1024 .f32) (sh sc : FVec II S8x1x1024 .f32) (g : FVec II S1024 .f32) (w : FVec II S1024x2840 .f32)

/-- Column `n` of a row of the weights, nought past the last. -/
def wn (k : Fin 1024) (n : ℕ) : EReal := if h : n < 2840 then w (ix2 k ⟨n, h⟩) else 0

/-- The projection's input: the norm, scaled and shifted. -/
def hA (b : Fin 8) (q : Fin 8192) (k : Fin 1024) : EReal :=
  h2r (fun k => x (ix3 b q k)) (fun k => g (ix1 k)) (fun k => sc (ix3 b 0 k)) (fun k => sh (ix3 b 0 k)) k

/-- Column `n` of the product, nought past the last. -/
def RN (b : Fin 8) (q : Fin 8192) (n : ℕ) : EReal := ∑ k, hA x sh sc g b q k * wn w k n

theorem RN_zero (b : Fin 8) (q : Fin 8192) (n : ℕ) (h : 2840 ≤ n) : RN x sh sc g w b q n = 0 := by
  unfold RN wn
  refine Finset.sum_eq_zero fun k _ => ?_
  rw [dif_neg (by omega), mul_zero]

/-! ## The results -/

def O0 : FVec II S8x8192x256 .f32 := fun i => RN x sh sc g w (i 0) (i 1) (512 + (i 2).val)
def O1 : FVec II S8x8192x256 .f32 := fun i => RN x sh sc g w (i 0) (i 1) (768 + (i 2).val)
def O2 : FVec II S8x8192x256 .f32 := fun i => RN x sh sc g w (i 0) (i 1) (1024 + (i 2).val)
def O3 : FVec II S8x8192x1024 .f32 := fun i => RN x sh sc g w (i 0) (i 1) (1816 + (i 2).val)
def O4 : FVec II S8x8192x128 .f32 := fun i => lgs (RN x sh sc g w (i 0) (i 1) (if (i 2).val < 24 then 1280 + (i 2).val else 2840))
def O5 : FVec II S8x8x8192x64 .bf16 := fun i => RN x sh sc g w (i 0) (i 2) (64 * (i 1).val + (i 3).val) * Ideal.ofBits .f32 0x3E000000#32
def O6 : FVec II S8x8x8192x64 .bf16 := fun i => RN x sh sc g w (i 0) (i 2) (1304 + 64 * (i 1).val + (i 3).val) * Ideal.ofBits .f32 0x3E000000#32
def O7 : FVec II S8x4x8192x64 .bf16 := fun i => RN x sh sc g w (i 0) (i 2) (768 + 64 * (i 1).val + (i 3).val)
def O8 : FVec II S8x4x8192x64 .bf16 := fun i => RN x sh sc g w (i 0) (i 2) (1024 + 64 * (i 1).val + (i 3).val)
def O9 : FVec II S8x16x8192x64 .bf16 := fun i => RN x sh sc g w (i 0) (i 2) (1816 + 64 * (i 1).val + (i 3).val)

/-- The whole product. -/
abbrev HW : FVec II S8x8192x2840 .f32 := (Host.dotGeneral dot_S8x8192x1024_S1024x2840_S8x8192x2840_2_0_01_1_n_n none (addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)) w)

theorem HW_at (b : Fin 8) (q : Fin 8192) (n : ℕ) (hn : n < 2840) : HW x sh sc g w (ix3 b q ⟨n, hn⟩) = RN x sh sc g w b q n := by
  unfold RN hA h2r rms wn
  simp only [dif_pos hn]
  pointwise []
  rfl

theorem resO0 : extractStridedSlice S8x8192x256 ![0, 0, 512] (HW x sh sc g w) slices_S8x8192x2840_S8x8192x256_0_0_512 = O0 x sh sc g w := by
  have h := HW_at x sh sc g w
  generalize HW x sh sc g w = H at h ⊢
  funext i
  obtain ⟨b, q, j, rfl⟩ : ∃ (b : Fin 8) (q : Fin 8192) (j : Fin 256), i = ix3 b q j := ⟨i 0, i 1, i 2, eq_ix3 i⟩
  show _ = RN x sh sc g w b q (512 + j.val)
  pointwise []
  rw [h]

theorem resO1 : extractStridedSlice S8x8192x256 ![0, 0, 768] (HW x sh sc g w) slices_S8x8192x2840_S8x8192x256_0_0_768 = O1 x sh sc g w := by
  have h := HW_at x sh sc g w
  generalize HW x sh sc g w = H at h ⊢
  funext i
  obtain ⟨b, q, j, rfl⟩ : ∃ (b : Fin 8) (q : Fin 8192) (j : Fin 256), i = ix3 b q j := ⟨i 0, i 1, i 2, eq_ix3 i⟩
  show _ = RN x sh sc g w b q (768 + j.val)
  pointwise []
  rw [h]

theorem resO2 : extractStridedSlice S8x8192x256 ![0, 0, 1024] (HW x sh sc g w) slices_S8x8192x2840_S8x8192x256_0_0_1024 = O2 x sh sc g w := by
  have h := HW_at x sh sc g w
  generalize HW x sh sc g w = H at h ⊢
  funext i
  obtain ⟨b, q, j, rfl⟩ : ∃ (b : Fin 8) (q : Fin 8192) (j : Fin 256), i = ix3 b q j := ⟨i 0, i 1, i 2, eq_ix3 i⟩
  show _ = RN x sh sc g w b q (1024 + j.val)
  pointwise []
  rw [h]

theorem resO3 : shapeCast _ (shapeCast _ (extractStridedSlice S8x8192x2x8x64 ![0, 0, 1, 0, 0] (shapeCast _ (extractStridedSlice S8x8192x1536 ![0, 0, 1304] (HW x sh sc g w) slices_S8x8192x2840_S8x8192x1536_0_0_1304) shapeCasts_S8x8192x1536_S8x8192x3x8x64) slices_S8x8192x3x8x64_S8x8192x2x8x64_0_0_1_0_0) shapeCasts_S8x8192x2x8x64_S8x8192x16x64) shapeCasts_S8x8192x16x64_S8x8192x1024 = O3 x sh sc g w := by
  have h := HW_at x sh sc g w
  generalize HW x sh sc g w = H at h ⊢
  funext i
  obtain ⟨b, q, j, rfl⟩ : ∃ (b : Fin 8) (q : Fin 8192) (j : Fin 1024), i = ix3 b q j := ⟨i 0, i 1, i 2, eq_ix3 i⟩
  show _ = RN x sh sc g w b q (1816 + j.val)
  pointwise []
  rw [h]
  exact congrArg (RN x sh sc g w b q) (by omega)

theorem resO4 : Host.divf (broadcastInDim S8x8192x128 ![] bcast_S_S8x8192x128 (constant S_ .f32 0x3F800000#32)) (addf (broadcastInDim S8x8192x128 ![] bcast_S_S8x8192x128 (constant S_ .f32 0x3F800000#32)) (Host.exp (Host.negf (pad S8x8192x128 ![0, 0, 0] ![0, 0, 104] ![0, 0, 0] (extractStridedSlice S8x8192x24 ![0, 0, 1280] (HW x sh sc g w) slices_S8x8192x2840_S8x8192x24_0_0_1280) (sitofp .f32 (constantI S_ 32 0#32)) pads_S8x8192x24_S8x8192x128_000_000_01040 h_S_)))) = O4 x sh sc g w := by
  have h := HW_at x sh sc g w
  generalize HW x sh sc g w = H at h ⊢
  funext i
  obtain ⟨b, q, j, rfl⟩ : ∃ (b : Fin 8) (q : Fin 8192) (j : Fin 128), i = ix3 b q j := ⟨i 0, i 1, i 2, eq_ix3 i⟩
  show _ = lgs (RN x sh sc g w b q (if j.val < 24 then 1280 + j.val else 2840))
  unfold lgs
  pointwise []
  by_cases hj : j.val < 24
  · rw [dif_pos hj, if_pos hj, h]
  · rw [dif_neg hj, if_neg hj, RN_zero x sh sc g w b q 2840 le_rfl]
    have e : (FloatOps.sitofp .f32 0#32 : II .f32) = (0 : EReal) := by
      show (((0#32 : BitVec 32).toInt : ℝ) : EReal) = 0
      norm_num
    rw [e]

theorem resO5 : truncf .bf16 (mulf (transpose S8x8x8192x64 [0, 2, 1, 3] (shapeCast _ (extractStridedSlice S8x8192x512 ![0, 0, 0] (HW x sh sc g w) slices_S8x8192x2840_S8x8192x512_0_0_0) shapeCasts_S8x8192x512_S8x8192x8x64) transposes_S8x8192x8x64_S8x8x8192x64_0_2_1_3) (broadcastInDim S8x8x8192x64 ![] bcast_S_S8x8x8192x64 (constant S_ .f32 0x3E000000#32))) bitsLt_bf16_f32 = O5 x sh sc g w := by
  have h := HW_at x sh sc g w
  generalize HW x sh sc g w = H at h ⊢
  funext i
  obtain ⟨b, n, q, d, rfl⟩ : ∃ (b : Fin 8) (n : Fin 8) (q : Fin 8192) (d : Fin 64), i = ix4 b n q d := ⟨i 0, i 1, i 2, i 3, eq_ix4 i⟩
  show _ = RN x sh sc g w b q (64 * n.val + d.val) * Ideal.ofBits .f32 0x3E000000#32
  pointwise []
  rw [h]
  exact congrArg (fun n => RN x sh sc g w b q n * Ideal.ofBits .f32 0x3E000000#32) (by omega)

theorem resO6 : truncf .bf16 (mulf (transpose S8x8x8192x64 [0, 2, 1, 3] (shapeCast _ (extractStridedSlice S8x8192x1x8x64 ![0, 0, 0, 0, 0] (shapeCast _ (extractStridedSlice S8x8192x1536 ![0, 0, 1304] (HW x sh sc g w) slices_S8x8192x2840_S8x8192x1536_0_0_1304) shapeCasts_S8x8192x1536_S8x8192x3x8x64) slices_S8x8192x3x8x64_S8x8192x1x8x64_0_0_0_0_0) shapeCasts_S8x8192x1x8x64_S8x8192x8x64) transposes_S8x8192x8x64_S8x8x8192x64_0_2_1_3) (broadcastInDim S8x8x8192x64 ![] bcast_S_S8x8x8192x64 (constant S_ .f32 0x3E000000#32))) bitsLt_bf16_f32 = O6 x sh sc g w := by
  have h := HW_at x sh sc g w
  generalize HW x sh sc g w = H at h ⊢
  funext i
  obtain ⟨b, n, q, d, rfl⟩ : ∃ (b : Fin 8) (n : Fin 8) (q : Fin 8192) (d : Fin 64), i = ix4 b n q d := ⟨i 0, i 1, i 2, i 3, eq_ix4 i⟩
  show _ = RN x sh sc g w b q (1304 + 64 * n.val + d.val) * Ideal.ofBits .f32 0x3E000000#32
  pointwise []
  rw [h]
  exact congrArg (fun n => RN x sh sc g w b q n * Ideal.ofBits .f32 0x3E000000#32) (by omega)

theorem resO7 : truncf .bf16 (transpose S8x4x8192x64 [0, 2, 1, 3] (shapeCast _ (extractStridedSlice S8x8192x256 ![0, 0, 768] (HW x sh sc g w) slices_S8x8192x2840_S8x8192x256_0_0_768) shapeCasts_S8x8192x256_S8x8192x4x64) transposes_S8x8192x4x64_S8x4x8192x64_0_2_1_3) bitsLt_bf16_f32 = O7 x sh sc g w := by
  have h := HW_at x sh sc g w
  generalize HW x sh sc g w = H at h ⊢
  funext i
  obtain ⟨b, n, q, d, rfl⟩ : ∃ (b : Fin 8) (n : Fin 4) (q : Fin 8192) (d : Fin 64), i = ix4 b n q d := ⟨i 0, i 1, i 2, i 3, eq_ix4 i⟩
  show _ = RN x sh sc g w b q (768 + 64 * n.val + d.val)
  pointwise []
  rw [h]
  exact congrArg (RN x sh sc g w b q) (by omega)

theorem resO8 : truncf .bf16 (transpose S8x4x8192x64 [0, 2, 1, 3] (shapeCast _ (extractStridedSlice S8x8192x256 ![0, 0, 1024] (HW x sh sc g w) slices_S8x8192x2840_S8x8192x256_0_0_1024) shapeCasts_S8x8192x256_S8x8192x4x64) transposes_S8x8192x4x64_S8x4x8192x64_0_2_1_3) bitsLt_bf16_f32 = O8 x sh sc g w := by
  have h := HW_at x sh sc g w
  generalize HW x sh sc g w = H at h ⊢
  funext i
  obtain ⟨b, n, q, d, rfl⟩ : ∃ (b : Fin 8) (n : Fin 4) (q : Fin 8192) (d : Fin 64), i = ix4 b n q d := ⟨i 0, i 1, i 2, i 3, eq_ix4 i⟩
  show _ = RN x sh sc g w b q (1024 + 64 * n.val + d.val)
  pointwise []
  rw [h]
  exact congrArg (RN x sh sc g w b q) (by omega)

theorem resO9 : truncf .bf16 (transpose S8x16x8192x64 [0, 2, 1, 3] (shapeCast _ (extractStridedSlice S8x8192x2x8x64 ![0, 0, 1, 0, 0] (shapeCast _ (extractStridedSlice S8x8192x1536 ![0, 0, 1304] (HW x sh sc g w) slices_S8x8192x2840_S8x8192x1536_0_0_1304) shapeCasts_S8x8192x1536_S8x8192x3x8x64) slices_S8x8192x3x8x64_S8x8192x2x8x64_0_0_1_0_0) shapeCasts_S8x8192x2x8x64_S8x8192x16x64) transposes_S8x8192x16x64_S8x16x8192x64_0_2_1_3) bitsLt_bf16_f32 = O9 x sh sc g w := by
  have h := HW_at x sh sc g w
  generalize HW x sh sc g w = H at h ⊢
  funext i
  obtain ⟨b, n, q, d, rfl⟩ : ∃ (b : Fin 8) (n : Fin 16) (q : Fin 8192) (d : Fin 64), i = ix4 b n q d := ⟨i 0, i 1, i 2, i 3, eq_ix4 i⟩
  show _ = RN x sh sc g w b q (1816 + 64 * n.val + d.val)
  pointwise []
  rw [h]
  exact congrArg (RN x sh sc g w b q) (by omega)

end Cert.ProjReferenceIdeal.PJ

end
-- ==== Proof.PJ.Value.lean ====
/-
  The input projection's ten result arrays, read off the kernel's run: each is the reference's array of the arguments.
-/
module

public import proofs.«01_k».proof.Proof.PJ.Ref
public import proofs.«01_k».proof.Proof.Gen.ProjIdeal.Value

@[expose] public section

set_option maxRecDepth 16384

noncomputable section

namespace Cert.ProjIdeal.PJ

open Cert.ProjIdeal Cert.ProjIdeal.Gen Cert.FFMath Cert.ProjReferenceIdeal.PJ
open Idealize.ShloMosaic Idealize.ShloMosaic.TcCoe Idealize.SL.Sem

local notation "II" => Idealize.ShloMosaic.Ideal

variable (m : (ℓ : Loc nD τ sig) → Buf (Elt II) ℓ)

abbrev A0 (c : Dev nD) : FVec II S8x8192x1024 .f32 := m ((c : Thread nD τ).loc main_arg0)
abbrev A1 (c : Dev nD) : FVec II S8x1x1024 .f32 := m ((c : Thread nD τ).loc main_arg1)
abbrev A2 (c : Dev nD) : FVec II S8x1x1024 .f32 := m ((c : Thread nD τ).loc main_arg2)
abbrev A3 (c : Dev nD) : FVec II S1024 .f32 := m ((c : Thread nD τ).loc main_arg3)
abbrev A4 (c : Dev nD) : FVec II S1024x2840 .f32 := m ((c : Thread nD τ).loc main_arg4)

/-- The column of the weights that column `p` of the kernel's table holds; past the last, a column of noughts. -/
def col (p : ℕ) : ℕ := if p < 1280 then p else if p < 2816 then p + 24 else if p < 2840 then p - 1536 else 2840

/-- The kernel's table of weights, as the host builds it. -/
def W5 (w : FVec II S1024x2840 .f32) : FVec II S1024x2944 .bf16 :=
  truncf .bf16 (concatenate S1024x2944 1 [⟨S1024x1280, extractStridedSlice S1024x1280 ![0, 0] w slices_S1024x2840_S1024x1280_0_0⟩,
    ⟨S1024x1536, extractStridedSlice S1024x1536 ![0, 1304] w slices_S1024x2840_S1024x1536_0_1304⟩,
    ⟨S1024x24, extractStridedSlice S1024x24 ![0, 1280] w slices_S1024x2840_S1024x24_0_1280⟩,
    ⟨S1024x104, broadcastInDim S1024x104 ![] bcast_S_S1024x104 (constant S_ .f32 0x00000000#32)⟩]
    concatenates_S1024x1280_S1024x1536_S1024x24_S1024x104_S1024x2944_d1) bitsLt_bf16_f32

theorem v5_eq (c : Dev nD) : V m c main_v5 = W5 (A4 m c) := rfl

theorem W5_at (w : FVec II S1024x2840 .f32) (k : Fin 1024) (p : Fin 2944) : W5 w (ix2 k p) = wn w k (col p.val) := by
  unfold wn col
  pointwise [W5]
  repeat' split
  all_goals first | omega | rfl | (refine congrArg _ ?_; blk_ext [])

theorem v5_at (c : Dev nD) (k : Fin 1024) (p : Fin 2944) : V m c main_v5 (ix2 k p) = wn (A4 m c) k (col p.val) :=
  (congrFun (v5_eq m c) _).trans (W5_at _ k p)

theorem v6_at (c : Dev nD) (k : Fin 1024) : V m c main_v6 (ix2 0 k) = A3 m c (ix1 k) := by
  entry_read
  pointwise []

/-- Each window's block at every grid point. -/
theorem idx : ∀ t : Fin cfg0.N, win0_0.index t = ![t.val / 16, t.val % 16, 0] ∧ win0_1.index t = ![t.val / 16, 0, 0]
    ∧ win0_2.index t = ![t.val / 16, 0, 0] ∧ win0_3.index t = ![0, 0] ∧ win0_4.index t = ![0, 0]
    ∧ win0_5.index t = ![t.val / 16, t.val % 16, 0] ∧ win0_6.index t = ![t.val / 16, t.val % 16, 0] ∧ win0_7.index t = ![t.val / 16, t.val % 16, 0]
    ∧ win0_8.index t = ![t.val / 16, t.val % 16, 0] ∧ win0_9.index t = ![t.val / 16, t.val % 16, 0] ∧ win0_10.index t = ![t.val / 16, 0, t.val % 16, 0]
    ∧ win0_11.index t = ![t.val / 16, 0, t.val % 16, 0] ∧ win0_12.index t = ![t.val / 16, 0, t.val % 16, 0] ∧ win0_13.index t = ![t.val / 16, 0, t.val % 16, 0]
    ∧ win0_14.index t = ![t.val / 16, 0, t.val % 16, 0] :=
  (by decide +kernel : ∀ t : Fin grid0.N, _)

theorem blk0 (c : Dev nD) (t : Fin cfg0.N) (b : Fin 8) (q : Fin 8192) (r : Fin 512) (j : Fin 1024)
    (hb : b.val = t.val / 16) (hq : q.val = 512 * (t.val % 16) + r.val) :
    iblk m c 0 t (ix3 0 r j) = V m c main_arg0 (ix3 b q j) := by
  blk_ext [iblk, idx t]
theorem blk1 (c : Dev nD) (t : Fin cfg0.N) (b : Fin 8) (j : Fin 1024) (hb : b.val = t.val / 16) :
    iblk m c 1 t (ix3 0 0 j) = V m c main_arg1 (ix3 b 0 j) := by
  blk_ext [iblk, idx t]
theorem blk2 (c : Dev nD) (t : Fin cfg0.N) (b : Fin 8) (j : Fin 1024) (hb : b.val = t.val / 16) :
    iblk m c 2 t (ix3 0 0 j) = V m c main_arg2 (ix3 b 0 j) := by
  blk_ext [iblk, idx t]
theorem blk3 (c : Dev nD) (t : Fin cfg0.N) (j : Fin 1024) : iblk m c 3 t (ix2 0 j) = V m c main_v6 (ix2 0 j) := by
  blk_ext [iblk, idx t]
theorem blk4 (c : Dev nD) (t : Fin cfg0.N) (k : Fin 1024) (p : Fin 2944) : iblk m c 4 t (ix2 k p) = V m c main_v5 (ix2 k p) := by
  blk_ext [iblk, idx t]

/-- The product the body computes, element by element. -/
theorem pay2_at (x0 : FVec II S1x512x1024 .f32) (x3 : FVec II S1x1024 .f32) (x2 x1 : FVec II S1x1x1024 .f32) (x4 : FVec II S1024x2944 .bf16)
    (r : Fin 512) (p : Fin 2944) :
    k0_pay2 (F := II) x0 x3 x2 x1 x4 (ix2 r p)
      = ∑ k : Fin 1024, h2r (fun k => x0 (ix3 0 r k)) (fun k => x3 (ix2 0 k)) (fun k => x2 (ix3 0 0 k)) (fun k => x1 (ix3 0 0 k)) k * x4 (ix2 k p) := by
  unfold k0_pay2 h2r rms
  pointwise []
  rfl

/-- The product at a grid point. -/
def PR (c : Dev nD) (t : Fin cfg0.N) : FVec II S512x2944 .f32 :=
  k0_pay2 (F := II) (View.ld (iblk m c 0 t) r0_0) (View.ld (iblk m c 3 t) r0_1) (View.ld (iblk m c 2 t) r0_2) (View.ld (iblk m c 1 t) r0_2) (View.ld (iblk m c 4 t) r0_3)

theorem PR_at (c : Dev nD) (t : Fin cfg0.N) (b : Fin 8) (q : Fin 8192) (r : Fin 512)
    (hb : b.val = t.val / 16) (hq : q.val = 512 * (t.val % 16) + r.val) (p : Fin 2944) (n : ℕ) (hn : col p.val = n) :
    PR m c t (ix2 r p) = RN (A0 m c) (A1 m c) (A2 m c) (A3 m c) (A4 m c) b q n := by
  have z3 : (![0, 0, 0] : Fin 3 → ℕ) = fun _ => 0 := by decide
  have z2 : (![0, 0] : Fin 2 → ℕ) = fun _ => 0 := by decide
  unfold PR
  have l0 : View.ld (iblk m c 0 t) r0_0 = iblk m c 0 t := View.ld_unit_zero z3 _ _
  have l3 : View.ld (iblk m c 3 t) r0_1 = iblk m c 3 t := View.ld_unit_zero z2 _ _
  have l2 : View.ld (iblk m c 2 t) r0_2 = iblk m c 2 t := View.ld_unit_zero z3 _ _
  have l1 : View.ld (iblk m c 1 t) r0_2 = iblk m c 1 t := View.ld_unit_zero z3 _ _
  have l4 : View.ld (iblk m c 4 t) r0_3 = iblk m c 4 t := View.ld_unit_zero z2 _ _
  rw [l0, l3, l2, l1, l4]
  refine (pay2_at _ _ _ _ _ r p).trans ?_
  unfold RN hA
  refine Finset.sum_congr rfl fun k _ => congrArg₂ (· * ·) ?_ (((blk4 m c t k p).trans (v5_at m c k p)).trans (by rw [hn]))
  have e0 : (fun k => iblk m c 0 t (ix3 0 r k)) = fun k => A0 m c (ix3 b q k) := funext fun k => (blk0 m c t b q r k hb hq).trans (congrFun (V_main_arg0 m c) _)
  have e3 : (fun k => iblk m c 3 t (ix2 0 k)) = fun k => A3 m c (ix1 k) := funext fun k => (blk3 m c t k).trans (v6_at m c k)
  have e2 : (fun k => iblk m c 2 t (ix3 0 0 k)) = fun k => A2 m c (ix3 b 0 k) := funext fun k => (blk2 m c t b k hb).trans (congrFun (V_main_arg2 m c) _)
  have e1 : (fun k => iblk m c 1 t (ix3 0 0 k)) = fun k => A1 m c (ix3 b 0 k) := funext fun k => (blk1 m c t b k hb).trans (congrFun (V_main_arg1 m c) _)
  show h2r (fun k => iblk m c 0 t (ix3 0 r k)) (fun k => iblk m c 3 t (ix2 0 k)) (fun k => iblk m c 2 t (ix3 0 0 k)) (fun k => iblk m c 1 t (ix3 0 0 k)) k = _
  rw [e0, e3, e2, e1]

/-! ## The heads of the sparse branches' queries -/

abbrev E10 (R : FVec II S512x2944 .f32) : Vec II S1x8x512x64 .bf16 := fun y =>
  (R (ix2 ⟨(y 2).val, by have h : (y 2).val < 512 := (y 2).isLt; omega⟩ ⟨64 * (y 1).val + (y 3).val, by have h : (y 1).val < 8 := (y 1).isLt; have h' : (y 3).val < 64 := (y 3).isLt; omega⟩) : EReal) * Ideal.ofBits .f32 0x3E000000#32

theorem piece10_0 (R : FVec II S512x2944 .f32) (x : S1x1x512x64.Idx) : (k0_pay9 R) x = E10 R (r0_6.idx x) := by
  obtain ⟨r, d, rfl⟩ : ∃ (r : Fin 512) (d : Fin 64), x = ix4 0 0 r d := ⟨x 2, x 3, by blk_ext []⟩
  have e : E10 R (r0_6.idx (ix4 0 0 r d)) = (R (ix2 r ⟨0 + d.val, by omega⟩) : EReal) * Ideal.ofBits .f32 0x3E000000#32 := by
    unfold E10
    refine congrArg (fun i => (R i : EReal) * Ideal.ofBits .f32 0x3E000000#32) ?_
    refine funext fun a => Fin.ext ?_
    match a with
    | ⟨0, _⟩ => show 0 + 1 * r.val = r.val; omega
    | ⟨1, _⟩ => show 64 * (0 + 1 * 0) + (0 + 1 * d.val) = 0 + d.val; omega
  rw [e]
  pointwise [k0_pay9]

theorem piece10_1 (R : FVec II S512x2944 .f32) (x : S1x1x512x64.Idx) : (k0_pay11 (k0_pay10 R)) x = E10 R (r0_7.idx x) := by
  obtain ⟨r, d, rfl⟩ : ∃ (r : Fin 512) (d : Fin 64), x = ix4 0 0 r d := ⟨x 2, x 3, by blk_ext []⟩
  have e : E10 R (r0_7.idx (ix4 0 0 r d)) = (R (ix2 r ⟨64 + d.val, by omega⟩) : EReal) * Ideal.ofBits .f32 0x3E000000#32 := by
    unfold E10
    refine congrArg (fun i => (R i : EReal) * Ideal.ofBits .f32 0x3E000000#32) ?_
    refine funext fun a => Fin.ext ?_
    match a with
    | ⟨0, _⟩ => show 0 + 1 * r.val = r.val; omega
    | ⟨1, _⟩ => show 64 * (1 + 1 * 0) + (0 + 1 * d.val) = 64 + d.val; omega
  rw [e]
  pointwise [k0_pay11, k0_pay10]

theorem piece10_2 (R : FVec II S512x2944 .f32) (x : S1x1x512x64.Idx) : (k0_pay12 R) x = E10 R (r0_8.idx x) := by
  obtain ⟨r, d, rfl⟩ : ∃ (r : Fin 512) (d : Fin 64), x = ix4 0 0 r d := ⟨x 2, x 3, by blk_ext []⟩
  have e : E10 R (r0_8.idx (ix4 0 0 r d)) = (R (ix2 r ⟨128 + d.val, by omega⟩) : EReal) * Ideal.ofBits .f32 0x3E000000#32 := by
    unfold E10
    refine congrArg (fun i => (R i : EReal) * Ideal.ofBits .f32 0x3E000000#32) ?_
    refine funext fun a => Fin.ext ?_
    match a with
    | ⟨0, _⟩ => show 0 + 1 * r.val = r.val; omega
    | ⟨1, _⟩ => show 64 * (2 + 1 * 0) + (0 + 1 * d.val) = 128 + d.val; omega
  rw [e]
  pointwise [k0_pay12]

theorem piece10_3 (R : FVec II S512x2944 .f32) (x : S1x1x512x64.Idx) : (k0_pay13 R) x = E10 R (r0_9.idx x) := by
  obtain ⟨r, d, rfl⟩ : ∃ (r : Fin 512) (d : Fin 64), x = ix4 0 0 r d := ⟨x 2, x 3, by blk_ext []⟩
  have e : E10 R (r0_9.idx (ix4 0 0 r d)) = (R (ix2 r ⟨192 + d.val, by omega⟩) : EReal) * Ideal.ofBits .f32 0x3E000000#32 := by
    unfold E10
    refine congrArg (fun i => (R i : EReal) * Ideal.ofBits .f32 0x3E000000#32) ?_
    refine funext fun a => Fin.ext ?_
    match a with
    | ⟨0, _⟩ => show 0 + 1 * r.val = r.val; omega
    | ⟨1, _⟩ => show 64 * (3 + 1 * 0) + (0 + 1 * d.val) = 192 + d.val; omega
  rw [e]
  pointwise [k0_pay13]

theorem piece10_4 (R : FVec II S512x2944 .f32) (x : S1x1x512x64.Idx) : (k0_pay14 R) x = E10 R (r0_10.idx x) := by
  obtain ⟨r, d, rfl⟩ : ∃ (r : Fin 512) (d : Fin 64), x = ix4 0 0 r d := ⟨x 2, x 3, by blk_ext []⟩
  have e : E10 R (r0_10.idx (ix4 0 0 r d)) = (R (ix2 r ⟨256 + d.val, by omega⟩) : EReal) * Ideal.ofBits .f32 0x3E000000#32 := by
    unfold E10
    refine congrArg (fun i => (R i : EReal) * Ideal.ofBits .f32 0x3E000000#32) ?_
    refine funext fun a => Fin.ext ?_
    match a with
    | ⟨0, _⟩ => show 0 + 1 * r.val = r.val; omega
    | ⟨1, _⟩ => show 64 * (4 + 1 * 0) + (0 + 1 * d.val) = 256 + d.val; omega
  rw [e]
  pointwise [k0_pay14]

theorem piece10_5 (R : FVec II S512x2944 .f32) (x : S1x1x512x64.Idx) : (k0_pay15 R) x = E10 R (r0_11.idx x) := by
  obtain ⟨r, d, rfl⟩ : ∃ (r : Fin 512) (d : Fin 64), x = ix4 0 0 r d := ⟨x 2, x 3, by blk_ext []⟩
  have e : E10 R (r0_11.idx (ix4 0 0 r d)) = (R (ix2 r ⟨320 + d.val, by omega⟩) : EReal) * Ideal.ofBits .f32 0x3E000000#32 := by
    unfold E10
    refine congrArg (fun i => (R i : EReal) * Ideal.ofBits .f32 0x3E000000#32) ?_
    refine funext fun a => Fin.ext ?_
    match a with
    | ⟨0, _⟩ => show 0 + 1 * r.val = r.val; omega
    | ⟨1, _⟩ => show 64 * (5 + 1 * 0) + (0 + 1 * d.val) = 320 + d.val; omega
  rw [e]
  pointwise [k0_pay15]

theorem piece10_6 (R : FVec II S512x2944 .f32) (x : S1x1x512x64.Idx) : (k0_pay17 (k0_pay16 R) (Scalar.ofBits .f32 0x3E000000#32)) x = E10 R (r0_12.idx x) := by
  obtain ⟨r, d, rfl⟩ : ∃ (r : Fin 512) (d : Fin 64), x = ix4 0 0 r d := ⟨x 2, x 3, by blk_ext []⟩
  have e : E10 R (r0_12.idx (ix4 0 0 r d)) = (R (ix2 r ⟨384 + d.val, by omega⟩) : EReal) * Ideal.ofBits .f32 0x3E000000#32 := by
    unfold E10
    refine congrArg (fun i => (R i : EReal) * Ideal.ofBits .f32 0x3E000000#32) ?_
    refine funext fun a => Fin.ext ?_
    match a with
    | ⟨0, _⟩ => show 0 + 1 * r.val = r.val; omega
    | ⟨1, _⟩ => show 64 * (6 + 1 * 0) + (0 + 1 * d.val) = 384 + d.val; omega
  rw [e]
  pointwise [k0_pay17, k0_pay16]

theorem piece10_7 (R : FVec II S512x2944 .f32) (x : S1x1x512x64.Idx) : (k0_pay18 R) x = E10 R (r0_13.idx x) := by
  obtain ⟨r, d, rfl⟩ : ∃ (r : Fin 512) (d : Fin 64), x = ix4 0 0 r d := ⟨x 2, x 3, by blk_ext []⟩
  have e : E10 R (r0_13.idx (ix4 0 0 r d)) = (R (ix2 r ⟨448 + d.val, by omega⟩) : EReal) * Ideal.ofBits .f32 0x3E000000#32 := by
    unfold E10
    refine congrArg (fun i => (R i : EReal) * Ideal.ofBits .f32 0x3E000000#32) ?_
    refine funext fun a => Fin.ext ?_
    match a with
    | ⟨0, _⟩ => show 0 + 1 * r.val = r.val; omega
    | ⟨1, _⟩ => show 64 * (7 + 1 * 0) + (0 + 1 * d.val) = 448 + d.val; omega
  rw [e]
  pointwise [k0_pay18]

theorem canon10 (R : FVec II S512x2944 .f32) (y : S1x8x512x64.Idx) :
    View.canon ([⟨r0_13, k0_pay18 R⟩, ⟨r0_12, k0_pay17 (k0_pay16 R) (Scalar.ofBits .f32 0x3E000000#32)⟩, ⟨r0_11, k0_pay15 R⟩, ⟨r0_10, k0_pay14 R⟩,
      ⟨r0_9, k0_pay13 R⟩, ⟨r0_8, k0_pay12 R⟩, ⟨r0_7, k0_pay11 (k0_pay10 R)⟩, ⟨r0_6, k0_pay9 R⟩] : List (View.Piece (Elt II) S1x8x512x64 .bf16)) y = E10 R y := by
  refine View.canon_apply_of_pieces (E10 R) _ ?_ y (cover0_10 _ _ _ _ _ _ _ _ y)
  intro pc hpc
  rcases List.mem_cons.mp hpc with rfl | hpc
  · exact fun x => piece10_7 R x
  rcases List.mem_cons.mp hpc with rfl | hpc
  · exact fun x => piece10_6 R x
  rcases List.mem_cons.mp hpc with rfl | hpc
  · exact fun x => piece10_5 R x
  rcases List.mem_cons.mp hpc with rfl | hpc
  · exact fun x => piece10_4 R x
  rcases List.mem_cons.mp hpc with rfl | hpc
  · exact fun x => piece10_3 R x
  rcases List.mem_cons.mp hpc with rfl | hpc
  · exact fun x => piece10_2 R x
  rcases List.mem_cons.mp hpc with rfl | hpc
  · exact fun x => piece10_1 R x
  rcases List.mem_cons.mp hpc with rfl | hpc
  · exact fun x => piece10_0 R x
  nomatch hpc

/-- The logistic function as the body writes it. -/
theorem lg9 (v : II .f32) : (FloatOps.divf (Scalar.ofBits .f32 0x3F800000#32) (FloatOps.addf (Scalar.ofBits .f32 0x3F800000#32) (FloatOps.exp (FloatOps.subf (Scalar.ofBits .f32 0x00000000#32) v))) : II .f32) = lgs v := by
  unfold lgs
  pointwise []
  simp only [zero_sub]

/-! ## The result arrays after the run -/

theorem final5 (c : Dev nD) : (dats m 0 c).arrAt 5 cfg0.N = O0 (A0 m c) (A1 m c) (A2 m c) (A3 m c) (A4 m c) := by
  refine (dats m 0 c).arrAt_eq_of_covers 5 _ (by decide +kernel) fun t _ y => ?_
  blk_simp
  rw [after0_5]
  have ht : t.val < 128 := lt_of_lt_of_eq t.isLt N_0
  obtain ⟨r, j, rfl⟩ : ∃ (r : Fin 512) (j : Fin 256), y = ix3 0 r j := ⟨y 1, y 2, by blk_ext []⟩
  have h := PR_at m c t ⟨t.val / 16, by omega⟩ ⟨512 * (t.val % 16) + r.val, by omega⟩ r rfl rfl
  refine Eq.trans (b := O0 (A0 m c) (A1 m c) (A2 m c) (A3 m c) (A4 m c) (ix3 ⟨t.val / 16, by omega⟩ ⟨512 * (t.val % 16) + r.val, by omega⟩ j)) ?_ (congrArg _ (by blk_ext [idx t]))
  refine (Value.canon5_eq _ _ _ _ _ _).trans ?_
  have e : Value.ix5_0 (ix3 0 r j) = ix2 r ⟨512 + j.val, by omega⟩ := by
    funext a
    match a with
    | ⟨0, _⟩ => rfl
    | ⟨1, _⟩ => exact Fin.ext (by show j.val + 512 = 512 + j.val; omega)
  show (PR m c t (Value.ix5_0 (ix3 0 r j)) : EReal) = _
  rw [e]
  exact h ⟨512 + j.val, by omega⟩ (512 + j.val) (by unfold col; simp only []; split_ifs <;> omega)

theorem final6 (c : Dev nD) : (dats m 0 c).arrAt 6 cfg0.N = O1 (A0 m c) (A1 m c) (A2 m c) (A3 m c) (A4 m c) := by
  refine (dats m 0 c).arrAt_eq_of_covers 6 _ (by decide +kernel) fun t _ y => ?_
  blk_simp
  rw [after0_6]
  have ht : t.val < 128 := lt_of_lt_of_eq t.isLt N_0
  obtain ⟨r, j, rfl⟩ : ∃ (r : Fin 512) (j : Fin 256), y = ix3 0 r j := ⟨y 1, y 2, by blk_ext []⟩
  have h := PR_at m c t ⟨t.val / 16, by omega⟩ ⟨512 * (t.val % 16) + r.val, by omega⟩ r rfl rfl
  refine Eq.trans (b := O1 (A0 m c) (A1 m c) (A2 m c) (A3 m c) (A4 m c) (ix3 ⟨t.val / 16, by omega⟩ ⟨512 * (t.val % 16) + r.val, by omega⟩ j)) ?_ (congrArg _ (by blk_ext [idx t]))
  refine (Value.canon6_eq _ _ _ _ _ _).trans ?_
  have e : Value.ix6_0 (ix3 0 r j) = ix2 r ⟨768 + j.val, by omega⟩ := by
    funext a
    match a with
    | ⟨0, _⟩ => rfl
    | ⟨1, _⟩ => exact Fin.ext (by show j.val + 768 = 768 + j.val; omega)
  show (PR m c t (Value.ix6_0 (ix3 0 r j)) : EReal) = _
  rw [e]
  exact h ⟨768 + j.val, by omega⟩ (768 + j.val) (by unfold col; simp only []; split_ifs <;> omega)

theorem final7 (c : Dev nD) : (dats m 0 c).arrAt 7 cfg0.N = O2 (A0 m c) (A1 m c) (A2 m c) (A3 m c) (A4 m c) := by
  refine (dats m 0 c).arrAt_eq_of_covers 7 _ (by decide +kernel) fun t _ y => ?_
  blk_simp
  rw [after0_7]
  have ht : t.val < 128 := lt_of_lt_of_eq t.isLt N_0
  obtain ⟨r, j, rfl⟩ : ∃ (r : Fin 512) (j : Fin 256), y = ix3 0 r j := ⟨y 1, y 2, by blk_ext []⟩
  have h := PR_at m c t ⟨t.val / 16, by omega⟩ ⟨512 * (t.val % 16) + r.val, by omega⟩ r rfl rfl
  refine Eq.trans (b := O2 (A0 m c) (A1 m c) (A2 m c) (A3 m c) (A4 m c) (ix3 ⟨t.val / 16, by omega⟩ ⟨512 * (t.val % 16) + r.val, by omega⟩ j)) ?_ (congrArg _ (by blk_ext [idx t]))
  refine (Value.canon7_eq _ _ _ _ _ _).trans ?_
  have e : Value.ix7_0 (ix3 0 r j) = ix2 r ⟨1024 + j.val, by omega⟩ := by
    funext a
    match a with
    | ⟨0, _⟩ => rfl
    | ⟨1, _⟩ => exact Fin.ext (by show j.val + 1024 = 1024 + j.val; omega)
  show (PR m c t (Value.ix7_0 (ix3 0 r j)) : EReal) = _
  rw [e]
  exact h ⟨1024 + j.val, by omega⟩ (1024 + j.val) (by unfold col; simp only []; split_ifs <;> omega)

theorem final8 (c : Dev nD) : (dats m 0 c).arrAt 8 cfg0.N = O3 (A0 m c) (A1 m c) (A2 m c) (A3 m c) (A4 m c) := by
  refine (dats m 0 c).arrAt_eq_of_covers 8 _ (by decide +kernel) fun t _ y => ?_
  blk_simp
  rw [after0_8]
  have ht : t.val < 128 := lt_of_lt_of_eq t.isLt N_0
  obtain ⟨r, j, rfl⟩ : ∃ (r : Fin 512) (j : Fin 1024), y = ix3 0 r j := ⟨y 1, y 2, by blk_ext []⟩
  have h := PR_at m c t ⟨t.val / 16, by omega⟩ ⟨512 * (t.val % 16) + r.val, by omega⟩ r rfl rfl
  refine Eq.trans (b := O3 (A0 m c) (A1 m c) (A2 m c) (A3 m c) (A4 m c) (ix3 ⟨t.val / 16, by omega⟩ ⟨512 * (t.val % 16) + r.val, by omega⟩ j)) ?_ (congrArg _ (by blk_ext [idx t]))
  refine (Value.canon8_eq _ _ _ _ _ _).trans ?_
  have e : Value.ix8_0 (ix3 0 r j) = ix2 r ⟨1792 + j.val, by omega⟩ := by
    funext a
    match a with
    | ⟨0, _⟩ => rfl
    | ⟨1, _⟩ => exact Fin.ext (by show j.val + 1792 = 1792 + j.val; omega)
  show (PR m c t (Value.ix8_0 (ix3 0 r j)) : EReal) = _
  rw [e]
  exact h ⟨1792 + j.val, by omega⟩ (1816 + j.val) (by unfold col; simp only []; split_ifs <;> omega)

theorem final9 (c : Dev nD) : (dats m 0 c).arrAt 9 cfg0.N = O4 (A0 m c) (A1 m c) (A2 m c) (A3 m c) (A4 m c) := by
  refine (dats m 0 c).arrAt_eq_of_covers 9 _ (by decide +kernel) fun t _ y => ?_
  blk_simp
  rw [after0_9]
  have ht : t.val < 128 := lt_of_lt_of_eq t.isLt N_0
  obtain ⟨r, j, rfl⟩ : ∃ (r : Fin 512) (j : Fin 128), y = ix3 0 r j := ⟨y 1, y 2, by blk_ext []⟩
  have h := PR_at m c t ⟨t.val / 16, by omega⟩ ⟨512 * (t.val % 16) + r.val, by omega⟩ r rfl rfl
  refine Eq.trans (b := O4 (A0 m c) (A1 m c) (A2 m c) (A3 m c) (A4 m c) (ix3 ⟨t.val / 16, by omega⟩ ⟨512 * (t.val % 16) + r.val, by omega⟩ j)) ?_ (congrArg _ (by blk_ext [idx t]))
  refine (Value.canon9_eq _ _ _ _ _ _).trans ?_
  have e : Value.ix9_0 (ix3 0 r j) = ix2 r ⟨2816 + j.val, by omega⟩ := by
    funext a
    match a with
    | ⟨0, _⟩ => rfl
    | ⟨1, _⟩ => exact Fin.ext (by show j.val + 2816 = 2816 + j.val; omega)
  refine (lg9 (PR m c t (Value.ix9_0 (ix3 0 r j)))).trans ?_
  show _ = lgs _
  refine congrArg lgs ?_
  rw [e]
  by_cases hj : j.val < 24
  · refine (h ⟨2816 + j.val, by omega⟩ (1280 + j.val) (by unfold col; simp only []; split_ifs <;> omega)).trans ?_
    exact congrArg _ (if_pos hj).symm
  · refine (h ⟨2816 + j.val, by omega⟩ 2840 (by unfold col; simp only []; split_ifs <;> omega)).trans ?_
    exact congrArg _ (if_neg hj).symm

theorem final10 (c : Dev nD) : (dats m 0 c).arrAt 10 cfg0.N = O5 (A0 m c) (A1 m c) (A2 m c) (A3 m c) (A4 m c) := by
  refine (dats m 0 c).arrAt_eq_of_covers 10 _ (by decide +kernel) fun t _ y => ?_
  blk_simp
  rw [after0_10]
  have ht : t.val < 128 := lt_of_lt_of_eq t.isLt N_0
  obtain ⟨n, r, d, rfl⟩ : ∃ (n : Fin 8) (r : Fin 512) (d : Fin 64), y = ix4 0 n r d := ⟨y 1, y 2, y 3, by blk_ext []⟩
  have h := PR_at m c t ⟨t.val / 16, by omega⟩ ⟨512 * (t.val % 16) + r.val, by omega⟩ r rfl rfl
  refine Eq.trans (b := O5 (A0 m c) (A1 m c) (A2 m c) (A3 m c) (A4 m c) (ix4 ⟨t.val / 16, by omega⟩ n ⟨512 * (t.val % 16) + r.val, by omega⟩ d)) ?_ (congrArg _ (by blk_ext [idx t]))
  unfold out0_10
  refine (canon10 _ _).trans ?_
  exact congrArg (fun e : EReal => e * Ideal.ofBits .f32 0x3E000000#32) (h ⟨64 * n.val + d.val, by omega⟩ (64 * n.val + d.val) (by unfold col; simp only []; split_ifs <;> omega))

theorem final11 (c : Dev nD) : (dats m 0 c).arrAt 11 cfg0.N = O6 (A0 m c) (A1 m c) (A2 m c) (A3 m c) (A4 m c) := by
  refine (dats m 0 c).arrAt_eq_of_covers 11 _ (by decide +kernel) fun t _ y => ?_
  blk_simp
  rw [after0_11]
  have ht : t.val < 128 := lt_of_lt_of_eq t.isLt N_0
  obtain ⟨n, r, d, rfl⟩ : ∃ (n : Fin 8) (r : Fin 512) (d : Fin 64), y = ix4 0 n r d := ⟨y 1, y 2, y 3, by blk_ext []⟩
  have h := PR_at m c t ⟨t.val / 16, by omega⟩ ⟨512 * (t.val % 16) + r.val, by omega⟩ r rfl rfl
  refine Eq.trans (b := O6 (A0 m c) (A1 m c) (A2 m c) (A3 m c) (A4 m c) (ix4 ⟨t.val / 16, by omega⟩ n ⟨512 * (t.val % 16) + r.val, by omega⟩ d)) ?_ (congrArg _ (by blk_ext [idx t]))
  refine (Value.canon11_eq _ _ _ _ _ _).trans ?_
  have e : Value.ix11_0 (ix4 0 n r d) = ix2 r ⟨1280 + 64 * n.val + d.val, by omega⟩ := by
    funext a
    match a with
    | ⟨0, _⟩ => rfl
    | ⟨1, _⟩ => exact Fin.ext (by show n.val * 64 + d.val + 1280 = 1280 + 64 * n.val + d.val; omega)
  show (PR m c t (Value.ix11_0 (ix4 0 n r d)) : EReal) * Ideal.ofBits .f32 0x3E000000#32 = _
  rw [e]
  exact congrArg (fun e : EReal => e * Ideal.ofBits .f32 0x3E000000#32) (h ⟨1280 + 64 * n.val + d.val, by omega⟩ (1304 + 64 * n.val + d.val) (by unfold col; simp only []; split_ifs <;> omega))

theorem final12 (c : Dev nD) : (dats m 0 c).arrAt 12 cfg0.N = O7 (A0 m c) (A1 m c) (A2 m c) (A3 m c) (A4 m c) := by
  refine (dats m 0 c).arrAt_eq_of_covers 12 _ (by decide +kernel) fun t _ y => ?_
  blk_simp
  rw [after0_12]
  have ht : t.val < 128 := lt_of_lt_of_eq t.isLt N_0
  obtain ⟨n, r, d, rfl⟩ : ∃ (n : Fin 4) (r : Fin 512) (d : Fin 64), y = ix4 0 n r d := ⟨y 1, y 2, y 3, by blk_ext []⟩
  have h := PR_at m c t ⟨t.val / 16, by omega⟩ ⟨512 * (t.val % 16) + r.val, by omega⟩ r rfl rfl
  refine Eq.trans (b := O7 (A0 m c) (A1 m c) (A2 m c) (A3 m c) (A4 m c) (ix4 ⟨t.val / 16, by omega⟩ n ⟨512 * (t.val % 16) + r.val, by omega⟩ d)) ?_ (congrArg _ (by blk_ext [idx t]))
  refine (Value.canon12_eq _ _ _ _ _ _).trans ?_
  have e : Value.ix12_0 (ix4 0 n r d) = ix2 r ⟨768 + 64 * n.val + d.val, by omega⟩ := by
    funext a
    match a with
    | ⟨0, _⟩ => rfl
    | ⟨1, _⟩ => exact Fin.ext (by show n.val * 64 + d.val + 768 = 768 + 64 * n.val + d.val; omega)
  show (PR m c t (Value.ix12_0 (ix4 0 n r d)) : EReal) = _
  rw [e]
  exact h ⟨768 + 64 * n.val + d.val, by omega⟩ (768 + 64 * n.val + d.val) (by unfold col; simp only []; split_ifs <;> omega)

theorem final13 (c : Dev nD) : (dats m 0 c).arrAt 13 cfg0.N = O8 (A0 m c) (A1 m c) (A2 m c) (A3 m c) (A4 m c) := by
  refine (dats m 0 c).arrAt_eq_of_covers 13 _ (by decide +kernel) fun t _ y => ?_
  blk_simp
  rw [after0_13]
  have ht : t.val < 128 := lt_of_lt_of_eq t.isLt N_0
  obtain ⟨n, r, d, rfl⟩ : ∃ (n : Fin 4) (r : Fin 512) (d : Fin 64), y = ix4 0 n r d := ⟨y 1, y 2, y 3, by blk_ext []⟩
  have h := PR_at m c t ⟨t.val / 16, by omega⟩ ⟨512 * (t.val % 16) + r.val, by omega⟩ r rfl rfl
  refine Eq.trans (b := O8 (A0 m c) (A1 m c) (A2 m c) (A3 m c) (A4 m c) (ix4 ⟨t.val / 16, by omega⟩ n ⟨512 * (t.val % 16) + r.val, by omega⟩ d)) ?_ (congrArg _ (by blk_ext [idx t]))
  refine (Value.canon13_eq _ _ _ _ _ _).trans ?_
  have e : Value.ix13_0 (ix4 0 n r d) = ix2 r ⟨1024 + 64 * n.val + d.val, by omega⟩ := by
    funext a
    match a with
    | ⟨0, _⟩ => rfl
    | ⟨1, _⟩ => exact Fin.ext (by show n.val * 64 + d.val + 1024 = 1024 + 64 * n.val + d.val; omega)
  show (PR m c t (Value.ix13_0 (ix4 0 n r d)) : EReal) = _
  rw [e]
  exact h ⟨1024 + 64 * n.val + d.val, by omega⟩ (1024 + 64 * n.val + d.val) (by unfold col; simp only []; split_ifs <;> omega)

theorem final14 (c : Dev nD) : (dats m 0 c).arrAt 14 cfg0.N = O9 (A0 m c) (A1 m c) (A2 m c) (A3 m c) (A4 m c) := by
  refine (dats m 0 c).arrAt_eq_of_covers 14 _ (by decide +kernel) fun t _ y => ?_
  blk_simp
  rw [after0_14]
  have ht : t.val < 128 := lt_of_lt_of_eq t.isLt N_0
  obtain ⟨n, r, d, rfl⟩ : ∃ (n : Fin 16) (r : Fin 512) (d : Fin 64), y = ix4 0 n r d := ⟨y 1, y 2, y 3, by blk_ext []⟩
  have h := PR_at m c t ⟨t.val / 16, by omega⟩ ⟨512 * (t.val % 16) + r.val, by omega⟩ r rfl rfl
  refine Eq.trans (b := O9 (A0 m c) (A1 m c) (A2 m c) (A3 m c) (A4 m c) (ix4 ⟨t.val / 16, by omega⟩ n ⟨512 * (t.val % 16) + r.val, by omega⟩ d)) ?_ (congrArg _ (by blk_ext [idx t]))
  refine (Value.canon14_eq _ _ _ _ _ _).trans ?_
  have e : Value.ix14_0 (ix4 0 n r d) = ix2 r ⟨1792 + 64 * n.val + d.val, by omega⟩ := by
    funext a
    match a with
    | ⟨0, _⟩ => rfl
    | ⟨1, _⟩ => exact Fin.ext (by show n.val * 64 + d.val + 1792 = 1792 + 64 * n.val + d.val; omega)
  show (PR m c t (Value.ix14_0 (ix4 0 n r d)) : EReal) = _
  rw [e]
  exact h ⟨1792 + 64 * n.val + d.val, by omega⟩ (1816 + 64 * n.val + d.val) (by unfold col; simp only []; split_ifs <;> omega)

end Cert.ProjIdeal.PJ

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.SB.Run
public import proofs.«01_k».proof.Proof.SB.Ref
public import proofs.«01_k».proof.Proof.SBK.Run
public import proofs.«01_k».proof.Proof.Gen.OutFfn
public import proofs.«01_k».proof.Proof.Gen.OutFfnIdeal
public import proofs.«01_k».proof.Proof.Gen.OutFfnReferenceIdeal
public import proofs.«01_k».proof.Proof.Gen.OutFfnReferenceIdeal.Run
public import proofs.«01_k».proof.Proof.FFN.Run
public import proofs.«01_k».proof.Proof.FFN.Value
public import proofs.«01_k».proof.Proof.FFNK.Run
public import proofs.«01_k».proof.Proof.Gen.Proj.Frame
public import proofs.«01_k».proof.Proof.Gen.ProjIdeal.Frame
public import proofs.«01_k».proof.Proof.Gen.ProjIdeal.Value
public import proofs.«01_k».proof.Proof.PJ.Ref
public import proofs.«01_k».proof.Proof.PJ.Value
public import proofs.«01_k».proof.Proof.Gen.ProjReferenceIdeal.Run
public import Idealize.ShloMosaic.Adequacy
public import Idealize.ShloMosaic.Init

@[expose] public section

noncomputable section

namespace Cert.Proof

open Idealize.ShloMosaic Idealize.SL.Sem Cert.Kernel

/-- The reference's frame: it declares no counter, and no operation writes an argument. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The stick-breaking attention's value claim: both results are the weighted sum `Cert.KernelIdeal.SB.OUT` of the arguments. -/
theorem algebraic : Cert.algebraic_KernelIdeal_ReferenceIdeal := by
  intro m ρ m' ρ' _ hagree
  refine ⟨fun c => Cert.KernelIdeal.SB.OUT (m ((c.tc : Thread _ Cert.KernelIdeal.τ).loc Cert.KernelIdeal.main_arg0))
    (m ((c.tc : Thread _ Cert.KernelIdeal.τ).loc Cert.KernelIdeal.main_arg1)), ?_, ?_⟩
  · exact (θ_run Cert.KernelIdeal.defs _ _).mono (fun r h c => ⟨(h.1.out_eq c 4).trans (Cert.KernelIdeal.SB.final m c), h.2 c⟩)
      (θ_run_and (Cert.KernelIdeal.SB.run_main (F := Ideal) m ρ) (Cert.KernelIdeal.SB.unchanged (F := Ideal) m ρ))
  · refine (θ_run Cert.ReferenceIdeal.defs _ _).mono (fun r h c => ⟨(h c).1.trans ?_, (h c).2⟩)
      (Cert.ReferenceIdeal.Value.run (F := Ideal) m' ρ')
    rw [Cert.ReferenceIdeal.SB.res_eq, Cert.ReferenceIdeal.SB.RES_eq, (hagree c).1, (hagree c).2]

/-- The frame of the out_ffn call's reference. -/
theorem frame_r2 : Cert.quiescent_OutFfnReferenceIdeal := fun m ρ _ =>
  (θ_run Cert.OutFfnReferenceIdeal.defs _ _).mono (fun r h => ⟨fun c => (h c).2, sem_eq_zero_of_no_sems (by decide) r.2⟩)
    (Cert.OutFfnReferenceIdeal.Value.run (F := Ideal) m ρ)

/-- The out_ffn call's value claim: both results are the array `RES` of the arguments. -/
theorem algebraic2 : Cert.algebraic_OutFfnIdeal_OutFfnReferenceIdeal := by
  intro m ρ m' ρ' _ hagree
  refine ⟨fun c => Cert.OutFfnReferenceIdeal.FFN.RES (Cert.OutFfnIdeal.FFN.A0 m c) (Cert.OutFfnIdeal.FFN.A1 m c) (Cert.OutFfnIdeal.FFN.A2 m c) (Cert.OutFfnIdeal.FFN.A3 m c) (Cert.OutFfnIdeal.FFN.A5 m c) (Cert.OutFfnIdeal.FFN.A4 m c) (Cert.OutFfnIdeal.FFN.A6 m c) (Cert.OutFfnIdeal.FFN.A7 m c) (Cert.OutFfnIdeal.FFN.A8 m c) (Cert.OutFfnIdeal.FFN.A9 m c) (Cert.OutFfnIdeal.FFN.A10 m c) (Cert.OutFfnIdeal.FFN.A11 m c) (Cert.OutFfnIdeal.FFN.A12 m c) (Cert.OutFfnIdeal.FFN.A13 m c) (Cert.OutFfnIdeal.FFN.A17 m c) (Cert.OutFfnIdeal.FFN.A14 m c) (Cert.OutFfnIdeal.FFN.A15 m c) (Cert.OutFfnIdeal.FFN.A16 m c), ?_, ?_⟩
  · exact (θ_run Cert.OutFfnIdeal.defs _ _).mono (fun r h c => ⟨(h.1.out_eq c 19).trans (Cert.OutFfnIdeal.FFN.final m c), h.2 c⟩)
      (θ_run_and (Cert.OutFfnIdeal.FFN.run_main (F := Ideal) m ρ) (Cert.OutFfnIdeal.FFN.unchanged (F := Ideal) m ρ))
  · refine (θ_run Cert.OutFfnReferenceIdeal.defs _ _).mono (fun r h c => ⟨(h c).1.trans ?_, (h c).2⟩)
      (Cert.OutFfnReferenceIdeal.Value.run (F := Ideal) m' ρ')
    refine (Cert.OutFfnReferenceIdeal.FFN.res_eq _).trans ?_
    obtain ⟨e0, e1, e2, e3, e4, e5, e6, e7, e8, e9, e10, e11, e12, e13, e14, e15, e16, e17⟩ := hagree c
    show Cert.OutFfnReferenceIdeal.FFN.RES
      (m' ((c.tc : Thread Cert.OutFfnReferenceIdeal.nD Cert.OutFfnReferenceIdeal.τ).loc Cert.OutFfnReferenceIdeal.main_arg0))
      (m' ((c.tc : Thread Cert.OutFfnReferenceIdeal.nD Cert.OutFfnReferenceIdeal.τ).loc Cert.OutFfnReferenceIdeal.main_arg1))
      (m' ((c.tc : Thread Cert.OutFfnReferenceIdeal.nD Cert.OutFfnReferenceIdeal.τ).loc Cert.OutFfnReferenceIdeal.main_arg2))
      (m' ((c.tc : Thread Cert.OutFfnReferenceIdeal.nD Cert.OutFfnReferenceIdeal.τ).loc Cert.OutFfnReferenceIdeal.main_arg3))
      (m' ((c.tc : Thread Cert.OutFfnReferenceIdeal.nD Cert.OutFfnReferenceIdeal.τ).loc Cert.OutFfnReferenceIdeal.main_arg5))
      (m' ((c.tc : Thread Cert.OutFfnReferenceIdeal.nD Cert.OutFfnReferenceIdeal.τ).loc Cert.OutFfnReferenceIdeal.main_arg4))
      (m' ((c.tc : Thread Cert.OutFfnReferenceIdeal.nD Cert.OutFfnReferenceIdeal.τ).loc Cert.OutFfnReferenceIdeal.main_arg6))
      (m' ((c.tc : Thread Cert.OutFfnReferenceIdeal.nD Cert.OutFfnReferenceIdeal.τ).loc Cert.OutFfnReferenceIdeal.main_arg7))
      (m' ((c.tc : Thread Cert.OutFfnReferenceIdeal.nD Cert.OutFfnReferenceIdeal.τ).loc Cert.OutFfnReferenceIdeal.main_arg8))
      (m' ((c.tc : Thread Cert.OutFfnReferenceIdeal.nD Cert.OutFfnReferenceIdeal.τ).loc Cert.OutFfnReferenceIdeal.main_arg9))
      (m' ((c.tc : Thread Cert.OutFfnReferenceIdeal.nD Cert.OutFfnReferenceIdeal.τ).loc Cert.OutFfnReferenceIdeal.main_arg10))
      (m' ((c.tc : Thread Cert.OutFfnReferenceIdeal.nD Cert.OutFfnReferenceIdeal.τ).loc Cert.OutFfnReferenceIdeal.main_arg11))
      (m' ((c.tc : Thread Cert.OutFfnReferenceIdeal.nD Cert.OutFfnReferenceIdeal.τ).loc Cert.OutFfnReferenceIdeal.main_arg12))
      (m' ((c.tc : Thread Cert.OutFfnReferenceIdeal.nD Cert.OutFfnReferenceIdeal.τ).loc Cert.OutFfnReferenceIdeal.main_arg13))
      (m' ((c.tc : Thread Cert.OutFfnReferenceIdeal.nD Cert.OutFfnReferenceIdeal.τ).loc Cert.OutFfnReferenceIdeal.main_arg17))
      (m' ((c.tc : Thread Cert.OutFfnReferenceIdeal.nD Cert.OutFfnReferenceIdeal.τ).loc Cert.OutFfnReferenceIdeal.main_arg14))
      (m' ((c.tc : Thread Cert.OutFfnReferenceIdeal.nD Cert.OutFfnReferenceIdeal.τ).loc Cert.OutFfnReferenceIdeal.main_arg15))
      (m' ((c.tc : Thread Cert.OutFfnReferenceIdeal.nD Cert.OutFfnReferenceIdeal.τ).loc Cert.OutFfnReferenceIdeal.main_arg16)) = _
    rw [e0, e1, e2, e3, e4, e5, e6, e7, e8, e9, e10, e11, e12, e13, e14, e15, e16, e17]

/-- The frame of the proj call's reference. -/
theorem frame_r3 : Cert.quiescent_ProjReferenceIdeal := fun m ρ _ =>
  (θ_run Cert.ProjReferenceIdeal.defs _ _).mono (fun r h => ⟨fun c => (h c).2.2.2.2.2.2.2.2.2.2, sem_eq_zero_of_no_sems (by decide) r.2⟩)
    (Cert.ProjReferenceIdeal.Value.run (F := Ideal) m ρ)

/-- The proj call's value claim: the ten results of both are the arrays `O0`, …, `O9` of the arguments. -/
theorem algebraic3 : Cert.algebraic_ProjIdeal_ProjReferenceIdeal := by
  intro m ρ m' ρ' _ hagree
  refine ⟨fun c => Cert.ProjReferenceIdeal.PJ.O0 (Cert.ProjIdeal.PJ.A0 m c) (Cert.ProjIdeal.PJ.A1 m c) (Cert.ProjIdeal.PJ.A2 m c) (Cert.ProjIdeal.PJ.A3 m c) (Cert.ProjIdeal.PJ.A4 m c),
    fun c => Cert.ProjReferenceIdeal.PJ.O1 (Cert.ProjIdeal.PJ.A0 m c) (Cert.ProjIdeal.PJ.A1 m c) (Cert.ProjIdeal.PJ.A2 m c) (Cert.ProjIdeal.PJ.A3 m c) (Cert.ProjIdeal.PJ.A4 m c),
    fun c => Cert.ProjReferenceIdeal.PJ.O2 (Cert.ProjIdeal.PJ.A0 m c) (Cert.ProjIdeal.PJ.A1 m c) (Cert.ProjIdeal.PJ.A2 m c) (Cert.ProjIdeal.PJ.A3 m c) (Cert.ProjIdeal.PJ.A4 m c),
    fun c => Cert.ProjReferenceIdeal.PJ.O3 (Cert.ProjIdeal.PJ.A0 m c) (Cert.ProjIdeal.PJ.A1 m c) (Cert.ProjIdeal.PJ.A2 m c) (Cert.ProjIdeal.PJ.A3 m c) (Cert.ProjIdeal.PJ.A4 m c),
    fun c => Cert.ProjReferenceIdeal.PJ.O4 (Cert.ProjIdeal.PJ.A0 m c) (Cert.ProjIdeal.PJ.A1 m c) (Cert.ProjIdeal.PJ.A2 m c) (Cert.ProjIdeal.PJ.A3 m c) (Cert.ProjIdeal.PJ.A4 m c),
    fun c => Cert.ProjReferenceIdeal.PJ.O5 (Cert.ProjIdeal.PJ.A0 m c) (Cert.ProjIdeal.PJ.A1 m c) (Cert.ProjIdeal.PJ.A2 m c) (Cert.ProjIdeal.PJ.A3 m c) (Cert.ProjIdeal.PJ.A4 m c),
    fun c => Cert.ProjReferenceIdeal.PJ.O6 (Cert.ProjIdeal.PJ.A0 m c) (Cert.ProjIdeal.PJ.A1 m c) (Cert.ProjIdeal.PJ.A2 m c) (Cert.ProjIdeal.PJ.A3 m c) (Cert.ProjIdeal.PJ.A4 m c),
    fun c => Cert.ProjReferenceIdeal.PJ.O7 (Cert.ProjIdeal.PJ.A0 m c) (Cert.ProjIdeal.PJ.A1 m c) (Cert.ProjIdeal.PJ.A2 m c) (Cert.ProjIdeal.PJ.A3 m c) (Cert.ProjIdeal.PJ.A4 m c),
    fun c => Cert.ProjReferenceIdeal.PJ.O8 (Cert.ProjIdeal.PJ.A0 m c) (Cert.ProjIdeal.PJ.A1 m c) (Cert.ProjIdeal.PJ.A2 m c) (Cert.ProjIdeal.PJ.A3 m c) (Cert.ProjIdeal.PJ.A4 m c),
    fun c => Cert.ProjReferenceIdeal.PJ.O9 (Cert.ProjIdeal.PJ.A0 m c) (Cert.ProjIdeal.PJ.A1 m c) (Cert.ProjIdeal.PJ.A2 m c) (Cert.ProjIdeal.PJ.A3 m c) (Cert.ProjIdeal.PJ.A4 m c), ?_, ?_⟩
  · refine (θ_run Cert.ProjIdeal.defs _ _).mono (fun r h c => ?_) (Cert.ProjIdeal.Value.run_blocks (F := Ideal) m ρ)
    obtain ⟨k0, k1, k2, k3, k4, k5, k6, k7, k8, k9, ha⟩ := h c
    exact ⟨k0.trans (Cert.ProjIdeal.PJ.final5 m c),
        k1.trans (Cert.ProjIdeal.PJ.final6 m c),
        k2.trans (Cert.ProjIdeal.PJ.final7 m c),
        k3.trans (Cert.ProjIdeal.PJ.final8 m c),
        k4.trans (Cert.ProjIdeal.PJ.final9 m c),
        k5.trans (Cert.ProjIdeal.PJ.final10 m c),
        k6.trans (Cert.ProjIdeal.PJ.final11 m c),
        k7.trans (Cert.ProjIdeal.PJ.final12 m c),
        k8.trans (Cert.ProjIdeal.PJ.final13 m c),
        k9.trans (Cert.ProjIdeal.PJ.final14 m c), ha⟩
  · refine (θ_run Cert.ProjReferenceIdeal.defs _ _).mono (fun r h c => ?_) (Cert.ProjReferenceIdeal.Value.run (F := Ideal) m' ρ')
    obtain ⟨e0, e1, e2, e3, e4⟩ := hagree c
    obtain ⟨k0, k1, k2, k3, k4, k5, k6, k7, k8, k9, ha⟩ := h c
    have r0 : Cert.ProjReferenceIdeal.PJ.O0 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg4)) = Cert.ProjReferenceIdeal.PJ.O0 (Cert.ProjIdeal.PJ.A0 m c) (Cert.ProjIdeal.PJ.A1 m c) (Cert.ProjIdeal.PJ.A2 m c) (Cert.ProjIdeal.PJ.A3 m c) (Cert.ProjIdeal.PJ.A4 m c) := by
      rw [e0, e1, e2, e3, e4]
    have r1 : Cert.ProjReferenceIdeal.PJ.O1 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg4)) = Cert.ProjReferenceIdeal.PJ.O1 (Cert.ProjIdeal.PJ.A0 m c) (Cert.ProjIdeal.PJ.A1 m c) (Cert.ProjIdeal.PJ.A2 m c) (Cert.ProjIdeal.PJ.A3 m c) (Cert.ProjIdeal.PJ.A4 m c) := by
      rw [e0, e1, e2, e3, e4]
    have r2 : Cert.ProjReferenceIdeal.PJ.O2 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg4)) = Cert.ProjReferenceIdeal.PJ.O2 (Cert.ProjIdeal.PJ.A0 m c) (Cert.ProjIdeal.PJ.A1 m c) (Cert.ProjIdeal.PJ.A2 m c) (Cert.ProjIdeal.PJ.A3 m c) (Cert.ProjIdeal.PJ.A4 m c) := by
      rw [e0, e1, e2, e3, e4]
    have r3 : Cert.ProjReferenceIdeal.PJ.O3 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg4)) = Cert.ProjReferenceIdeal.PJ.O3 (Cert.ProjIdeal.PJ.A0 m c) (Cert.ProjIdeal.PJ.A1 m c) (Cert.ProjIdeal.PJ.A2 m c) (Cert.ProjIdeal.PJ.A3 m c) (Cert.ProjIdeal.PJ.A4 m c) := by
      rw [e0, e1, e2, e3, e4]
    have r4 : Cert.ProjReferenceIdeal.PJ.O4 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg4)) = Cert.ProjReferenceIdeal.PJ.O4 (Cert.ProjIdeal.PJ.A0 m c) (Cert.ProjIdeal.PJ.A1 m c) (Cert.ProjIdeal.PJ.A2 m c) (Cert.ProjIdeal.PJ.A3 m c) (Cert.ProjIdeal.PJ.A4 m c) := by
      rw [e0, e1, e2, e3, e4]
    have r5 : Cert.ProjReferenceIdeal.PJ.O5 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg4)) = Cert.ProjReferenceIdeal.PJ.O5 (Cert.ProjIdeal.PJ.A0 m c) (Cert.ProjIdeal.PJ.A1 m c) (Cert.ProjIdeal.PJ.A2 m c) (Cert.ProjIdeal.PJ.A3 m c) (Cert.ProjIdeal.PJ.A4 m c) := by
      rw [e0, e1, e2, e3, e4]
    have r6 : Cert.ProjReferenceIdeal.PJ.O6 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg4)) = Cert.ProjReferenceIdeal.PJ.O6 (Cert.ProjIdeal.PJ.A0 m c) (Cert.ProjIdeal.PJ.A1 m c) (Cert.ProjIdeal.PJ.A2 m c) (Cert.ProjIdeal.PJ.A3 m c) (Cert.ProjIdeal.PJ.A4 m c) := by
      rw [e0, e1, e2, e3, e4]
    have r7 : Cert.ProjReferenceIdeal.PJ.O7 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg4)) = Cert.ProjReferenceIdeal.PJ.O7 (Cert.ProjIdeal.PJ.A0 m c) (Cert.ProjIdeal.PJ.A1 m c) (Cert.ProjIdeal.PJ.A2 m c) (Cert.ProjIdeal.PJ.A3 m c) (Cert.ProjIdeal.PJ.A4 m c) := by
      rw [e0, e1, e2, e3, e4]
    have r8 : Cert.ProjReferenceIdeal.PJ.O8 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg4)) = Cert.ProjReferenceIdeal.PJ.O8 (Cert.ProjIdeal.PJ.A0 m c) (Cert.ProjIdeal.PJ.A1 m c) (Cert.ProjIdeal.PJ.A2 m c) (Cert.ProjIdeal.PJ.A3 m c) (Cert.ProjIdeal.PJ.A4 m c) := by
      rw [e0, e1, e2, e3, e4]
    have r9 : Cert.ProjReferenceIdeal.PJ.O9 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg4)) = Cert.ProjReferenceIdeal.PJ.O9 (Cert.ProjIdeal.PJ.A0 m c) (Cert.ProjIdeal.PJ.A1 m c) (Cert.ProjIdeal.PJ.A2 m c) (Cert.ProjIdeal.PJ.A3 m c) (Cert.ProjIdeal.PJ.A4 m c) := by
      rw [e0, e1, e2, e3, e4]
    exact ⟨k0.trans ((Cert.ProjReferenceIdeal.PJ.resO0 _ _ _ _ _).trans r0),
      k1.trans ((Cert.ProjReferenceIdeal.PJ.resO1 _ _ _ _ _).trans r1),
      k2.trans ((Cert.ProjReferenceIdeal.PJ.resO2 _ _ _ _ _).trans r2),
      k3.trans ((Cert.ProjReferenceIdeal.PJ.resO3 _ _ _ _ _).trans r3),
      k4.trans ((Cert.ProjReferenceIdeal.PJ.resO4 _ _ _ _ _).trans r4),
      k5.trans ((Cert.ProjReferenceIdeal.PJ.resO5 _ _ _ _ _).trans r5),
      k6.trans ((Cert.ProjReferenceIdeal.PJ.resO6 _ _ _ _ _).trans r6),
      k7.trans ((Cert.ProjReferenceIdeal.PJ.resO7 _ _ _ _ _).trans r7),
      k8.trans ((Cert.ProjReferenceIdeal.PJ.resO8 _ _ _ _ _).trans r8),
      k9.trans ((Cert.ProjReferenceIdeal.PJ.resO9 _ _ _ _ _).trans r9), ha⟩

theorem claim : Cert.Claim := ⟨Cert.Kernel.Gen.facts, Cert.KernelIdeal.Gen.facts, Cert.ReferenceIdeal.Gen.facts,
  Cert.OutFfn.Gen.facts, Cert.OutFfnIdeal.Gen.facts, Cert.OutFfnReferenceIdeal.Gen.facts,
  Cert.Proj.Gen.facts, Cert.ProjIdeal.Gen.facts, Cert.ProjReferenceIdeal.Gen.facts,
  fun m ρ _ => Cert.Kernel.SB.frame m ρ, fun m ρ _ => Cert.KernelIdeal.SB.frame m ρ, frame_r,
  fun m ρ _ => Cert.OutFfn.FFN.frame m ρ, fun m ρ _ => Cert.OutFfnIdeal.FFN.frame m ρ, frame_r2,
  fun m ρ _ => Cert.Proj.Gen.frame m ρ, fun m ρ _ => Cert.ProjIdeal.Gen.frame m ρ, frame_r3,
  IdealRules.named_const.statement _ _ _ _ _ rfl, algebraic, trivial, algebraic2, trivial, algebraic3⟩

end Cert.Proof

end
